-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v92_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v92_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123_4) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S4x64 : Shape := ⟨2, ![4, 64]⟩
abbrev S64 : Shape := ⟨1, ![64]⟩
abbrev S64x28 : Shape := ⟨2, ![64, 28]⟩
abbrev S28 : Shape := ⟨1, ![28]⟩
abbrev S_ : Shape := ⟨0, ![]⟩
abbrev S4 : Shape := ⟨1, ![4]⟩
abbrev S8 : Shape := ⟨1, ![8]⟩
abbrev S16 : Shape := ⟨1, ![16]⟩
abbrev S5000x64 : Shape := ⟨2, ![5000, 64]⟩
abbrev S1x64 : Shape := ⟨2, ![1, 64]⟩
abbrev S5000x28 : Shape := ⟨2, ![5000, 28]⟩
abbrev S1x28 : Shape := ⟨2, ![1, 28]⟩
abbrev S5000 : Shape := ⟨1, ![5000]⟩
abbrev S5000x1 : Shape := ⟨2, ![5000, 1]⟩
abbrev S5000x5000 : Shape := ⟨2, ![5000, 5000]⟩
abbrev S512x28 : Shape := ⟨2, ![512, 28]⟩
abbrev S512x5000 : Shape := ⟨2, ![512, 5000]⟩
abbrev S512x1 : Shape := ⟨2, ![512, 1]⟩
abbrev S512 : Shape := ⟨1, ![512]⟩
abbrev S1x5000 : Shape := ⟨2, ![1, 5000]⟩
abbrev S120 : Shape := ⟨1, ![120]⟩
abbrev S5120 : Shape := ⟨1, ![5120]⟩

abbrev nBuf : Table → Nat
  | .hbm => 264
  | .local .tc .vmem => 19
  | .local .scVector .vmem => 7
  | _ => 0

abbrev hbmTy0_0 (i : Nat) : BufTy := match i % 128 with
  | 0 => ⟨S5000x4, .f32⟩
  | 1 => ⟨S5000x4, .f32⟩
  | 2 => ⟨S4x64, .f32⟩
  | 3 => ⟨S64, .f32⟩
  | 4 => ⟨S64x28, .f32⟩
  | 5 => ⟨S28, .f32⟩
  | 6 => ⟨S4x64, .f32⟩
  | 7 => ⟨S64, .f32⟩
  | 8 => ⟨S64x28, .f32⟩
  | 9 => ⟨S28, .f32⟩
  | 10 => ⟨S_, .f32⟩
  | 11 => ⟨S4, .f32⟩
  | 12 => ⟨S_, .f32⟩
  | 13 => ⟨S8, .f32⟩
  | 14 => ⟨S_, .f32⟩
  | 15 => ⟨S16, .f32⟩
  | 16 => ⟨S28, .f32⟩
  | 17 => ⟨S5000x64, .f32⟩
  | 18 => ⟨S1x64, .f32⟩
  | 19 => ⟨S5000x64, .f32⟩
  | 20 => ⟨S5000x64, .f32⟩
  | 21 => ⟨S_, .f32⟩
  | 22 => ⟨S5000x64, .f32⟩
  | 23 => ⟨S5000x64, .f32⟩
  | 24 => ⟨S5000x28, .f32⟩
  | 25 => ⟨S1x28, .f32⟩
  | 26 => ⟨S5000x28, .f32⟩
  | 27 => ⟨S5000x28, .f32⟩
  | 28 => ⟨S_, .f32⟩
  | 29 => ⟨S_, .f32⟩
  | 30 => ⟨S5000x28, .f32⟩
  | 31 => ⟨S5000x28, .f32⟩
  | 32 => ⟨S_, .f32⟩
  | 33 => ⟨S5000x28, .f32⟩
  | 34 => ⟨S5000x28, .i1⟩
  | 35 => ⟨S_, .f32⟩
  | 36 => ⟨S5000x28, .f32⟩
  | 37 => ⟨S5000x28, .i1⟩
  | 38 => ⟨S_, .f32⟩
  | 39 => ⟨S_, .i1⟩
  | 40 => ⟨S5000x28, .i1⟩
  | 41 => ⟨S5000x28, .i1⟩
  | 42 => ⟨S5000x28, .i1⟩
  | 43 => ⟨S5000x28, .f32⟩
  | 44 => ⟨S5000x28, .f32⟩
  | 45 => ⟨S5000x28, .f32⟩
  | 46 => ⟨S5000x64, .f32⟩
  | 47 => ⟨S1x64, .f32⟩
  | 48 => ⟨S5000x64, .f32⟩
  | 49 => ⟨S5000x64, .f32⟩
  | 50 => ⟨S_, .f32⟩
  | 51 => ⟨S5000x64, .f32⟩
  | 52 => ⟨S5000x64, .f32⟩
  | 53 => ⟨S5000x28, .f32⟩
  | 54 => ⟨S1x28, .f32⟩
  | 55 => ⟨S5000x28, .f32⟩
  | 56 => ⟨S5000x28, .f32⟩
  | 57 => ⟨S_, .f32⟩
  | 58 => ⟨S_, .f32⟩
  | 59 => ⟨S5000x28, .f32⟩
  | 60 => ⟨S5000x28, .f32⟩
  | 61 => ⟨S_, .f32⟩
  | 62 => ⟨S5000x28, .f32⟩
  | 63 => ⟨S5000x28, .i1⟩
  | 64 => ⟨S_, .f32⟩
  | 65 => ⟨S5000x28, .f32⟩
  | 66 => ⟨S5000x28, .i1⟩
  | 67 => ⟨S_, .f32⟩
  | 68 => ⟨S_, .i1⟩
  | 69 => ⟨S5000x28, .i1⟩
  | 70 => ⟨S5000x28, .i1⟩
  | 71 => ⟨S5000x28, .i1⟩
  | 72 => ⟨S5000x28, .f32⟩
  | 73 => ⟨S5000x28, .f32⟩
  | 74 => ⟨S5000x28, .f32⟩
  | 75 => ⟨S_, .f32⟩
  | 76 => ⟨S28, .f32⟩
  | 77 => ⟨S28, .f32⟩
  | 78 => ⟨S_, .f32⟩
  | 79 => ⟨S28, .f32⟩
  | 80 => ⟨S28, .f32⟩
  | 81 => ⟨S1x28, .f32⟩
  | 82 => ⟨S5000x28, .f32⟩
  | 83 => ⟨S5000x28, .f32⟩
  | 84 => ⟨S_, .f32⟩
  | 85 => ⟨S_, .f32⟩
  | 86 => ⟨S5000x28, .f32⟩
  | 87 => ⟨S5000x28, .f32⟩
  | 88 => ⟨S_, .f32⟩
  | 89 => ⟨S5000x28, .f32⟩
  | 90 => ⟨S5000x28, .i1⟩
  | 91 => ⟨S_, .f32⟩
  | 92 => ⟨S5000x28, .f32⟩
  | 93 => ⟨S5000x28, .i1⟩
  | 94 => ⟨S_, .f32⟩
  | 95 => ⟨S_, .i1⟩
  | 96 => ⟨S5000x28, .i1⟩
  | 97 => ⟨S5000x28, .i1⟩
  | 98 => ⟨S5000x28, .i1⟩
  | 99 => ⟨S5000x28, .f32⟩
  | 100 => ⟨S5000x28, .f32⟩
  | 101 => ⟨S5000x28, .f32⟩
  | 102 => ⟨S_, .f32⟩
  | 103 => ⟨S28, .f32⟩
  | 104 => ⟨S28, .f32⟩
  | 105 => ⟨S_, .f32⟩
  | 106 => ⟨S28, .f32⟩
  | 107 => ⟨S28, .f32⟩
  | 108 => ⟨S1x28, .f32⟩
  | 109 => ⟨S5000x28, .f32⟩
  | 110 => ⟨S5000x28, .f32⟩
  | 111 => ⟨S_, .f32⟩
  | 112 => ⟨S_, .f32⟩
  | 113 => ⟨S5000x28, .f32⟩
  | 114 => ⟨S5000x28, .f32⟩
  | 115 => ⟨S_, .f32⟩
  | 116 => ⟨S5000x28, .f32⟩
  | 117 => ⟨S5000x28, .i1⟩
  | 118 => ⟨S_, .f32⟩
  | 119 => ⟨S5000x28, .f32⟩
  | 120 => ⟨S5000x28, .i1⟩
  | 121 => ⟨S_, .f32⟩
  | 122 => ⟨S_, .i1⟩
  | 123 => ⟨S5000x28, .i1⟩
  | 124 => ⟨S5000x28, .i1⟩
  | 125 => ⟨S5000x28, .i1⟩
  | 126 => ⟨S5000x28, .f32⟩
  | 127 => ⟨S5000x28, .f32⟩
  | _ => ⟨S5000x4, .f32⟩

abbrev hbmTy0_1 (i : Nat) : BufTy := match i % 128 with
  | 0 => ⟨S5000x28, .f32⟩
  | 1 => ⟨S_, .f32⟩
  | 2 => ⟨S28, .f32⟩
  | 3 => ⟨S28, .f32⟩
  | 4 => ⟨S_, .f32⟩
  | 5 => ⟨S28, .f32⟩
  | 6 => ⟨S28, .f32⟩
  | 7 => ⟨S1x28, .f32⟩
  | 8 => ⟨S5000x28, .f32⟩
  | 9 => ⟨S5000x28, .f32⟩
  | 10 => ⟨S_, .f32⟩
  | 11 => ⟨S_, .f32⟩
  | 12 => ⟨S5000x28, .f32⟩
  | 13 => ⟨S5000x28, .f32⟩
  | 14 => ⟨S_, .f32⟩
  | 15 => ⟨S5000x28, .f32⟩
  | 16 => ⟨S5000x28, .i1⟩
  | 17 => ⟨S_, .f32⟩
  | 18 => ⟨S5000x28, .f32⟩
  | 19 => ⟨S5000x28, .i1⟩
  | 20 => ⟨S_, .f32⟩
  | 21 => ⟨S_, .i1⟩
  | 22 => ⟨S5000x28, .i1⟩
  | 23 => ⟨S5000x28, .i1⟩
  | 24 => ⟨S5000x28, .i1⟩
  | 25 => ⟨S5000x28, .f32⟩
  | 26 => ⟨S5000x28, .f32⟩
  | 27 => ⟨S5000x28, .f32⟩
  | 28 => ⟨S_, .f32⟩
  | 29 => ⟨S28, .f32⟩
  | 30 => ⟨S28, .f32⟩
  | 31 => ⟨S_, .f32⟩
  | 32 => ⟨S28, .f32⟩
  | 33 => ⟨S28, .f32⟩
  | 34 => ⟨S1x28, .f32⟩
  | 35 => ⟨S5000x28, .f32⟩
  | 36 => ⟨S5000x28, .f32⟩
  | 37 => ⟨S_, .f32⟩
  | 38 => ⟨S_, .f32⟩
  | 39 => ⟨S5000x28, .f32⟩
  | 40 => ⟨S5000x28, .f32⟩
  | 41 => ⟨S_, .f32⟩
  | 42 => ⟨S5000x28, .f32⟩
  | 43 => ⟨S5000x28, .i1⟩
  | 44 => ⟨S_, .f32⟩
  | 45 => ⟨S5000x28, .f32⟩
  | 46 => ⟨S5000x28, .i1⟩
  | 47 => ⟨S_, .f32⟩
  | 48 => ⟨S_, .i1⟩
  | 49 => ⟨S5000x28, .i1⟩
  | 50 => ⟨S5000x28, .i1⟩
  | 51 => ⟨S5000x28, .i1⟩
  | 52 => ⟨S5000x28, .f32⟩
  | 53 => ⟨S5000x28, .f32⟩
  | 54 => ⟨S5000x28, .f32⟩
  | 55 => ⟨S_, .f32⟩
  | 56 => ⟨S28, .f32⟩
  | 57 => ⟨S28, .f32⟩
  | 58 => ⟨S_, .f32⟩
  | 59 => ⟨S28, .f32⟩
  | 60 => ⟨S28, .f32⟩
  | 61 => ⟨S1x28, .f32⟩
  | 62 => ⟨S5000x28, .f32⟩
  | 63 => ⟨S5000x28, .f32⟩
  | 64 => ⟨S_, .f32⟩
  | 65 => ⟨S_, .f32⟩
  | 66 => ⟨S5000x28, .f32⟩
  | 67 => ⟨S5000x28, .f32⟩
  | 68 => ⟨S_, .f32⟩
  | 69 => ⟨S5000x28, .f32⟩
  | 70 => ⟨S5000x28, .i1⟩
  | 71 => ⟨S_, .f32⟩
  | 72 => ⟨S5000x28, .f32⟩
  | 73 => ⟨S5000x28, .i1⟩
  | 74 => ⟨S_, .f32⟩
  | 75 => ⟨S_, .i1⟩
  | 76 => ⟨S5000x28, .i1⟩
  | 77 => ⟨S5000x28, .i1⟩
  | 78 => ⟨S5000x28, .i1⟩
  | 79 => ⟨S5000x28, .f32⟩
  | 80 => ⟨S5000x28, .f32⟩
  | 81 => ⟨S5000x28, .f32⟩
  | 82 => ⟨S5000x28, .f32⟩
  | 83 => ⟨S5000x28, .f32⟩
  | 84 => ⟨S5000x28, .f32⟩
  | 85 => ⟨S5000x28, .f32⟩
  | 86 => ⟨S5000x28, .f32⟩
  | 87 => ⟨S_, .f32⟩
  | 88 => ⟨S5000, .f32⟩
  | 89 => ⟨S5000x1, .f32⟩
  | 90 => ⟨S5000x1, .f32⟩
  | 91 => ⟨S_, .f32⟩
  | 92 => ⟨S5000x1, .f32⟩
  | 93 => ⟨S5000x1, .f32⟩
  | 94 => ⟨S5000x28, .f32⟩
  | 95 => ⟨S5000x28, .f32⟩
  | 96 => ⟨S5000x28, .f32⟩
  | 97 => ⟨S5000x28, .f32⟩
  | 98 => ⟨S5000x28, .f32⟩
  | 99 => ⟨S5000x28, .f32⟩
  | 100 => ⟨S5000x28, .f32⟩
  | 101 => ⟨S5000x28, .f32⟩
  | 102 => ⟨S5000x28, .f32⟩
  | 103 => ⟨S_, .f32⟩
  | 104 => ⟨S5000, .f32⟩
  | 105 => ⟨S5000x1, .f32⟩
  | 106 => ⟨S5000x1, .f32⟩
  | 107 => ⟨S_, .f32⟩
  | 108 => ⟨S5000x1, .f32⟩
  | 109 => ⟨S5000x1, .f32⟩
  | 110 => ⟨S5000x28, .f32⟩
  | 111 => ⟨S5000x28, .f32⟩
  | 112 => ⟨S5000x28, .f32⟩
  | 113 => ⟨S5000x28, .f32⟩
  | 114 => ⟨S5000x5000, .f32⟩
  | 115 => ⟨S5000x1, .f32⟩
  | 116 => ⟨S5000x1, .i32⟩
  | 117 => ⟨S1x5000, .f32⟩
  | 118 => ⟨S5000x1, .i32⟩
  | 119 => ⟨S5000x1, .i32⟩
  | 120 => ⟨S5000, .i32⟩
  | 121 => ⟨S120, .i32⟩
  | 122 => ⟨S_, .i32⟩
  | 123 => ⟨S120, .i32⟩
  | 124 => ⟨S120, .i32⟩
  | 125 => ⟨S5120, .i32⟩
  | 126 => ⟨S5000, .i32⟩
  | 127 => ⟨S_, .i32⟩
  | _ => ⟨S5000x4, .f32⟩

abbrev hbmTy0_2 (i : Nat) : BufTy := match i % 128 with
  | 0 => ⟨S120, .i32⟩
  | 1 => ⟨S5120, .i32⟩
  | 2 => ⟨S5000, .i32⟩
  | 3 => ⟨S_, .i32⟩
  | 4 => ⟨S120, .i32⟩
  | 5 => ⟨S5120, .i32⟩
  | 6 => ⟨S5120, .i32⟩
  | 7 => ⟨S5000, .i32⟩
  | _ => ⟨S5000x4, .f32⟩

abbrev hbmTy (i : Nat) : BufTy := match i / 128 with
  | 0 => hbmTy0_0 i
  | 1 => hbmTy0_1 i
  | 2 => hbmTy0_2 i
  | _ => ⟨S5000x4, .f32⟩

abbrev bufTy : (tb : Table) → Fin (nBuf tb) → BufTy
  | .hbm, ⟨i, _⟩ => hbmTy i
  | .local .tc .vmem, ⟨0, _⟩ => ⟨S512x28, .f32⟩
  | .local .tc .vmem, ⟨1, _⟩ => ⟨S512x28, .f32⟩
  | .local .tc .vmem, ⟨2, _⟩ => ⟨S512x28, .f32⟩
  | .local .tc .vmem, ⟨3, _⟩ => ⟨S512x28, .f32⟩
  | .local .tc .vmem, ⟨4, _⟩ => ⟨S5000x28, .f32⟩
  | .local .tc .vmem, ⟨5, _⟩ => ⟨S5000x28, .f32⟩
  | .local .tc .vmem, ⟨6, _⟩ => ⟨S512x5000, .f32⟩
  | .local .tc .vmem, ⟨7, _⟩ => ⟨S512x5000, .f32⟩
  | .local .tc .vmem, ⟨8, _⟩ => ⟨S512x1, .f32⟩
  | .local .tc .vmem, ⟨9, _⟩ => ⟨S512x1, .f32⟩
  | .local .tc .vmem, ⟨10, _⟩ => ⟨S512x1, .i32⟩
  | .local .tc .vmem, ⟨11, _⟩ => ⟨S512x1, .i32⟩
  | .local .tc .vmem, ⟨12, _⟩ => ⟨S512x1, .f32⟩
  | .local .tc .vmem, ⟨13, _⟩ => ⟨S512x1, .f32⟩
  | .local .tc .vmem, ⟨14, _⟩ => ⟨S1x5000, .f32⟩
  | .local .tc .vmem, ⟨15, _⟩ => ⟨S512x1, .i32⟩
  | .local .tc .vmem, ⟨16, _⟩ => ⟨S512x1, .i32⟩
  | .local .tc .vmem, ⟨17, _⟩ => ⟨S512x1, .i32⟩
  | .local .tc .vmem, ⟨18, _⟩ => ⟨S512x1, .i32⟩
  | .local .scVector .vmem, ⟨0, _⟩ => ⟨S5120, .i32⟩
  | .local .scVector .vmem, ⟨1, _⟩ => ⟨S5120, .i32⟩
  | .local .scVector .vmem, ⟨2, _⟩ => ⟨S5120, .i32⟩
  | .local .scVector .vmem, ⟨3, _⟩ => ⟨S5120, .i32⟩
  | .local .scVector .vmem, ⟨4, _⟩ => ⟨S5120, .i32⟩
  | .local .scVector .vmem, ⟨5, _⟩ => ⟨S5120, .i32⟩
  | .local .scVector .vmem, ⟨6, _⟩ => ⟨S16, .i32⟩
  | _, _ => ⟨S5000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call2_cst : Ref sig .tc := ⟨.hbm, 50, rfl⟩
abbrev main_call2_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_3 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_cst : Ref sig .tc := ⟨.hbm, 61, rfl⟩
abbrev main_call3_v3 : Ref sig .tc := ⟨.hbm, 62, rfl⟩
abbrev main_call3_v4 : Ref sig .tc := ⟨.hbm, 63, rfl⟩
abbrev main_call3_cst_0 : Ref sig .tc := ⟨.hbm, 64, rfl⟩
abbrev main_call3_v5 : Ref sig .tc := ⟨.hbm, 65, rfl⟩
abbrev main_call3_v6 : Ref sig .tc := ⟨.hbm, 66, rfl⟩
abbrev main_call3_cst_1 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_v12 : Ref sig .tc := ⟨.hbm, 73, rfl⟩
abbrev main_v23 : Ref sig .tc := ⟨.hbm, 74, rfl⟩
abbrev main_cst_4 : Ref sig .tc := ⟨.hbm, 75, rfl⟩
abbrev main_v24 : Ref sig .tc := ⟨.hbm, 76, rfl⟩
abbrev main_v25 : Ref sig .tc := ⟨.hbm, 77, rfl⟩
abbrev main_cst_5 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_6 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_cst : Ref sig .tc := ⟨.hbm, 88, rfl⟩
abbrev main_call4_v3 : Ref sig .tc := ⟨.hbm, 89, rfl⟩
abbrev main_call4_v4 : Ref sig .tc := ⟨.hbm, 90, rfl⟩
abbrev main_call4_cst_0 : Ref sig .tc := ⟨.hbm, 91, rfl⟩
abbrev main_call4_v5 : Ref sig .tc := ⟨.hbm, 92, rfl⟩
abbrev main_call4_v6 : Ref sig .tc := ⟨.hbm, 93, rfl⟩
abbrev main_call4_cst_1 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_v31 : Ref sig .tc := ⟨.hbm, 101, rfl⟩
abbrev main_cst_7 : Ref sig .tc := ⟨.hbm, 102, rfl⟩
abbrev main_v32 : Ref sig .tc := ⟨.hbm, 103, rfl⟩
abbrev main_v33 : Ref sig .tc := ⟨.hbm, 104, rfl⟩
abbrev main_cst_8 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_cst_9 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_cst : Ref sig .tc := ⟨.hbm, 115, rfl⟩
abbrev main_call5_v3 : Ref sig .tc := ⟨.hbm, 116, rfl⟩
abbrev main_call5_v4 : Ref sig .tc := ⟨.hbm, 117, rfl⟩
abbrev main_call5_cst_0 : Ref sig .tc := ⟨.hbm, 118, rfl⟩
abbrev main_call5_v5 : Ref sig .tc := ⟨.hbm, 119, rfl⟩
abbrev main_call5_v6 : Ref sig .tc := ⟨.hbm, 120, rfl⟩
abbrev main_call5_cst_1 : Ref sig .tc := ⟨.hbm, 121, rfl⟩
abbrev main_call5_v7 : Ref sig .tc := ⟨.hbm, 122, rfl⟩
abbrev main_call5_v8 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_v12 : Ref sig .tc := ⟨.hbm, 127, rfl⟩
abbrev main_v39 : Ref sig .tc := ⟨.hbm, 128, rfl⟩
abbrev main_cst_10 : Ref sig .tc := ⟨.hbm, 129, rfl⟩
abbrev main_v40 : Ref sig .tc := ⟨.hbm, 130, rfl⟩
abbrev main_v41 : Ref sig .tc := ⟨.hbm, 131, rfl⟩
abbrev main_cst_11 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_cst_12 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_cst : Ref sig .tc := ⟨.hbm, 142, rfl⟩
abbrev main_call6_v3 : Ref sig .tc := ⟨.hbm, 143, rfl⟩
abbrev main_call6_v4 : Ref sig .tc := ⟨.hbm, 144, rfl⟩
abbrev main_call6_cst_0 : Ref sig .tc := ⟨.hbm, 145, rfl⟩
abbrev main_call6_v5 : Ref sig .tc := ⟨.hbm, 146, rfl⟩
abbrev main_call6_v6 : Ref sig .tc := ⟨.hbm, 147, rfl⟩
abbrev main_call6_cst_1 : Ref sig .tc := ⟨.hbm, 148, rfl⟩
abbrev main_call6_v7 : Ref sig .tc := ⟨.hbm, 149, rfl⟩
abbrev main_call6_v8 : Ref sig .tc := ⟨.hbm, 150, rfl⟩
abbrev main_call6_v9 : Ref sig .tc := ⟨.hbm, 151, rfl⟩
abbrev main_call6_v10 : Ref sig .tc := ⟨.hbm, 152, rfl⟩
abbrev main_call6_v11 : Ref sig .tc := ⟨.hbm, 153, rfl⟩
abbrev main_call6_v12 : Ref sig .tc := ⟨.hbm, 154, rfl⟩
abbrev main_v47 : Ref sig .tc := ⟨.hbm, 155, rfl⟩
abbrev main_cst_13 : Ref sig .tc := ⟨.hbm, 156, rfl⟩
abbrev main_v48 : Ref sig .tc := ⟨.hbm, 157, rfl⟩
abbrev main_v49 : Ref sig .tc := ⟨.hbm, 158, rfl⟩
abbrev main_cst_14 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_15 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_cst : Ref sig .tc := ⟨.hbm, 169, rfl⟩
abbrev main_call7_v3 : Ref sig .tc := ⟨.hbm, 170, rfl⟩
abbrev main_call7_v4 : Ref sig .tc := ⟨.hbm, 171, rfl⟩
abbrev main_call7_cst_0 : Ref sig .tc := ⟨.hbm, 172, rfl⟩
abbrev main_call7_v5 : Ref sig .tc := ⟨.hbm, 173, rfl⟩
abbrev main_call7_v6 : Ref sig .tc := ⟨.hbm, 174, rfl⟩
abbrev main_call7_cst_1 : Ref sig .tc := ⟨.hbm, 175, rfl⟩
abbrev main_call7_v7 : Ref sig .tc := ⟨.hbm, 176, rfl⟩
abbrev main_call7_v8 : Ref sig .tc := ⟨.hbm, 177, rfl⟩
abbrev main_call7_v9 : Ref sig .tc := ⟨.hbm, 178, rfl⟩
abbrev main_call7_v10 : Ref sig .tc := ⟨.hbm, 179, rfl⟩
abbrev main_call7_v11 : Ref sig .tc := ⟨.hbm, 180, rfl⟩
abbrev main_call7_v12 : Ref sig .tc := ⟨.hbm, 181, rfl⟩
abbrev main_v55 : Ref sig .tc := ⟨.hbm, 182, rfl⟩
abbrev main_cst_16 : Ref sig .tc := ⟨.hbm, 183, rfl⟩
abbrev main_v56 : Ref sig .tc := ⟨.hbm, 184, rfl⟩
abbrev main_v57 : Ref sig .tc := ⟨.hbm, 185, rfl⟩
abbrev main_cst_17 : Ref sig .tc := ⟨.hbm, 186, rfl⟩
abbrev main_v58 : Ref sig .tc := ⟨.hbm, 187, rfl⟩
abbrev main_v59 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_cst_18 : Ref sig .tc := ⟨.hbm, 192, rfl⟩
abbrev main_call8_v0 : Ref sig .tc := ⟨.hbm, 193, rfl⟩
abbrev main_call8_v1 : Ref sig .tc := ⟨.hbm, 194, rfl⟩
abbrev main_call8_v2 : Ref sig .tc := ⟨.hbm, 195, rfl⟩
abbrev main_call8_cst : Ref sig .tc := ⟨.hbm, 196, rfl⟩
abbrev main_call8_v3 : Ref sig .tc := ⟨.hbm, 197, rfl⟩
abbrev main_call8_v4 : Ref sig .tc := ⟨.hbm, 198, rfl⟩
abbrev main_call8_cst_0 : Ref sig .tc := ⟨.hbm, 199, rfl⟩
abbrev main_call8_v5 : Ref sig .tc := ⟨.hbm, 200, rfl⟩
abbrev main_call8_v6 : Ref sig .tc := ⟨.hbm, 201, rfl⟩
abbrev main_call8_cst_1 : Ref sig .tc := ⟨.hbm, 202, rfl⟩
abbrev main_call8_v7 : Ref sig .tc := ⟨.hbm, 203, rfl⟩
abbrev main_call8_v8 : Ref sig .tc := ⟨.hbm, 204, rfl⟩
abbrev main_call8_v9 : Ref sig .tc := ⟨.hbm, 205, rfl⟩
abbrev main_call8_v10 : Ref sig .tc := ⟨.hbm, 206, rfl⟩
abbrev main_call8_v11 : Ref sig .tc := ⟨.hbm, 207, rfl⟩
abbrev main_call8_v12 : Ref sig .tc := ⟨.hbm, 208, rfl⟩
abbrev main_v63 : Ref sig .tc := ⟨.hbm, 209, rfl⟩
abbrev main_v64 : Ref sig .tc := ⟨.hbm, 210, rfl⟩
abbrev main_v65 : Ref sig .tc := ⟨.hbm, 211, rfl⟩
abbrev main_v66 : Ref sig .tc := ⟨.hbm, 212, rfl⟩
abbrev main_v67 : Ref sig .tc := ⟨.hbm, 213, rfl⟩
abbrev main_v68 : Ref sig .tc := ⟨.hbm, 214, rfl⟩
abbrev main_cst_19 : Ref sig .tc := ⟨.hbm, 215, rfl⟩
abbrev main_v69 : Ref sig .tc := ⟨.hbm, 216, rfl⟩
abbrev main_v70 : Ref sig .tc := ⟨.hbm, 217, rfl⟩
abbrev main_v71 : Ref sig .tc := ⟨.hbm, 218, rfl⟩
abbrev main_cst_20 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_cst_21 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_cst_22 : Ref sig .tc := ⟨.hbm, 235, rfl⟩
abbrev main_v86 : Ref sig .tc := ⟨.hbm, 236, rfl⟩
abbrev main_v87 : Ref sig .tc := ⟨.hbm, 237, rfl⟩
abbrev main_v88 : Ref sig .tc := ⟨.hbm, 238, rfl⟩
abbrev main_v89 : Ref sig .tc := ⟨.hbm, 239, rfl⟩
abbrev main_v90 : Ref sig .tc := ⟨.hbm, 240, rfl⟩
abbrev main_v91 : Ref sig .tc := ⟨.hbm, 241, rfl⟩
abbrev main_v92_0 : Ref sig .tc := ⟨.hbm, 242, rfl⟩
abbrev main_v92_1 : Ref sig .tc := ⟨.hbm, 243, rfl⟩
abbrev main_v92_2 : Ref sig .tc := ⟨.hbm, 244, rfl⟩
abbrev main_v93 : Ref sig .tc := ⟨.hbm, 245, rfl⟩
abbrev main_v94_0 : Ref sig .tc := ⟨.hbm, 246, rfl⟩
abbrev main_v94_1 : Ref sig .tc := ⟨.hbm, 247, rfl⟩
abbrev main_v95 : Ref sig .tc := ⟨.hbm, 248, rfl⟩
abbrev main_v96 : Ref sig .tc := ⟨.hbm, 249, rfl⟩
abbrev main_c : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_c_23 : Ref sig .tc := ⟨.hbm, 255, rfl⟩
abbrev main_v101 : Ref sig .tc := ⟨.hbm, 256, rfl⟩
abbrev main_v102 : Ref sig .tc := ⟨.hbm, 257, rfl⟩
abbrev main_v103 : Ref sig .tc := ⟨.hbm, 258, rfl⟩
abbrev main_c_24 : Ref sig .tc := ⟨.hbm, 259, rfl⟩
abbrev main_v104 : Ref sig .tc := ⟨.hbm, 260, rfl⟩
abbrev main_v105 : Ref sig .tc := ⟨.hbm, 261, rfl⟩
abbrev main_v106 : Ref sig .tc := ⟨.hbm, 262, rfl⟩
abbrev main_v107 : Ref sig .tc := ⟨.hbm, 263, rfl⟩
abbrev main_v99_scv : Ref sig .scVector := ⟨.hbm, 253, rfl⟩
abbrev main_v102_scv : Ref sig .scVector := ⟨.hbm, 257, rfl⟩
abbrev main_v105_scv : Ref sig .scVector := ⟨.hbm, 261, rfl⟩
abbrev main_v106_scv : Ref sig .scVector := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5000x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5000x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x5000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k2_t1_loop : Scf.Loop 32 :=
  let c0_i32_3 : BitVec 32 := 0#32
  let c320_i32 : BitVec 32 := 320#32
  let v7 : BitVec 32 := Scalar.addi c0_i32_3 c320_i32
  let c1_i32_4 : BitVec 32 := 1#32
  ⟨c0_i32_3, v7, c1_i32_4⟩
def k2_off1 (k2_t1 : Fin k2_t1_loop.trips) : Fin 1 → Nat :=
  let c0_i32_3 : BitVec 32 := 0#32
  let c1_i32_4 : BitVec 32 := 1#32
  let arg13 : BitVec 32 := Scf.iv c0_i32_3 c1_i32_4 k2_t1
  let c16_i32 : BitVec 32 := 16#32
  let v9 : BitVec 32 := Scalar.muli arg13 c16_i32
  let v10 : Index := Scalar.indexCast v9
  ![v10.toNat]

def k2_chk1 (i : grid2.Coords) (v11 : IVec S16 32) : Prop :=
  (∀ (k2_h1 : k2_cond1 i = 1#1), ∀ a x, ((![v11] : Fin 1 → IVec S16 32) a x).toNat < S5120.size a)
theorem k2_idx1_inb : ∀ (i : grid2.Coords) (v11 : IVec S16 32) (k2_hw1 : k2_chk1 i v11), ∀ (k2_h1 : k2_cond1 i = 1#1), ∀ a x, ((![v11] : Fin 1 → IVec S16 32) a x).toNat < S5120.size a := fun i v11 k2_hw1 k2_h1 => k2_hw1 k2_h1
def k2_off2 (k2_t1 : Fin k2_t1_loop.trips) : Fin 1 → Nat :=
  let c0_i32_3 : BitVec 32 := 0#32
  let c1_i32_4 : BitVec 32 := 1#32
  let arg13 : BitVec 32 := Scf.iv c0_i32_3 c1_i32_4 k2_t1
  let c16_i32 : BitVec 32 := 16#32
  let v9 : BitVec 32 := Scalar.muli arg13 c16_i32
  let v15 : Index := Scalar.indexCast v9
  ![v15.toNat]
@[reducible] def k2_t2_loop : Scf.Loop 32 :=
  let c0_i32_7 : BitVec 32 := 0#32
  let c320_i32_8 : BitVec 32 := 320#32
  let v8 : BitVec 32 := Scalar.addi c0_i32_7 c320_i32_8
  let c1_i32_9 : BitVec 32 := 1#32
  ⟨c0_i32_7, v8, c1_i32_9⟩
def k2_off3 (k2_t2 : Fin k2_t2_loop.trips) : Fin 1 → Nat :=
  let c0_i32_7 : BitVec 32 := 0#32
  let c1_i32_9 : BitVec 32 := 1#32
  let arg13 : BitVec 32 := Scf.iv c0_i32_7 c1_i32_9 k2_t2
  let c16_i32 : BitVec 32 := 16#32
  let v9 : BitVec 32 := Scalar.muli arg13 c16_i32
  let v10 : Index := Scalar.indexCast v9
  ![v10.toNat]

def k2_chk4 (i : grid2.Coords) (v20 : IVec S16 32) : Prop :=
  (∀ (k2_h1 : k2_cond1 i = 1#1), ∀ a x, ((![v20] : Fin 1 → IVec S16 32) a x).toNat < S16.size a)
theorem k2_idx5_inb : ∀ (i : grid2.Coords) (v20 : IVec S16 32) (k2_hw4 : k2_chk4 i v20), ∀ (k2_h1 : k2_cond1 i = 1#1), ∀ a x, ((![v20] : Fin 1 → IVec S16 32) a x).toNat < S16.size a := fun i v20 k2_hw4 k2_h1 => k2_hw4 k2_h1

def k2_chk5 (i : grid2.Coords) (v30 : IVec S16 32) : Prop :=
  (∀ (k2_h1 : k2_cond1 i = 1#1), ∀ a x, ((![v30] : Fin 1 → IVec S16 32) a x).toNat < S16.size a)
theorem k2_idx6_inb : ∀ (i : grid2.Coords) (v30 : IVec S16 32) (k2_hw5 : k2_chk5 i v30), ∀ (k2_h1 : k2_cond1 i = 1#1), ∀ a x, ((![v30] : Fin 1 → IVec S16 32) a x).toNat < S16.size a := fun i v30 k2_hw5 k2_h1 => k2_hw5 k2_h1

def k2_chk6 (i : grid2.Coords) (v40 : IVec S16 32) : Prop :=
  (∀ (k2_h1 : k2_cond1 i = 1#1), ∀ a x, ((![v40] : Fin 1 → IVec S16 32) a x).toNat < S16.size a)
theorem k2_idx7_inb : ∀ (i : grid2.Coords) (v40 : IVec S16 32) (k2_hw6 : k2_chk6 i v40), ∀ (k2_h1 : k2_cond1 i = 1#1), ∀ a x, ((![v40] : Fin 1 → IVec S16 32) a x).toNat < S16.size a := fun i v40 k2_hw6 k2_h1 => k2_hw6 k2_h1

def k2_chk7 (i : grid2.Coords) (v50 : IVec S16 32) : Prop :=
  (∀ (k2_h1 : k2_cond1 i = 1#1), ∀ a x, ((![v50] : Fin 1 → IVec S16 32) a x).toNat < S16.size a)
theorem k2_idx8_inb : ∀ (i : grid2.Coords) (v50 : IVec S16 32) (k2_hw7 : k2_chk7 i v50), ∀ (k2_h1 : k2_cond1 i = 1#1), ∀ a x, ((![v50] : Fin 1 → IVec S16 32) a x).toNat < S16.size a := fun i v50 k2_hw7 k2_h1 => k2_hw7 k2_h1

def k2_chk8 (i : grid2.Coords) (v60 : IVec S16 32) : Prop :=
  (∀ (k2_h1 : k2_cond1 i = 1#1), ∀ a x, ((![v60] : Fin 1 → IVec S16 32) a x).toNat < S16.size a)
theorem k2_idx9_inb : ∀ (i : grid2.Coords) (v60 : IVec S16 32) (k2_hw8 : k2_chk8 i v60), ∀ (k2_h1 : k2_cond1 i = 1#1), ∀ a x, ((![v60] : Fin 1 → IVec S16 32) a x).toNat < S16.size a := fun i v60 k2_hw8 k2_h1 => k2_hw8 k2_h1

def k2_chk9 (i : grid2.Coords) (v70 : IVec S16 32) : Prop :=
  (∀ (k2_h1 : k2_cond1 i = 1#1), ∀ a x, ((![v70] : Fin 1 → IVec S16 32) a x).toNat < S16.size a)
theorem k2_idx10_inb : ∀ (i : grid2.Coords) (v70 : IVec S16 32) (k2_hw9 : k2_chk9 i v70), ∀ (k2_h1 : k2_cond1 i = 1#1), ∀ a x, ((![v70] : Fin 1 → IVec S16 32) a x).toNat < S16.size a := fun i v70 k2_hw9 k2_h1 => k2_hw9 k2_h1

def k2_chk10 (i : grid2.Coords) (v80 : IVec S16 32) : Prop :=
  (∀ (k2_h1 : k2_cond1 i = 1#1), ∀ a x, ((![v80] : Fin 1 → IVec S16 32) a x).toNat < S16.size a)
theorem k2_idx11_inb : ∀ (i : grid2.Coords) (v80 : IVec S16 32) (k2_hw10 : k2_chk10 i v80), ∀ (k2_h1 : k2_cond1 i = 1#1), ∀ a x, ((![v80] : Fin 1 → IVec S16 32) a x).toNat < S16.size a := fun i v80 k2_hw10 k2_h1 => k2_hw10 k2_h1

def k2_chk11 (i : grid2.Coords) (v90 : IVec S16 32) : Prop :=
  (∀ (k2_h1 : k2_cond1 i = 1#1), ∀ a x, ((![v90] : Fin 1 → IVec S16 32) a x).toNat < S16.size a)
theorem k2_idx12_inb : ∀ (i : grid2.Coords) (v90 : IVec S16 32) (k2_hw11 : k2_chk11 i v90), ∀ (k2_h1 : k2_cond1 i = 1#1), ∀ a x, ((![v90] : Fin 1 → IVec S16 32) a x).toNat < S16.size a := fun i v90 k2_hw11 k2_h1 => k2_hw11 k2_h1

def k2_chk12 (i : grid2.Coords) (v100 : IVec S16 32) : Prop :=
  (∀ (k2_h1 : k2_cond1 i = 1#1), ∀ a x, ((![v100] : Fin 1 → IVec S16 32) a x).toNat < S16.size a)
theorem k2_idx13_inb : ∀ (i : grid2.Coords) (v100 : IVec S16 32) (k2_hw12 : k2_chk12 i v100), ∀ (k2_h1 : k2_cond1 i = 1#1), ∀ a x, ((![v100] : Fin 1 → IVec S16 32) a x).toNat < S16.size a := fun i v100 k2_hw12 k2_h1 => k2_hw12 k2_h1

def k2_chk13 (i : grid2.Coords) (v110 : IVec S16 32) : Prop :=
  (∀ (k2_h1 : k2_cond1 i = 1#1), ∀ a x, ((![v110] : Fin 1 → IVec S16 32) a x).toNat < S16.size a)
theorem k2_idx14_inb : ∀ (i : grid2.Coords) (v110 : IVec S16 32) (k2_hw13 : k2_chk13 i v110), ∀ (k2_h1 : k2_cond1 i = 1#1), ∀ a x, ((![v110] : Fin 1 → IVec S16 32) a x).toNat < S16.size a := fun i v110 k2_hw13 k2_h1 => k2_hw13 k2_h1

def k2_chk14 (i : grid2.Coords) (v120 : IVec S16 32) : Prop :=
  (∀ (k2_h1 : k2_cond1 i = 1#1), ∀ a x, ((![v120] : Fin 1 → IVec S16 32) a x).toNat < S16.size a)
theorem k2_idx15_inb : ∀ (i : grid2.Coords) (v120 : IVec S16 32) (k2_hw14 : k2_chk14 i v120), ∀ (k2_h1 : k2_cond1 i = 1#1), ∀ a x, ((![v120] : Fin 1 → IVec S16 32) a x).toNat < S16.size a := fun i v120 k2_hw14 k2_h1 => k2_hw14 k2_h1

def k2_chk15 (i : grid2.Coords) (v130 : IVec S16 32) : Prop :=
  (∀ (k2_h1 : k2_cond1 i = 1#1), ∀ a x, ((![v130] : Fin 1 → IVec S16 32) a x).toNat < S16.size a)
theorem k2_idx16_inb : ∀ (i : grid2.Coords) (v130 : IVec S16 32) (k2_hw15 : k2_chk15 i v130), ∀ (k2_h1 : k2_cond1 i = 1#1), ∀ a x, ((![v130] : Fin 1 → IVec S16 32) a x).toNat < S16.size a := fun i v130 k2_hw15 k2_h1 => k2_hw15 k2_h1

def k2_chk16 (i : grid2.Coords) (v140 : IVec S16 32) : Prop :=
  (∀ (k2_h1 : k2_cond1 i = 1#1), ∀ a x, ((![v140] : Fin 1 → IVec S16 32) a x).toNat < S16.size a)
theorem k2_idx17_inb : ∀ (i : grid2.Coords) (v140 : IVec S16 32) (k2_hw16 : k2_chk16 i v140), ∀ (k2_h1 : k2_cond1 i = 1#1), ∀ a x, ((![v140] : Fin 1 → IVec S16 32) a x).toNat < S16.size a := fun i v140 k2_hw16 k2_h1 => k2_hw16 k2_h1

def k2_chk17 (i : grid2.Coords) (v150 : IVec S16 32) : Prop :=
  (∀ (k2_h1 : k2_cond1 i = 1#1), ∀ a x, ((![v150] : Fin 1 → IVec S16 32) a x).toNat < S16.size a)
theorem k2_idx18_inb : ∀ (i : grid2.Coords) (v150 : IVec S16 32) (k2_hw17 : k2_chk17 i v150), ∀ (k2_h1 : k2_cond1 i = 1#1), ∀ a x, ((![v150] : Fin 1 → IVec S16 32) a x).toNat < S16.size a := fun i v150 k2_hw17 k2_h1 => k2_hw17 k2_h1

def k2_chk18 (i : grid2.Coords) (v160 : IVec S16 32) : Prop :=
  (∀ (k2_h1 : k2_cond1 i = 1#1), ∀ a x, ((![v160] : Fin 1 → IVec S16 32) a x).toNat < S16.size a)
theorem k2_idx19_inb : ∀ (i : grid2.Coords) (v160 : IVec S16 32) (k2_hw18 : k2_chk18 i v160), ∀ (k2_h1 : k2_cond1 i = 1#1), ∀ a x, ((![v160] : Fin 1 → IVec S16 32) a x).toNat < S16.size a := fun i v160 k2_hw18 k2_h1 => k2_hw18 k2_h1

def k2_chk3 (i : grid2.Coords) (v12 : IVec S16 32) : Prop :=
  (∀ (k2_h1 : k2_cond1 i = 1#1), ∀ a x, ((![v12] : Fin 1 → IVec S16 32) a x).toNat < S5120.size a) ∧
  (∀ (k2_h1 : k2_cond1 i = 1#1), ∀ a x, ((![v12] : Fin 1 → IVec S16 32) a x).toNat < S5120.size a)
theorem k2_idx4_inb : ∀ (i : grid2.Coords) (v12 : IVec S16 32) (k2_hw3 : k2_chk3 i v12), ∀ (k2_h1 : k2_cond1 i = 1#1), ∀ a x, ((![v12] : Fin 1 → IVec S16 32) a x).toNat < S5120.size a := fun i v12 k2_hw3 k2_h1 => k2_hw3.1 k2_h1
theorem k2_idx20_inb : ∀ (i : grid2.Coords) (v12 : IVec S16 32) (k2_hw3 : k2_chk3 i v12), ∀ (k2_h1 : k2_cond1 i = 1#1), ∀ a x, ((![v12] : Fin 1 → IVec S16 32) a x).toNat < S5120.size a := fun i v12 k2_hw3 k2_h1 => k2_hw3.2 k2_h1

def k2_chk2 (i : grid2.Coords) (v11 : IVec S16 32) : Prop :=
  (∀ (k2_h1 : k2_cond1 i = 1#1), ∀ a x, ((![v11] : Fin 1 → IVec S16 32) a x).toNat < S5120.size a) ∧
  (∀ (k2_h1 : k2_cond1 i = 1#1), ∀ a x, ((![v11] : Fin 1 → IVec S16 32) a x).toNat < S5120.size a) ∧
  (∀ (k2_h1 : k2_cond1 i = 1#1), ∀ a x, ((![v11] : Fin 1 → IVec S16 32) a x).toNat < S5120.size a)
theorem k2_idx2_inb : ∀ (i : grid2.Coords) (v11 : IVec S16 32) (k2_hw2 : k2_chk2 i v11), ∀ (k2_h1 : k2_cond1 i = 1#1), ∀ a x, ((![v11] : Fin 1 → IVec S16 32) a x).toNat < S5120.size a := fun i v11 k2_hw2 k2_h1 => k2_hw2.1 k2_h1
theorem k2_idx3_inb : ∀ (i : grid2.Coords) (v11 : IVec S16 32) (k2_hw2 : k2_chk2 i v11), ∀ (k2_h1 : k2_cond1 i = 1#1), ∀ a x, ((![v11] : Fin 1 → IVec S16 32) a x).toNat < S5120.size a := fun i v11 k2_hw2 k2_h1 => k2_hw2.2.1 k2_h1
theorem k2_idx21_inb : ∀ (i : grid2.Coords) (v11 : IVec S16 32) (k2_hw2 : k2_chk2 i v11), ∀ (k2_h1 : k2_cond1 i = 1#1), ∀ a x, ((![v11] : Fin 1 → IVec S16 32) a x).toNat < S5120.size a := fun i v11 k2_hw2 k2_h1 => k2_hw2.2.2 k2_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5000x4 : Shape := ⟨2, ![5000, 4]⟩
abbrev S4x64 : Shape := ⟨2, ![4, 64]⟩
abbrev S64 : Shape := ⟨1, ![64]⟩
abbrev S64x28 : Shape := ⟨2, ![64, 28]⟩
abbrev S28 : Shape := ⟨1, ![28]⟩
abbrev S_ : Shape := ⟨0, ![]⟩
abbrev S4 : Shape := ⟨1, ![4]⟩
abbrev S8 : Shape := ⟨1, ![8]⟩
abbrev S16 : Shape := ⟨1, ![16]⟩
abbrev S5000x64 : Shape := ⟨2, ![5000, 64]⟩
abbrev S1x64 : Shape := ⟨2, ![1, 64]⟩
abbrev S5000x28 : Shape := ⟨2, ![5000, 28]⟩
abbrev S1x28 : Shape := ⟨2, ![1, 28]⟩
abbrev S5000 : Shape := ⟨1, ![5000]⟩
abbrev S5000x1 : Shape := ⟨2, ![5000, 1]⟩
abbrev S28x5000 : Shape := ⟨2, ![28, 5000]⟩
abbrev S5000x5000 : Shape := ⟨2, ![5000, 5000]⟩
abbrev S1 : Shape := ⟨1, ![1]⟩

abbrev nBuf : Space → Nat
  | .hbm => 380
  | .vmem => 0
  | .smem => 0
  | _ => 0

abbrev hbmTy0_0 (i : Nat) : BufTy := match i % 128 with
  | 0 => ⟨S5000x4, .f32⟩
  | 1 => ⟨S5000x4, .f32⟩
  | 2 => ⟨S4x64, .f32⟩
  | 3 => ⟨S64, .f32⟩
  | 4 => ⟨S64x28, .f32⟩
  | 5 => ⟨S28, .f32⟩
  | 6 => ⟨S4x64, .f32⟩
  | 7 => ⟨S64, .f32⟩
  | 8 => ⟨S64x28, .f32⟩
  | 9 => ⟨S28, .f32⟩
  | 10 => ⟨S_, .f32⟩
  | 11 => ⟨S4, .f32⟩
  | 12 => ⟨S_, .f32⟩
  | 13 => ⟨S8, .f32⟩
  | 14 => ⟨S_, .f32⟩
  | 15 => ⟨S16, .f32⟩
  | 16 => ⟨S28, .f32⟩
  | 17 => ⟨S5000x64, .f32⟩
  | 18 => ⟨S1x64, .f32⟩
  | 19 => ⟨S5000x64, .f32⟩
  | 20 => ⟨S5000x64, .f32⟩
  | 21 => ⟨S_, .f32⟩
  | 22 => ⟨S5000x64, .f32⟩
  | 23 => ⟨S5000x64, .f32⟩
  | 24 => ⟨S5000x28, .f32⟩
  | 25 => ⟨S1x28, .f32⟩
  | 26 => ⟨S5000x28, .f32⟩
  | 27 => ⟨S5000x28, .f32⟩
  | 28 => ⟨S_, .f32⟩
  | 29 => ⟨S_, .f32⟩
  | 30 => ⟨S5000x28, .f32⟩
  | 31 => ⟨S5000x28, .f32⟩
  | 32 => ⟨S_, .f32⟩
  | 33 => ⟨S5000x28, .f32⟩
  | 34 => ⟨S5000x28, .i1⟩
  | 35 => ⟨S_, .f32⟩
  | 36 => ⟨S5000x28, .f32⟩
  | 37 => ⟨S5000x28, .i1⟩
  | 38 => ⟨S_, .f32⟩
  | 39 => ⟨S_, .i1⟩
  | 40 => ⟨S5000x28, .i1⟩
  | 41 => ⟨S5000x28, .i1⟩
  | 42 => ⟨S5000x28, .i1⟩
  | 43 => ⟨S5000x28, .f32⟩
  | 44 => ⟨S5000x28, .f32⟩
  | 45 => ⟨S5000x28, .f32⟩
  | 46 => ⟨S5000x64, .f32⟩
  | 47 => ⟨S1x64, .f32⟩
  | 48 => ⟨S5000x64, .f32⟩
  | 49 => ⟨S5000x64, .f32⟩
  | 50 => ⟨S_, .f32⟩
  | 51 => ⟨S5000x64, .f32⟩
  | 52 => ⟨S5000x64, .f32⟩
  | 53 => ⟨S5000x28, .f32⟩
  | 54 => ⟨S1x28, .f32⟩
  | 55 => ⟨S5000x28, .f32⟩
  | 56 => ⟨S5000x28, .f32⟩
  | 57 => ⟨S_, .f32⟩
  | 58 => ⟨S5000x28, .f32⟩
  | 59 => ⟨S5000x28, .f32⟩
  | 60 => ⟨S5000x28, .f32⟩
  | 61 => ⟨S5000x28, .f32⟩
  | 62 => ⟨S5000x28, .i1⟩
  | 63 => ⟨S5000x28, .f32⟩
  | 64 => ⟨S5000x28, .f32⟩
  | 65 => ⟨S5000x28, .f32⟩
  | 66 => ⟨S5000x28, .f32⟩
  | 67 => ⟨S5000x28, .f32⟩
  | 68 => ⟨S5000x28, .f32⟩
  | 69 => ⟨S5000x28, .f32⟩
  | 70 => ⟨S5000x28, .f32⟩
  | 71 => ⟨S5000x64, .f32⟩
  | 72 => ⟨S1x64, .f32⟩
  | 73 => ⟨S5000x64, .f32⟩
  | 74 => ⟨S5000x64, .f32⟩
  | 75 => ⟨S_, .f32⟩
  | 76 => ⟨S5000x64, .f32⟩
  | 77 => ⟨S5000x64, .f32⟩
  | 78 => ⟨S5000x28, .f32⟩
  | 79 => ⟨S1x28, .f32⟩
  | 80 => ⟨S5000x28, .f32⟩
  | 81 => ⟨S5000x28, .f32⟩
  | 82 => ⟨S_, .f32⟩
  | 83 => ⟨S_, .f32⟩
  | 84 => ⟨S5000x28, .f32⟩
  | 85 => ⟨S5000x28, .f32⟩
  | 86 => ⟨S_, .f32⟩
  | 87 => ⟨S5000x28, .f32⟩
  | 88 => ⟨S5000x28, .i1⟩
  | 89 => ⟨S_, .f32⟩
  | 90 => ⟨S5000x28, .f32⟩
  | 91 => ⟨S5000x28, .i1⟩
  | 92 => ⟨S_, .f32⟩
  | 93 => ⟨S_, .i1⟩
  | 94 => ⟨S5000x28, .i1⟩
  | 95 => ⟨S5000x28, .i1⟩
  | 96 => ⟨S5000x28, .i1⟩
  | 97 => ⟨S5000x28, .f32⟩
  | 98 => ⟨S5000x28, .f32⟩
  | 99 => ⟨S5000x28, .f32⟩
  | 100 => ⟨S5000x64, .f32⟩
  | 101 => ⟨S1x64, .f32⟩
  | 102 => ⟨S5000x64, .f32⟩
  | 103 => ⟨S5000x64, .f32⟩
  | 104 => ⟨S_, .f32⟩
  | 105 => ⟨S5000x64, .f32⟩
  | 106 => ⟨S5000x64, .f32⟩
  | 107 => ⟨S5000x28, .f32⟩
  | 108 => ⟨S1x28, .f32⟩
  | 109 => ⟨S5000x28, .f32⟩
  | 110 => ⟨S5000x28, .f32⟩
  | 111 => ⟨S_, .f32⟩
  | 112 => ⟨S5000x28, .f32⟩
  | 113 => ⟨S5000x28, .f32⟩
  | 114 => ⟨S5000x28, .f32⟩
  | 115 => ⟨S5000x28, .f32⟩
  | 116 => ⟨S5000x28, .i1⟩
  | 117 => ⟨S5000x28, .f32⟩
  | 118 => ⟨S5000x28, .f32⟩
  | 119 => ⟨S5000x28, .f32⟩
  | 120 => ⟨S5000x28, .f32⟩
  | 121 => ⟨S5000x28, .f32⟩
  | 122 => ⟨S5000x28, .f32⟩
  | 123 => ⟨S5000x28, .f32⟩
  | 124 => ⟨S5000x28, .f32⟩
  | 125 => ⟨S_, .f32⟩
  | 126 => ⟨S28, .f32⟩
  | 127 => ⟨S28, .f32⟩
  | _ => ⟨S5000x4, .f32⟩

abbrev hbmTy0_1 (i : Nat) : BufTy := match i % 128 with
  | 0 => ⟨S_, .f32⟩
  | 1 => ⟨S28, .f32⟩
  | 2 => ⟨S28, .f32⟩
  | 3 => ⟨S1x28, .f32⟩
  | 4 => ⟨S5000x28, .f32⟩
  | 5 => ⟨S5000x28, .f32⟩
  | 6 => ⟨S_, .f32⟩
  | 7 => ⟨S_, .f32⟩
  | 8 => ⟨S5000x28, .f32⟩
  | 9 => ⟨S5000x28, .f32⟩
  | 10 => ⟨S_, .f32⟩
  | 11 => ⟨S5000x28, .f32⟩
  | 12 => ⟨S5000x28, .i1⟩
  | 13 => ⟨S_, .f32⟩
  | 14 => ⟨S5000x28, .f32⟩
  | 15 => ⟨S5000x28, .i1⟩
  | 16 => ⟨S_, .f32⟩
  | 17 => ⟨S_, .i1⟩
  | 18 => ⟨S5000x28, .i1⟩
  | 19 => ⟨S5000x28, .i1⟩
  | 20 => ⟨S5000x28, .i1⟩
  | 21 => ⟨S5000x28, .f32⟩
  | 22 => ⟨S5000x28, .f32⟩
  | 23 => ⟨S5000x28, .f32⟩
  | 24 => ⟨S_, .f32⟩
  | 25 => ⟨S28, .f32⟩
  | 26 => ⟨S28, .f32⟩
  | 27 => ⟨S_, .f32⟩
  | 28 => ⟨S28, .f32⟩
  | 29 => ⟨S28, .f32⟩
  | 30 => ⟨S1x28, .f32⟩
  | 31 => ⟨S5000x28, .f32⟩
  | 32 => ⟨S5000x28, .f32⟩
  | 33 => ⟨S_, .f32⟩
  | 34 => ⟨S_, .f32⟩
  | 35 => ⟨S5000x28, .f32⟩
  | 36 => ⟨S5000x28, .f32⟩
  | 37 => ⟨S_, .f32⟩
  | 38 => ⟨S5000x28, .f32⟩
  | 39 => ⟨S5000x28, .i1⟩
  | 40 => ⟨S_, .f32⟩
  | 41 => ⟨S5000x28, .f32⟩
  | 42 => ⟨S5000x28, .i1⟩
  | 43 => ⟨S_, .f32⟩
  | 44 => ⟨S_, .i1⟩
  | 45 => ⟨S5000x28, .i1⟩
  | 46 => ⟨S5000x28, .i1⟩
  | 47 => ⟨S5000x28, .i1⟩
  | 48 => ⟨S5000x28, .f32⟩
  | 49 => ⟨S5000x28, .f32⟩
  | 50 => ⟨S5000x28, .f32⟩
  | 51 => ⟨S_, .f32⟩
  | 52 => ⟨S28, .f32⟩
  | 53 => ⟨S28, .f32⟩
  | 54 => ⟨S_, .f32⟩
  | 55 => ⟨S28, .f32⟩
  | 56 => ⟨S28, .f32⟩
  | 57 => ⟨S1x28, .f32⟩
  | 58 => ⟨S5000x28, .f32⟩
  | 59 => ⟨S5000x28, .f32⟩
  | 60 => ⟨S_, .f32⟩
  | 61 => ⟨S_, .f32⟩
  | 62 => ⟨S5000x28, .f32⟩
  | 63 => ⟨S5000x28, .f32⟩
  | 64 => ⟨S_, .f32⟩
  | 65 => ⟨S5000x28, .f32⟩
  | 66 => ⟨S5000x28, .i1⟩
  | 67 => ⟨S_, .f32⟩
  | 68 => ⟨S5000x28, .f32⟩
  | 69 => ⟨S5000x28, .i1⟩
  | 70 => ⟨S_, .f32⟩
  | 71 => ⟨S_, .i1⟩
  | 72 => ⟨S5000x28, .i1⟩
  | 73 => ⟨S5000x28, .i1⟩
  | 74 => ⟨S5000x28, .i1⟩
  | 75 => ⟨S5000x28, .f32⟩
  | 76 => ⟨S5000x28, .f32⟩
  | 77 => ⟨S5000x28, .f32⟩
  | 78 => ⟨S_, .f32⟩
  | 79 => ⟨S28, .f32⟩
  | 80 => ⟨S28, .f32⟩
  | 81 => ⟨S_, .f32⟩
  | 82 => ⟨S28, .f32⟩
  | 83 => ⟨S28, .f32⟩
  | 84 => ⟨S1x28, .f32⟩
  | 85 => ⟨S5000x28, .f32⟩
  | 86 => ⟨S5000x28, .f32⟩
  | 87 => ⟨S_, .f32⟩
  | 88 => ⟨S_, .f32⟩
  | 89 => ⟨S5000x28, .f32⟩
  | 90 => ⟨S5000x28, .f32⟩
  | 91 => ⟨S_, .f32⟩
  | 92 => ⟨S5000x28, .f32⟩
  | 93 => ⟨S5000x28, .i1⟩
  | 94 => ⟨S_, .f32⟩
  | 95 => ⟨S5000x28, .f32⟩
  | 96 => ⟨S5000x28, .i1⟩
  | 97 => ⟨S_, .f32⟩
  | 98 => ⟨S_, .i1⟩
  | 99 => ⟨S5000x28, .i1⟩
  | 100 => ⟨S5000x28, .i1⟩
  | 101 => ⟨S5000x28, .i1⟩
  | 102 => ⟨S5000x28, .f32⟩
  | 103 => ⟨S5000x28, .f32⟩
  | 104 => ⟨S5000x28, .f32⟩
  | 105 => ⟨S_, .f32⟩
  | 106 => ⟨S28, .f32⟩
  | 107 => ⟨S28, .f32⟩
  | 108 => ⟨S_, .f32⟩
  | 109 => ⟨S28, .f32⟩
  | 110 => ⟨S28, .f32⟩
  | 111 => ⟨S1x28, .f32⟩
  | 112 => ⟨S5000x28, .f32⟩
  | 113 => ⟨S5000x28, .f32⟩
  | 114 => ⟨S_, .f32⟩
  | 115 => ⟨S_, .f32⟩
  | 116 => ⟨S5000x28, .f32⟩
  | 117 => ⟨S5000x28, .f32⟩
  | 118 => ⟨S_, .f32⟩
  | 119 => ⟨S5000x28, .f32⟩
  | 120 => ⟨S5000x28, .i1⟩
  | 121 => ⟨S_, .f32⟩
  | 122 => ⟨S5000x28, .f32⟩
  | 123 => ⟨S5000x28, .i1⟩
  | 124 => ⟨S_, .f32⟩
  | 125 => ⟨S_, .i1⟩
  | 126 => ⟨S5000x28, .i1⟩
  | 127 => ⟨S5000x28, .i1⟩
  | _ => ⟨S5000x4, .f32⟩

abbrev hbmTy0_2 (i : Nat) : BufTy := match i % 128 with
  | 0 => ⟨S5000x28, .i1⟩
  | 1 => ⟨S5000x28, .f32⟩
  | 2 => ⟨S5000x28, .f32⟩
  | 3 => ⟨S5000x28, .f32⟩
  | 4 => ⟨S5000x28, .f32⟩
  | 5 => ⟨S5000x28, .f32⟩
  | 6 => ⟨S5000x28, .f32⟩
  | 7 => ⟨S5000x28, .f32⟩
  | 8 => ⟨S5000x28, .f32⟩
  | 9 => ⟨S_, .f32⟩
  | 10 => ⟨S5000, .f32⟩
  | 11 => ⟨S5000x1, .f32⟩
  | 12 => ⟨S5000x1, .f32⟩
  | 13 => ⟨S_, .f32⟩
  | 14 => ⟨S5000x1, .f32⟩
  | 15 => ⟨S5000x1, .f32⟩
  | 16 => ⟨S5000x28, .f32⟩
  | 17 => ⟨S5000x28, .f32⟩
  | 18 => ⟨S5000x28, .f32⟩
  | 19 => ⟨S5000x28, .f32⟩
  | 20 => ⟨S5000x28, .f32⟩
  | 21 => ⟨S5000x28, .f32⟩
  | 22 => ⟨S5000x28, .f32⟩
  | 23 => ⟨S5000x28, .f32⟩
  | 24 => ⟨S5000x28, .f32⟩
  | 25 => ⟨S_, .f32⟩
  | 26 => ⟨S5000, .f32⟩
  | 27 => ⟨S5000x1, .f32⟩
  | 28 => ⟨S5000x1, .f32⟩
  | 29 => ⟨S_, .f32⟩
  | 30 => ⟨S5000x1, .f32⟩
  | 31 => ⟨S5000x1, .f32⟩
  | 32 => ⟨S5000x28, .f32⟩
  | 33 => ⟨S5000x28, .f32⟩
  | 34 => ⟨S5000x28, .f32⟩
  | 35 => ⟨S5000x28, .f32⟩
  | 36 => ⟨S28x5000, .f32⟩
  | 37 => ⟨S5000x5000, .f32⟩
  | 38 => ⟨S28x5000, .f32⟩
  | 39 => ⟨S5000x5000, .f32⟩
  | 40 => ⟨S5000x5000, .f32⟩
  | 41 => ⟨S_, .f32⟩
  | 42 => ⟨S5000, .f32⟩
  | 43 => ⟨S5000x5000, .i32⟩
  | 44 => ⟨S_, .f32⟩
  | 45 => ⟨S_, .i32⟩
  | 46 => ⟨S5000, .f32⟩
  | 47 => ⟨S5000, .i32⟩
  | 48 => ⟨S5000, .f32⟩
  | 49 => ⟨S5000, .i32⟩
  | 50 => ⟨S5000, .f32⟩
  | 51 => ⟨S5000, .i32⟩
  | 52 => ⟨S_, .i32⟩
  | 53 => ⟨S5000, .i32⟩
  | 54 => ⟨S_, .i1⟩
  | 55 => ⟨S5000, .i1⟩
  | 56 => ⟨S_, .i32⟩
  | 57 => ⟨S5000, .i32⟩
  | 58 => ⟨S5000, .i32⟩
  | 59 => ⟨S5000, .f32⟩
  | 60 => ⟨S_, .i32⟩
  | 61 => ⟨S5000, .i32⟩
  | 62 => ⟨S5000, .i1⟩
  | 63 => ⟨S_, .i32⟩
  | 64 => ⟨S_, .i1⟩
  | 65 => ⟨S1, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S1, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S1, .i1⟩
  | 80 => ⟨S_, .i1⟩
  | 81 => ⟨S_, .i1⟩
  | 82 => ⟨S_, .i32⟩
  | 83 => ⟨S_, .i1⟩
  | 84 => ⟨S_, .i32⟩
  | 85 => ⟨S_, .i32⟩
  | 86 => ⟨S_, .i32⟩
  | 87 => ⟨S1, .f32⟩
  | 88 => ⟨S_, .f32⟩
  | 89 => ⟨S_, .f32⟩
  | 90 => ⟨S_, .i1⟩
  | 91 => ⟨S_, .i1⟩
  | 92 => ⟨S_, .i32⟩
  | 93 => ⟨S_, .i1⟩
  | 94 => ⟨S_, .i32⟩
  | 95 => ⟨S_, .i32⟩
  | 96 => ⟨S_, .i32⟩
  | 97 => ⟨S1, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S1, .i32⟩
  | 106 => ⟨S5000, .i32⟩
  | 107 => ⟨S_, .i32⟩
  | 108 => ⟨S_, .i1⟩
  | 109 => ⟨S_, .i32⟩
  | 110 => ⟨S_, .i32⟩
  | 111 => ⟨S_, .i32⟩
  | 112 => ⟨S1, .i1⟩
  | 113 => ⟨S_, .i1⟩
  | 114 => ⟨S_, .i1⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S5000, .i1⟩
  | 122 => ⟨S_, .i32⟩
  | 123 => ⟨S_, .i32⟩
  | _ => ⟨S5000x4, .f32⟩

abbrev hbmTy (i : Nat) : BufTy := match i / 128 with
  | 0 => hbmTy0_0 i
  | 1 => hbmTy0_1 i
  | 2 => hbmTy0_2 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call2_cst : Ref sig .tc := ⟨.hbm, 50, rfl⟩
abbrev main_call2_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_call4_cst : Ref sig .tc := ⟨.hbm, 75, rfl⟩
abbrev main_call4_v0 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_3 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_cst : Ref sig .tc := ⟨.hbm, 86, rfl⟩
abbrev main_call5_v3 : Ref sig .tc := ⟨.hbm, 87, rfl⟩
abbrev main_call5_v4 : Ref sig .tc := ⟨.hbm, 88, rfl⟩
abbrev main_call5_cst_0 : Ref sig .tc := ⟨.hbm, 89, rfl⟩
abbrev main_call5_v5 : Ref sig .tc := ⟨.hbm, 90, rfl⟩
abbrev main_call5_v6 : Ref sig .tc := ⟨.hbm, 91, rfl⟩
abbrev main_call5_cst_1 : Ref sig .tc := ⟨.hbm, 92, rfl⟩
abbrev main_call5_v7 : Ref sig .tc := ⟨.hbm, 93, rfl⟩
abbrev main_call5_v8 : Ref sig .tc := ⟨.hbm, 94, rfl⟩
abbrev main_call5_v9 : Ref sig .tc := ⟨.hbm, 95, rfl⟩
abbrev main_call5_v10 : Ref sig .tc := ⟨.hbm, 96, rfl⟩
abbrev main_call5_v11 : Ref sig .tc := ⟨.hbm, 97, rfl⟩
abbrev main_call5_v12 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_call6_cst : Ref sig .tc := ⟨.hbm, 104, rfl⟩
abbrev main_call6_v0 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_call7_cst : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_v5 : Ref sig .tc := ⟨.hbm, 117, rfl⟩
abbrev main_call7_v6 : Ref sig .tc := ⟨.hbm, 118, rfl⟩
abbrev main_call7_v7 : Ref sig .tc := ⟨.hbm, 119, rfl⟩
abbrev main_call7_v8 : Ref sig .tc := ⟨.hbm, 120, rfl⟩
abbrev main_call7_v9 : Ref sig .tc := ⟨.hbm, 121, rfl⟩
abbrev main_call7_v10 : Ref sig .tc := ⟨.hbm, 122, rfl⟩
abbrev main_call7_v11 : Ref sig .tc := ⟨.hbm, 123, rfl⟩
abbrev main_v43 : Ref sig .tc := ⟨.hbm, 124, rfl⟩
abbrev main_cst_4 : Ref sig .tc := ⟨.hbm, 125, rfl⟩
abbrev main_v44 : Ref sig .tc := ⟨.hbm, 126, rfl⟩
abbrev main_v45 : Ref sig .tc := ⟨.hbm, 127, rfl⟩
abbrev main_cst_5 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_cst_6 : Ref sig .tc := ⟨.hbm, 134, rfl⟩
abbrev main_call8_v0 : Ref sig .tc := ⟨.hbm, 135, rfl⟩
abbrev main_call8_v1 : Ref sig .tc := ⟨.hbm, 136, rfl⟩
abbrev main_call8_v2 : Ref sig .tc := ⟨.hbm, 137, rfl⟩
abbrev main_call8_cst : Ref sig .tc := ⟨.hbm, 138, rfl⟩
abbrev main_call8_v3 : Ref sig .tc := ⟨.hbm, 139, rfl⟩
abbrev main_call8_v4 : Ref sig .tc := ⟨.hbm, 140, rfl⟩
abbrev main_call8_cst_0 : Ref sig .tc := ⟨.hbm, 141, rfl⟩
abbrev main_call8_v5 : Ref sig .tc := ⟨.hbm, 142, rfl⟩
abbrev main_call8_v6 : Ref sig .tc := ⟨.hbm, 143, rfl⟩
abbrev main_call8_cst_1 : Ref sig .tc := ⟨.hbm, 144, rfl⟩
abbrev main_call8_v7 : Ref sig .tc := ⟨.hbm, 145, rfl⟩
abbrev main_call8_v8 : Ref sig .tc := ⟨.hbm, 146, rfl⟩
abbrev main_call8_v9 : Ref sig .tc := ⟨.hbm, 147, rfl⟩
abbrev main_call8_v10 : Ref sig .tc := ⟨.hbm, 148, rfl⟩
abbrev main_call8_v11 : Ref sig .tc := ⟨.hbm, 149, rfl⟩
abbrev main_call8_v12 : Ref sig .tc := ⟨.hbm, 150, rfl⟩
abbrev main_v51 : Ref sig .tc := ⟨.hbm, 151, rfl⟩
abbrev main_cst_7 : Ref sig .tc := ⟨.hbm, 152, rfl⟩
abbrev main_v52 : Ref sig .tc := ⟨.hbm, 153, rfl⟩
abbrev main_v53 : Ref sig .tc := ⟨.hbm, 154, rfl⟩
abbrev main_cst_8 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_cst_9 : Ref sig .tc := ⟨.hbm, 161, rfl⟩
abbrev main_call9_v0 : Ref sig .tc := ⟨.hbm, 162, rfl⟩
abbrev main_call9_v1 : Ref sig .tc := ⟨.hbm, 163, rfl⟩
abbrev main_call9_v2 : Ref sig .tc := ⟨.hbm, 164, rfl⟩
abbrev main_call9_cst : Ref sig .tc := ⟨.hbm, 165, rfl⟩
abbrev main_call9_v3 : Ref sig .tc := ⟨.hbm, 166, rfl⟩
abbrev main_call9_v4 : Ref sig .tc := ⟨.hbm, 167, rfl⟩
abbrev main_call9_cst_0 : Ref sig .tc := ⟨.hbm, 168, rfl⟩
abbrev main_call9_v5 : Ref sig .tc := ⟨.hbm, 169, rfl⟩
abbrev main_call9_v6 : Ref sig .tc := ⟨.hbm, 170, rfl⟩
abbrev main_call9_cst_1 : Ref sig .tc := ⟨.hbm, 171, rfl⟩
abbrev main_call9_v7 : Ref sig .tc := ⟨.hbm, 172, rfl⟩
abbrev main_call9_v8 : Ref sig .tc := ⟨.hbm, 173, rfl⟩
abbrev main_call9_v9 : Ref sig .tc := ⟨.hbm, 174, rfl⟩
abbrev main_call9_v10 : Ref sig .tc := ⟨.hbm, 175, rfl⟩
abbrev main_call9_v11 : Ref sig .tc := ⟨.hbm, 176, rfl⟩
abbrev main_call9_v12 : Ref sig .tc := ⟨.hbm, 177, rfl⟩
abbrev main_v59 : Ref sig .tc := ⟨.hbm, 178, rfl⟩
abbrev main_cst_10 : Ref sig .tc := ⟨.hbm, 179, rfl⟩
abbrev main_v60 : Ref sig .tc := ⟨.hbm, 180, rfl⟩
abbrev main_v61 : Ref sig .tc := ⟨.hbm, 181, rfl⟩
abbrev main_cst_11 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_cst_12 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_call10_cst : Ref sig .tc := ⟨.hbm, 192, rfl⟩
abbrev main_call10_v3 : Ref sig .tc := ⟨.hbm, 193, rfl⟩
abbrev main_call10_v4 : Ref sig .tc := ⟨.hbm, 194, rfl⟩
abbrev main_call10_cst_0 : Ref sig .tc := ⟨.hbm, 195, rfl⟩
abbrev main_call10_v5 : Ref sig .tc := ⟨.hbm, 196, rfl⟩
abbrev main_call10_v6 : Ref sig .tc := ⟨.hbm, 197, rfl⟩
abbrev main_call10_cst_1 : Ref sig .tc := ⟨.hbm, 198, rfl⟩
abbrev main_call10_v7 : Ref sig .tc := ⟨.hbm, 199, rfl⟩
abbrev main_call10_v8 : Ref sig .tc := ⟨.hbm, 200, rfl⟩
abbrev main_call10_v9 : Ref sig .tc := ⟨.hbm, 201, rfl⟩
abbrev main_call10_v10 : Ref sig .tc := ⟨.hbm, 202, rfl⟩
abbrev main_call10_v11 : Ref sig .tc := ⟨.hbm, 203, rfl⟩
abbrev main_call10_v12 : Ref sig .tc := ⟨.hbm, 204, rfl⟩
abbrev main_v67 : Ref sig .tc := ⟨.hbm, 205, rfl⟩
abbrev main_cst_13 : Ref sig .tc := ⟨.hbm, 206, rfl⟩
abbrev main_v68 : Ref sig .tc := ⟨.hbm, 207, rfl⟩
abbrev main_v69 : Ref sig .tc := ⟨.hbm, 208, rfl⟩
abbrev main_cst_14 : Ref sig .tc := ⟨.hbm, 209, rfl⟩
abbrev main_v70 : Ref sig .tc := ⟨.hbm, 210, rfl⟩
abbrev main_v71 : Ref sig .tc := ⟨.hbm, 211, rfl⟩
abbrev main_v72 : Ref sig .tc := ⟨.hbm, 212, rfl⟩
abbrev main_v73 : Ref sig .tc := ⟨.hbm, 213, rfl⟩
abbrev main_v74 : Ref sig .tc := ⟨.hbm, 214, rfl⟩
abbrev main_cst_15 : Ref sig .tc := ⟨.hbm, 215, rfl⟩
abbrev main_call11_v0 : Ref sig .tc := ⟨.hbm, 216, rfl⟩
abbrev main_call11_v1 : Ref sig .tc := ⟨.hbm, 217, rfl⟩
abbrev main_call11_v2 : Ref sig .tc := ⟨.hbm, 218, rfl⟩
abbrev main_call11_cst : Ref sig .tc := ⟨.hbm, 219, rfl⟩
abbrev main_call11_v3 : Ref sig .tc := ⟨.hbm, 220, rfl⟩
abbrev main_call11_v4 : Ref sig .tc := ⟨.hbm, 221, rfl⟩
abbrev main_call11_cst_0 : Ref sig .tc := ⟨.hbm, 222, rfl⟩
abbrev main_call11_v5 : Ref sig .tc := ⟨.hbm, 223, rfl⟩
abbrev main_call11_v6 : Ref sig .tc := ⟨.hbm, 224, rfl⟩
abbrev main_call11_cst_1 : Ref sig .tc := ⟨.hbm, 225, rfl⟩
abbrev main_call11_v7 : Ref sig .tc := ⟨.hbm, 226, rfl⟩
abbrev main_call11_v8 : Ref sig .tc := ⟨.hbm, 227, rfl⟩
abbrev main_call11_v9 : Ref sig .tc := ⟨.hbm, 228, rfl⟩
abbrev main_call11_v10 : Ref sig .tc := ⟨.hbm, 229, rfl⟩
abbrev main_call11_v11 : Ref sig .tc := ⟨.hbm, 230, rfl⟩
abbrev main_call11_v12 : Ref sig .tc := ⟨.hbm, 231, rfl⟩
abbrev main_v75 : Ref sig .tc := ⟨.hbm, 232, rfl⟩
abbrev main_cst_16 : Ref sig .tc := ⟨.hbm, 233, rfl⟩
abbrev main_v76 : Ref sig .tc := ⟨.hbm, 234, rfl⟩
abbrev main_v77 : Ref sig .tc := ⟨.hbm, 235, rfl⟩
abbrev main_cst_17 : Ref sig .tc := ⟨.hbm, 236, rfl⟩
abbrev main_v78 : Ref sig .tc := ⟨.hbm, 237, rfl⟩
abbrev main_v79 : Ref sig .tc := ⟨.hbm, 238, rfl⟩
abbrev main_v80 : Ref sig .tc := ⟨.hbm, 239, rfl⟩
abbrev main_v81 : Ref sig .tc := ⟨.hbm, 240, rfl⟩
abbrev main_v82 : Ref sig .tc := ⟨.hbm, 241, rfl⟩
abbrev main_cst_18 : Ref sig .tc := ⟨.hbm, 242, rfl⟩
abbrev main_call12_v0 : Ref sig .tc := ⟨.hbm, 243, rfl⟩
abbrev main_call12_v1 : Ref sig .tc := ⟨.hbm, 244, rfl⟩
abbrev main_call12_v2 : Ref sig .tc := ⟨.hbm, 245, rfl⟩
abbrev main_call12_cst : Ref sig .tc := ⟨.hbm, 246, rfl⟩
abbrev main_call12_v3 : Ref sig .tc := ⟨.hbm, 247, rfl⟩
abbrev main_call12_v4 : Ref sig .tc := ⟨.hbm, 248, rfl⟩
abbrev main_call12_cst_0 : Ref sig .tc := ⟨.hbm, 249, rfl⟩
abbrev main_call12_v5 : Ref sig .tc := ⟨.hbm, 250, rfl⟩
abbrev main_call12_v6 : Ref sig .tc := ⟨.hbm, 251, rfl⟩
abbrev main_call12_cst_1 : Ref sig .tc := ⟨.hbm, 252, rfl⟩
abbrev main_call12_v7 : Ref sig .tc := ⟨.hbm, 253, rfl⟩
abbrev main_call12_v8 : Ref sig .tc := ⟨.hbm, 254, rfl⟩
abbrev main_call12_v9 : Ref sig .tc := ⟨.hbm, 255, rfl⟩
abbrev main_call12_v10 : Ref sig .tc := ⟨.hbm, 256, rfl⟩
abbrev main_call12_v11 : Ref sig .tc := ⟨.hbm, 257, rfl⟩
abbrev main_call12_v12 : Ref sig .tc := ⟨.hbm, 258, rfl⟩
abbrev main_v83 : Ref sig .tc := ⟨.hbm, 259, rfl⟩
abbrev main_v84 : Ref sig .tc := ⟨.hbm, 260, rfl⟩
abbrev main_v85 : Ref sig .tc := ⟨.hbm, 261, rfl⟩
abbrev main_v86 : Ref sig .tc := ⟨.hbm, 262, rfl⟩
abbrev main_v87 : Ref sig .tc := ⟨.hbm, 263, rfl⟩
abbrev main_v88 : Ref sig .tc := ⟨.hbm, 264, rfl⟩
abbrev main_cst_19 : Ref sig .tc := ⟨.hbm, 265, rfl⟩
abbrev main_v89 : Ref sig .tc := ⟨.hbm, 266, rfl⟩
abbrev main_v90 : Ref sig .tc := ⟨.hbm, 267, rfl⟩
abbrev main_v91 : Ref sig .tc := ⟨.hbm, 268, rfl⟩
abbrev main_cst_20 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_v95 : Ref sig .tc := ⟨.hbm, 273, rfl⟩
abbrev main_v96 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_v102 : Ref sig .tc := ⟨.hbm, 280, rfl⟩
abbrev main_cst_21 : Ref sig .tc := ⟨.hbm, 281, rfl⟩
abbrev main_v103 : Ref sig .tc := ⟨.hbm, 282, rfl⟩
abbrev main_v104 : Ref sig .tc := ⟨.hbm, 283, rfl⟩
abbrev main_v105 : Ref sig .tc := ⟨.hbm, 284, rfl⟩
abbrev main_cst_22 : Ref sig .tc := ⟨.hbm, 285, rfl⟩
abbrev main_v106 : Ref sig .tc := ⟨.hbm, 286, rfl⟩
abbrev main_v107 : Ref sig .tc := ⟨.hbm, 287, rfl⟩
abbrev main_v108 : Ref sig .tc := ⟨.hbm, 288, rfl⟩
abbrev main_v109 : Ref sig .tc := ⟨.hbm, 289, rfl⟩
abbrev main_v110 : Ref sig .tc := ⟨.hbm, 290, rfl⟩
abbrev main_v111 : Ref sig .tc := ⟨.hbm, 291, rfl⟩
abbrev main_v112 : Ref sig .tc := ⟨.hbm, 292, rfl⟩
abbrev main_v113 : Ref sig .tc := ⟨.hbm, 293, rfl⟩
abbrev main_v114 : Ref sig .tc := ⟨.hbm, 294, rfl⟩
abbrev main_v115 : Ref sig .tc := ⟨.hbm, 295, rfl⟩
abbrev main_v116 : Ref sig .tc := ⟨.hbm, 296, rfl⟩
abbrev main_cst_23 : Ref sig .tc := ⟨.hbm, 297, rfl⟩
abbrev main_v117 : Ref sig .tc := ⟨.hbm, 298, rfl⟩
abbrev main_call13_v0 : Ref sig .tc := ⟨.hbm, 299, rfl⟩
abbrev main_call13_cst : Ref sig .tc := ⟨.hbm, 300, rfl⟩
abbrev main_call13_c : Ref sig .tc := ⟨.hbm, 301, rfl⟩
abbrev main_call13_v1_0 : Ref sig .tc := ⟨.hbm, 302, rfl⟩
abbrev main_v118 : Ref sig .tc := ⟨.hbm, 303, rfl⟩
abbrev main_v119 : Ref sig .tc := ⟨.hbm, 304, rfl⟩
abbrev main_call14_v0 : Ref sig .tc := ⟨.hbm, 305, rfl⟩
abbrev main_call14_v1_0 : Ref sig .tc := ⟨.hbm, 306, rfl⟩
abbrev main_v120 : Ref sig .tc := ⟨.hbm, 307, rfl⟩
abbrev main_c : Ref sig .tc := ⟨.hbm, 308, rfl⟩
abbrev main_v121 : Ref sig .tc := ⟨.hbm, 309, rfl⟩
abbrev main_c_24 : Ref sig .tc := ⟨.hbm, 310, rfl⟩
abbrev main_v122 : Ref sig .tc := ⟨.hbm, 311, rfl⟩
abbrev main_c_25 : Ref sig .tc := ⟨.hbm, 312, rfl⟩
abbrev main_v123_0 : Ref sig .tc := ⟨.hbm, 313, rfl⟩
abbrev main_v123_1 : Ref sig .tc := ⟨.hbm, 314, rfl⟩
abbrev main_v123_2 : Ref sig .tc := ⟨.hbm, 315, rfl⟩
abbrev main_v123_3 : Ref sig .tc := ⟨.hbm, 316, rfl⟩
abbrev main_v123_4 : Ref sig .tc := ⟨.hbm, 317, rfl⟩
abbrev main_v123_5 : Ref sig .tc := ⟨.hbm, 318, rfl⟩
abbrev main_while0c_c_31 : Ref sig .tc := ⟨.hbm, 319, rfl⟩
abbrev main_while0c_v124 : Ref sig .tc := ⟨.hbm, 320, rfl⟩
abbrev main_while0b_call15_v0 : Ref sig .tc := ⟨.hbm, 321, rfl⟩
abbrev main_while0b_v124 : Ref sig .tc := ⟨.hbm, 322, rfl⟩
abbrev main_while0b_c_31 : Ref sig .tc := ⟨.hbm, 323, rfl⟩
abbrev main_while0b_v125 : Ref sig .tc := ⟨.hbm, 324, rfl⟩
abbrev main_while0b_c_32 : Ref sig .tc := ⟨.hbm, 325, rfl⟩
abbrev main_while0b_v126 : Ref sig .tc := ⟨.hbm, 326, rfl⟩
abbrev main_while0b_v127 : Ref sig .tc := ⟨.hbm, 327, rfl⟩
abbrev main_while0b_v128 : Ref sig .tc := ⟨.hbm, 328, rfl⟩
abbrev main_while0b_v129 : Ref sig .tc := ⟨.hbm, 329, rfl⟩
abbrev main_while0b_c_33 : Ref sig .tc := ⟨.hbm, 330, rfl⟩
abbrev main_while0b_v130 : Ref sig .tc := ⟨.hbm, 331, rfl⟩
abbrev main_while0b_c_34 : Ref sig .tc := ⟨.hbm, 332, rfl⟩
abbrev main_while0b_v131 : Ref sig .tc := ⟨.hbm, 333, rfl⟩
abbrev main_while0b_v132 : Ref sig .tc := ⟨.hbm, 334, rfl⟩
abbrev main_while0b_v133 : Ref sig .tc := ⟨.hbm, 335, rfl⟩
abbrev main_while0b_v134 : Ref sig .tc := ⟨.hbm, 336, rfl⟩
abbrev main_while0b_v135 : Ref sig .tc := ⟨.hbm, 337, rfl⟩
abbrev main_while0b_c_35 : Ref sig .tc := ⟨.hbm, 338, rfl⟩
abbrev main_while0b_v136 : Ref sig .tc := ⟨.hbm, 339, rfl⟩
abbrev main_while0b_c_36 : Ref sig .tc := ⟨.hbm, 340, rfl⟩
abbrev main_while0b_v137 : Ref sig .tc := ⟨.hbm, 341, rfl⟩
abbrev main_while0b_v138 : Ref sig .tc := ⟨.hbm, 342, rfl⟩
abbrev main_while0b_v139 : Ref sig .tc := ⟨.hbm, 343, rfl⟩
abbrev main_while0b_v140 : Ref sig .tc := ⟨.hbm, 344, rfl⟩
abbrev main_while0b_cst_37 : Ref sig .tc := ⟨.hbm, 345, rfl⟩
abbrev main_while0b_v141 : Ref sig .tc := ⟨.hbm, 346, rfl⟩
abbrev main_while0b_v142 : Ref sig .tc := ⟨.hbm, 347, rfl⟩
abbrev main_while0b_c_38 : Ref sig .tc := ⟨.hbm, 348, rfl⟩
abbrev main_while0b_v143 : Ref sig .tc := ⟨.hbm, 349, rfl⟩
abbrev main_while0b_c_39 : Ref sig .tc := ⟨.hbm, 350, rfl⟩
abbrev main_while0b_v144 : Ref sig .tc := ⟨.hbm, 351, rfl⟩
abbrev main_while0b_v145 : Ref sig .tc := ⟨.hbm, 352, rfl⟩
abbrev main_while0b_v146 : Ref sig .tc := ⟨.hbm, 353, rfl⟩
abbrev main_while0b_v147 : Ref sig .tc := ⟨.hbm, 354, rfl⟩
abbrev main_while0b_v148 : Ref sig .tc := ⟨.hbm, 355, rfl⟩
abbrev main_while0b_c_40 : Ref sig .tc := ⟨.hbm, 356, rfl⟩
abbrev main_while0b_v149 : Ref sig .tc := ⟨.hbm, 357, rfl⟩
abbrev main_while0b_c_41 : Ref sig .tc := ⟨.hbm, 358, rfl⟩
abbrev main_while0b_v150 : Ref sig .tc := ⟨.hbm, 359, rfl⟩
abbrev main_while0b_v151 : Ref sig .tc := ⟨.hbm, 360, rfl⟩
abbrev main_while0b_v152 : Ref sig .tc := ⟨.hbm, 361, rfl⟩
abbrev main_while0b_v153 : Ref sig .tc := ⟨.hbm, 362, rfl⟩
abbrev main_while0b_c_42 : Ref sig .tc := ⟨.hbm, 363, rfl⟩
abbrev main_while0b_v154 : Ref sig .tc := ⟨.hbm, 364, rfl⟩
abbrev main_while0b_c_43 : Ref sig .tc := ⟨.hbm, 365, rfl⟩
abbrev main_while0b_v155 : Ref sig .tc := ⟨.hbm, 366, rfl⟩
abbrev main_while0b_v156 : Ref sig .tc := ⟨.hbm, 367, rfl⟩
abbrev main_while0b_v157 : Ref sig .tc := ⟨.hbm, 368, rfl⟩
abbrev main_while0b_v158 : Ref sig .tc := ⟨.hbm, 369, rfl⟩
abbrev main_while0b_v159 : Ref sig .tc := ⟨.hbm, 370, rfl⟩
abbrev main_while0b_c_44 : Ref sig .tc := ⟨.hbm, 371, rfl⟩
abbrev main_while0b_v160 : Ref sig .tc := ⟨.hbm, 372, rfl⟩
abbrev main_while0b_c_45 : Ref sig .tc := ⟨.hbm, 373, rfl⟩
abbrev main_while0b_v161 : Ref sig .tc := ⟨.hbm, 374, rfl⟩
abbrev main_while0b_v162 : Ref sig .tc := ⟨.hbm, 375, rfl⟩
abbrev main_while0b_v163 : Ref sig .tc := ⟨.hbm, 376, rfl⟩
abbrev main_while0b_v164 : Ref sig .tc := ⟨.hbm, 377, rfl⟩
abbrev main_while0b_c_46 : Ref sig .tc := ⟨.hbm, 378, rfl⟩
abbrev main_while0b_v165 : Ref sig .tc := ⟨.hbm, 379, rfl⟩

abbrev nD : Nat := 1
abbrev τ : Topo := Topo.v7x

variable {F : FTy → Type} [FloatOps F]

abbrev main_while0_count : Scf.Loop 32 := ⟨0#32, 5000#32, 1#32⟩
-- ==== Proof.Host.lean ====
/-
  The host operations of @main as lists: @main is the first list, the two grid kernels' calls with one operation between
  them, the padding, the SparseCore call and the cut.
-/
module

public import proofs.«01_k».proof.KernelIdeal
public import proofs.«01_k».proof.Proof.Gen.KernelIdeal
public import Idealize.ShloMosaic.Lib.StableHlo.RunRead
public import Idealize.ShloMosaic.Lib.Pipeline.Regions

@[expose] public section

noncomputable section

namespace Cert.Proof.Host

open Cert.KernelIdeal Cert.KernelIdeal.Gen
open Idealize.ShloMosaic
open Idealize.ShloMosaic.TcCoe
open Idealize.SL.Sem

variable {F : FTy → Type} [FloatOps F]

/-- The ramp's operations over one call's buffers. -/
abbrev reluOps (a : StableHlo.TRef sig ⟨S5000x64, .f32⟩) (φ : fn_relu.Bufs) : List (HloOp τ sig (Elt F)) :=
  [ StableHlo.TRef.nullary φ.cst (constant S_ .f32 0x00000000#32),
    StableHlo.TRef.unary φ.cst φ.v0 (broadcastInDim S5000x64 ![] bcast_S_S5000x64),
    StableHlo.TRef.binary a φ.v0 φ.v1 maximumf ]

/-- The remainder's operations over one call's buffers. -/
abbrev remainderOps (a : StableHlo.TRef sig ⟨S5000x28, .f32⟩) (b : StableHlo.TRef sig ⟨S_, .f32⟩) (φ : fn_remainder.Bufs) : List (HloOp τ sig (Elt F)) :=
  [ StableHlo.TRef.unary b φ.v0 id,
    StableHlo.TRef.unary φ.v0 φ.v1 (broadcastInDim S5000x28 ![] bcast_S_S5000x28),
    StableHlo.TRef.binary a φ.v1 φ.v2 Host.remf,
    StableHlo.TRef.nullary φ.cst (constant S_ .f32 0x00000000#32),
    StableHlo.TRef.unary φ.cst φ.v3 (broadcastInDim S5000x28 ![] bcast_S_S5000x28),
    StableHlo.TRef.binary φ.v2 φ.v3 φ.v4 (cmpf .une),
    StableHlo.TRef.nullary φ.cst_0 (constant S_ .f32 0x00000000#32),
    StableHlo.TRef.unary φ.cst_0 φ.v5 (broadcastInDim S5000x28 ![] bcast_S_S5000x28),
    StableHlo.TRef.binary φ.v2 φ.v5 φ.v6 (cmpf .olt),
    StableHlo.TRef.nullary φ.cst_1 (constant S_ .f32 0x00000000#32),
    StableHlo.TRef.binary φ.v0 φ.cst_1 φ.v7 (cmpf .olt),
    StableHlo.TRef.unary φ.v7 φ.v8 (broadcastInDim S5000x28 ![] bcast_S_S5000x28),
    StableHlo.TRef.binary φ.v6 φ.v8 φ.v9 (cmpi .ne),
    StableHlo.TRef.binary φ.v9 φ.v4 φ.v10 andi,
    StableHlo.TRef.unary φ.v0 φ.v11 (broadcastInDim S5000x28 ![] bcast_S_S5000x28),
    StableHlo.TRef.binary φ.v2 φ.v11 φ.v12 addf,
    StableHlo.TRef.ternary φ.v10 φ.v12 φ.v2 φ.v13 select ]

/-- The oscillators' speeds, and the first layer of the first detections before its ramp. -/
abbrev speedsA : List (HloOp τ sig (Elt F)) :=
  [ StableHlo.nullary main_cst (constant S_ .f32 0x40000000#32),
    StableHlo.unary main_cst main_v0 (broadcastInDim S4 ![] bcast_S_S4 : (⟨S_, .f32⟩ : BufTy).Contents (Elt F) → (⟨S4, .f32⟩ : BufTy).Contents (Elt F)),
    StableHlo.nullary main_cst_0 (constant S_ .f32 0x40C00000#32),
    StableHlo.unary main_cst_0 main_v1 (broadcastInDim S8 ![] bcast_S_S8 : (⟨S_, .f32⟩ : BufTy).Contents (Elt F) → (⟨S8, .f32⟩ : BufTy).Contents (Elt F)),
    StableHlo.nullary main_cst_1 (constant S_ .f32 0x42200000#32),
    StableHlo.unary main_cst_1 main_v2 (broadcastInDim S16 ![] bcast_S_S16 : (⟨S_, .f32⟩ : BufTy).Contents (Elt F) → (⟨S16, .f32⟩ : BufTy).Contents (Elt F)),
    StableHlo.nary ![main_v0, main_v1, main_v2] main_v3 (fun u => (concatenate S28 0 [⟨S4, (u 0 : (⟨S4, .f32⟩ : BufTy).Contents (Elt F))⟩, ⟨S8, (u 1 : (⟨S8, .f32⟩ : BufTy).Contents (Elt F))⟩, ⟨S16, (u 2 : (⟨S16, .f32⟩ : BufTy).Contents (Elt F))⟩] concatenates_S4_S8_S16_S28_d0 : (⟨S28, .f32⟩ : BufTy).Contents (Elt F))),
    StableHlo.binary main_arg0 main_arg2 main_v4 ((fun l r => Host.dotGeneral dot_S5000x4_S4x64_S5000x64_1_0_0_1_n_n none l r) : (⟨S5000x4, .f32⟩ : BufTy).Contents (Elt F) → (⟨S4x64, .f32⟩ : BufTy).Contents (Elt F) → (⟨S5000x64, .f32⟩ : BufTy).Contents (Elt F)),
    StableHlo.unary main_arg3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S5000x64 ![0, 1] bcast_S1x64_S5000x64_0_1 : (⟨S1x64, .f32⟩ : BufTy).Contents (Elt F) → (⟨S5000x64, .f32⟩ : BufTy).Contents (Elt F)),
    StableHlo.binary main_v4 main_v6 main_v7 (addf : (⟨S5000x64, .f32⟩ : BufTy).Contents (Elt F) → (⟨S5000x64, .f32⟩ : BufTy).Contents (Elt F) → (⟨S5000x64, .f32⟩ : BufTy).Contents (Elt F)) ]

/-- The second layer of the first detections, and the full turn. -/
abbrev layerA : List (HloOp τ sig (Elt F)) :=
  [ StableHlo.binary main_v8 main_arg4 main_v9 ((fun l r => Host.dotGeneral dot_S5000x64_S64x28_S5000x28_1_0_0_1_n_n none l r) : (⟨S5000x64, .f32⟩ : BufTy).Contents (Elt F) → (⟨S64x28, .f32⟩ : BufTy).Contents (Elt F) → (⟨S5000x28, .f32⟩ : BufTy).Contents (Elt F)),
    StableHlo.unary main_arg5 main_v10 (broadcastInDim S1x28 ![1] bcast_S28_S1x28_1 : (⟨S28, .f32⟩ : BufTy).Contents (Elt F) → (⟨S1x28, .f32⟩ : BufTy).Contents (Elt F)),
    StableHlo.unary main_v10 main_v11 (broadcastInDim S5000x28 ![0, 1] bcast_S1x28_S5000x28_0_1 : (⟨S1x28, .f32⟩ : BufTy).Contents (Elt F) → (⟨S5000x28, .f32⟩ : BufTy).Contents (Elt F)),
    StableHlo.binary main_v9 main_v11 main_v12 (addf : (⟨S5000x28, .f32⟩ : BufTy).Contents (Elt F) → (⟨S5000x28, .f32⟩ : BufTy).Contents (Elt F) → (⟨S5000x28, .f32⟩ : BufTy).Contents (Elt F)),
    StableHlo.nullary main_cst_2 (constant S_ .f32 0x40C90FDB#32) ]

/-- The first layer of the second detections before its ramp. -/
abbrev hiddenB : List (HloOp τ sig (Elt F)) :=
  [ StableHlo.binary main_arg1 main_arg2 main_v14 ((fun l r => Host.dotGeneral dot_S5000x4_S4x64_S5000x64_1_0_0_1_n_n none l r) : (⟨S5000x4, .f32⟩ : BufTy).Contents (Elt F) → (⟨S4x64, .f32⟩ : BufTy).Contents (Elt F) → (⟨S5000x64, .f32⟩ : BufTy).Contents (Elt F)),
    StableHlo.unary main_arg3 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S5000x64 ![0, 1] bcast_S1x64_S5000x64_0_1 : (⟨S1x64, .f32⟩ : BufTy).Contents (Elt F) → (⟨S5000x64, .f32⟩ : BufTy).Contents (Elt F)),
    StableHlo.binary main_v14 main_v16 main_v17 (addf : (⟨S5000x64, .f32⟩ : BufTy).Contents (Elt F) → (⟨S5000x64, .f32⟩ : BufTy).Contents (Elt F) → (⟨S5000x64, .f32⟩ : BufTy).Contents (Elt F)) ]

/-- The second layer of the second detections, and the full turn. -/
abbrev layerB : List (HloOp τ sig (Elt F)) :=
  [ StableHlo.binary main_v18 main_arg4 main_v19 ((fun l r => Host.dotGeneral dot_S5000x64_S64x28_S5000x28_1_0_0_1_n_n none l r) : (⟨S5000x64, .f32⟩ : BufTy).Contents (Elt F) → (⟨S64x28, .f32⟩ : BufTy).Contents (Elt F) → (⟨S5000x28, .f32⟩ : BufTy).Contents (Elt F)),
    StableHlo.unary main_arg5 main_v20 (broadcastInDim S1x28 ![1] bcast_S28_S1x28_1 : (⟨S28, .f32⟩ : BufTy).Contents (Elt F) → (⟨S1x28, .f32⟩ : BufTy).Contents (Elt F)),
    StableHlo.unary main_v20 main_v21 (broadcastInDim S5000x28 ![0, 1] bcast_S1x28_S5000x28_0_1 : (⟨S1x28, .f32⟩ : BufTy).Contents (Elt F) → (⟨S5000x28, .f32⟩ : BufTy).Contents (Elt F)),
    StableHlo.binary main_v19 main_v21 main_v22 (addf : (⟨S5000x28, .f32⟩ : BufTy).Contents (Elt F) → (⟨S5000x28, .f32⟩ : BufTy).Contents (Elt F) → (⟨S5000x28, .f32⟩ : BufTy).Contents (Elt F)),
    StableHlo.nullary main_cst_3 (constant S_ .f32 0x40C90FDB#32) ]

/-- Step 1 of the phases, and the full turn. -/
abbrev advance1 : List (HloOp τ sig (Elt F)) :=
  [ StableHlo.nullary main_cst_4 (constant S_ .f32 0x40C90FDB#32),
    StableHlo.unary main_cst_4 main_v24 (broadcastInDim S28 ![] bcast_S_S28 : (⟨S_, .f32⟩ : BufTy).Contents (Elt F) → (⟨S28, .f32⟩ : BufTy).Contents (Elt F)),
    StableHlo.binary main_v24 main_v3 main_v25 (mulf : (⟨S28, .f32⟩ : BufTy).Contents (Elt F) → (⟨S28, .f32⟩ : BufTy).Contents (Elt F) → (⟨S28, .f32⟩ : BufTy).Contents (Elt F)),
    StableHlo.nullary main_cst_5 (constant S_ .f32 0x3C23D70A#32),
    StableHlo.unary main_cst_5 main_v26 (broadcastInDim S28 ![] bcast_S_S28 : (⟨S_, .f32⟩ : BufTy).Contents (Elt F) → (⟨S28, .f32⟩ : BufTy).Contents (Elt F)),
    StableHlo.binary main_v25 main_v26 main_v27 (mulf : (⟨S28, .f32⟩ : BufTy).Contents (Elt F) → (⟨S28, .f32⟩ : BufTy).Contents (Elt F) → (⟨S28, .f32⟩ : BufTy).Contents (Elt F)),
    StableHlo.unary main_v27 main_v28 (broadcastInDim S1x28 ![1] bcast_S28_S1x28_1 : (⟨S28, .f32⟩ : BufTy).Contents (Elt F) → (⟨S1x28, .f32⟩ : BufTy).Contents (Elt F)),
    StableHlo.unary main_v28 main_v29 (broadcastInDim S5000x28 ![0, 1] bcast_S1x28_S5000x28_0_1 : (⟨S1x28, .f32⟩ : BufTy).Contents (Elt F) → (⟨S5000x28, .f32⟩ : BufTy).Contents (Elt F)),
    StableHlo.binary main_v13 main_v29 main_v30 (addf : (⟨S5000x28, .f32⟩ : BufTy).Contents (Elt F) → (⟨S5000x28, .f32⟩ : BufTy).Contents (Elt F) → (⟨S5000x28, .f32⟩ : BufTy).Contents (Elt F)),
    StableHlo.nullary main_cst_6 (constant S_ .f32 0x40C90FDB#32) ]

/-- Step 2 of the phases, and the full turn. -/
abbrev advance2 : List (HloOp τ sig (Elt F)) :=
  [ StableHlo.nullary main_cst_7 (constant S_ .f32 0x40C90FDB#32),
    StableHlo.unary main_cst_7 main_v32 (broadcastInDim S28 ![] bcast_S_S28 : (⟨S_, .f32⟩ : BufTy).Contents (Elt F) → (⟨S28, .f32⟩ : BufTy).Contents (Elt F)),
    StableHlo.binary main_v32 main_v3 main_v33 (mulf : (⟨S28, .f32⟩ : BufTy).Contents (Elt F) → (⟨S28, .f32⟩ : BufTy).Contents (Elt F) → (⟨S28, .f32⟩ : BufTy).Contents (Elt F)),
    StableHlo.nullary main_cst_8 (constant S_ .f32 0x3C23D70A#32),
    StableHlo.unary main_cst_8 main_v34 (broadcastInDim S28 ![] bcast_S_S28 : (⟨S_, .f32⟩ : BufTy).Contents (Elt F) → (⟨S28, .f32⟩ : BufTy).Contents (Elt F)),
    StableHlo.binary main_v33 main_v34 main_v35 (mulf : (⟨S28, .f32⟩ : BufTy).Contents (Elt F) → (⟨S28, .f32⟩ : BufTy).Contents (Elt F) → (⟨S28, .f32⟩ : BufTy).Contents (Elt F)),
    StableHlo.unary main_v35 main_v36 (broadcastInDim S1x28 ![1] bcast_S28_S1x28_1 : (⟨S28, .f32⟩ : BufTy).Contents (Elt F) → (⟨S1x28, .f32⟩ : BufTy).Contents (Elt F)),
    StableHlo.unary main_v36 main_v37 (broadcastInDim S5000x28 ![0, 1] bcast_S1x28_S5000x28_0_1 : (⟨S1x28, .f32⟩ : BufTy).Contents (Elt F) → (⟨S5000x28, .f32⟩ : BufTy).Contents (Elt F)),
    StableHlo.binary main_v31 main_v37 main_v38 (addf : (⟨S5000x28, .f32⟩ : BufTy).Contents (Elt F) → (⟨S5000x28, .f32⟩ : BufTy).Contents (Elt F) → (⟨S5000x28, .f32⟩ : BufTy).Contents (Elt F)),
    StableHlo.nullary main_cst_9 (constant S_ .f32 0x40C90FDB#32) ]

/-- Step 3 of the phases, and the full turn. -/
abbrev advance3 : List (HloOp τ sig (Elt F)) :=
  [ StableHlo.nullary main_cst_10 (constant S_ .f32 0x40C90FDB#32),
    StableHlo.unary main_cst_10 main_v40 (broadcastInDim S28 ![] bcast_S_S28 : (⟨S_, .f32⟩ : BufTy).Contents (Elt F) → (⟨S28, .f32⟩ : BufTy).Contents (Elt F)),
    StableHlo.binary main_v40 main_v3 main_v41 (mulf : (⟨S28, .f32⟩ : BufTy).Contents (Elt F) → (⟨S28, .f32⟩ : BufTy).Contents (Elt F) → (⟨S28, .f32⟩ : BufTy).Contents (Elt F)),
    StableHlo.nullary main_cst_11 (constant S_ .f32 0x3C23D70A#32),
    StableHlo.unary main_cst_11 main_v42 (broadcastInDim S28 ![] bcast_S_S28 : (⟨S_, .f32⟩ : BufTy).Contents (Elt F) → (⟨S28, .f32⟩ : BufTy).Contents (Elt F)),
    StableHlo.binary main_v41 main_v42 main_v43 (mulf : (⟨S28, .f32⟩ : BufTy).Contents (Elt F) → (⟨S28, .f32⟩ : BufTy).Contents (Elt F) → (⟨S28, .f32⟩ : BufTy).Contents (Elt F)),
    StableHlo.unary main_v43 main_v44 (broadcastInDim S1x28 ![1] bcast_S28_S1x28_1 : (⟨S28, .f32⟩ : BufTy).Contents (Elt F) → (⟨S1x28, .f32⟩ : BufTy).Contents (Elt F)),
    StableHlo.unary main_v44 main_v45 (broadcastInDim S5000x28 ![0, 1] bcast_S1x28_S5000x28_0_1 : (⟨S1x28, .f32⟩ : BufTy).Contents (Elt F) → (⟨S5000x28, .f32⟩ : BufTy).Contents (Elt F)),
    StableHlo.binary main_v39 main_v45 main_v46 (addf : (⟨S5000x28, .f32⟩ : BufTy).Contents (Elt F) → (⟨S5000x28, .f32⟩ : BufTy).Contents (Elt F) → (⟨S5000x28, .f32⟩ : BufTy).Contents (Elt F)),
    StableHlo.nullary main_cst_12 (constant S_ .f32 0x40C90FDB#32) ]

/-- Step 4 of the phases, and the full turn. -/
abbrev advance4 : List (HloOp τ sig (Elt F)) :=
  [ StableHlo.nullary main_cst_13 (constant S_ .f32 0x40C90FDB#32),
    StableHlo.unary main_cst_13 main_v48 (broadcastInDim S28 ![] bcast_S_S28 : (⟨S_, .f32⟩ : BufTy).Contents (Elt F) → (⟨S28, .f32⟩ : BufTy).Contents (Elt F)),
    StableHlo.binary main_v48 main_v3 main_v49 (mulf : (⟨S28, .f32⟩ : BufTy).Contents (Elt F) → (⟨S28, .f32⟩ : BufTy).Contents (Elt F) → (⟨S28, .f32⟩ : BufTy).Contents (Elt F)),
    StableHlo.nullary main_cst_14 (constant S_ .f32 0x3C23D70A#32),
    StableHlo.unary main_cst_14 main_v50 (broadcastInDim S28 ![] bcast_S_S28 : (⟨S_, .f32⟩ : BufTy).Contents (Elt F) → (⟨S28, .f32⟩ : BufTy).Contents (Elt F)),
    StableHlo.binary main_v49 main_v50 main_v51 (mulf : (⟨S28, .f32⟩ : BufTy).Contents (Elt F) → (⟨S28, .f32⟩ : BufTy).Contents (Elt F) → (⟨S28, .f32⟩ : BufTy).Contents (Elt F)),
    StableHlo.unary main_v51 main_v52 (broadcastInDim S1x28 ![1] bcast_S28_S1x28_1 : (⟨S28, .f32⟩ : BufTy).Contents (Elt F) → (⟨S1x28, .f32⟩ : BufTy).Contents (Elt F)),
    StableHlo.unary main_v52 main_v53 (broadcastInDim S5000x28 ![0, 1] bcast_S1x28_S5000x28_0_1 : (⟨S1x28, .f32⟩ : BufTy).Contents (Elt F) → (⟨S5000x28, .f32⟩ : BufTy).Contents (Elt F)),
    StableHlo.binary main_v47 main_v53 main_v54 (addf : (⟨S5000x28, .f32⟩ : BufTy).Contents (Elt F) → (⟨S5000x28, .f32⟩ : BufTy).Contents (Elt F) → (⟨S5000x28, .f32⟩ : BufTy).Contents (Elt F)),
    StableHlo.nullary main_cst_15 (constant S_ .f32 0x40C90FDB#32) ]

/-- Step 5 of the phases, and the full turn. -/
abbrev advance5 : List (HloOp τ sig (Elt F)) :=
  [ StableHlo.nullary main_cst_16 (constant S_ .f32 0x40C90FDB#32),
    StableHlo.unary main_cst_16 main_v56 (broadcastInDim S28 ![] bcast_S_S28 : (⟨S_, .f32⟩ : BufTy).Contents (Elt F) → (⟨S28, .f32⟩ : BufTy).Contents (Elt F)),
    StableHlo.binary main_v56 main_v3 main_v57 (mulf : (⟨S28, .f32⟩ : BufTy).Contents (Elt F) → (⟨S28, .f32⟩ : BufTy).Contents (Elt F) → (⟨S28, .f32⟩ : BufTy).Contents (Elt F)),
    StableHlo.nullary main_cst_17 (constant S_ .f32 0x3C23D70A#32),
    StableHlo.unary main_cst_17 main_v58 (broadcastInDim S28 ![] bcast_S_S28 : (⟨S_, .f32⟩ : BufTy).Contents (Elt F) → (⟨S28, .f32⟩ : BufTy).Contents (Elt F)),
    StableHlo.binary main_v57 main_v58 main_v59 (mulf : (⟨S28, .f32⟩ : BufTy).Contents (Elt F) → (⟨S28, .f32⟩ : BufTy).Contents (Elt F) → (⟨S28, .f32⟩ : BufTy).Contents (Elt F)),
    StableHlo.unary main_v59 main_v60 (broadcastInDim S1x28 ![1] bcast_S28_S1x28_1 : (⟨S28, .f32⟩ : BufTy).Contents (Elt F) → (⟨S1x28, .f32⟩ : BufTy).Contents (Elt F)),
    StableHlo.unary main_v60 main_v61 (broadcastInDim S5000x28 ![0, 1] bcast_S1x28_S5000x28_0_1 : (⟨S1x28, .f32⟩ : BufTy).Contents (Elt F) → (⟨S5000x28, .f32⟩ : BufTy).Contents (Elt F)),
    StableHlo.binary main_v55 main_v61 main_v62 (addf : (⟨S5000x28, .f32⟩ : BufTy).Contents (Elt F) → (⟨S5000x28, .f32⟩ : BufTy).Contents (Elt F) → (⟨S5000x28, .f32⟩ : BufTy).Contents (Elt F)),
    StableHlo.nullary main_cst_18 (constant S_ .f32 0x40C90FDB#32) ]

/-- The unit vectors of both. -/
abbrev units : List (HloOp τ sig (Elt F)) :=
  [ StableHlo.unary main_v63 main_v64 (Host.cos : (⟨S5000x28, .f32⟩ : BufTy).Contents (Elt F) → (⟨S5000x28, .f32⟩ : BufTy).Contents (Elt F)),
    StableHlo.unary main_v63 main_v65 (Host.sin : (⟨S5000x28, .f32⟩ : BufTy).Contents (Elt F) → (⟨S5000x28, .f32⟩ : BufTy).Contents (Elt F)),
    StableHlo.binary main_v64 main_v64 main_v66 (mulf : (⟨S5000x28, .f32⟩ : BufTy).Contents (Elt F) → (⟨S5000x28, .f32⟩ : BufTy).Contents (Elt F) → (⟨S5000x28, .f32⟩ : BufTy).Contents (Elt F)),
    StableHlo.binary main_v65 main_v65 main_v67 (mulf : (⟨S5000x28, .f32⟩ : BufTy).Contents (Elt F) → (⟨S5000x28, .f32⟩ : BufTy).Contents (Elt F) → (⟨S5000x28, .f32⟩ : BufTy).Contents (Elt F)),
    StableHlo.binary main_v66 main_v67 main_v68 (addf : (⟨S5000x28, .f32⟩ : BufTy).Contents (Elt F) → (⟨S5000x28, .f32⟩ : BufTy).Contents (Elt F) → (⟨S5000x28, .f32⟩ : BufTy).Contents (Elt F)),
    StableHlo.nullary main_cst_19 (constant S_ .f32 0x00000000#32),
    StableHlo.binary main_v68 main_cst_19 main_v69 ((fun x v => Host.reduceAdd x v reducesTo_S5000x28_S5000_d1 h_S_) : (⟨S5000x28, .f32⟩ : BufTy).Contents (Elt F) → (⟨S_, .f32⟩ : BufTy).Contents (Elt F) → (⟨S5000, .f32⟩ : BufTy).Contents (Elt F)),
    StableHlo.unary main_v69 main_v70 (broadcastInDim S5000x1 ![0] bcast_S5000_S5000x1_0 : (⟨S5000, .f32⟩ : BufTy).Contents (Elt F) → (⟨S5000x1, .f32⟩ : BufTy).Contents (Elt F)),
    StableHlo.unary main_v70 main_v71 (Host.sqrt : (⟨S5000x1, .f32⟩ : BufTy).Contents (Elt F) → (⟨S5000x1, .f32⟩ : BufTy).Contents (Elt F)),
    StableHlo.nullary main_cst_20 (constant S_ .f32 0x358637BD#32),
    StableHlo.unary main_cst_20 main_v72 (broadcastInDim S5000x1 ![] bcast_S_S5000x1 : (⟨S_, .f32⟩ : BufTy).Contents (Elt F) → (⟨S5000x1, .f32⟩ : BufTy).Contents (Elt F)),
    StableHlo.binary main_v71 main_v72 main_v73 (addf : (⟨S5000x1, .f32⟩ : BufTy).Contents (Elt F) → (⟨S5000x1, .f32⟩ : BufTy).Contents (Elt F) → (⟨S5000x1, .f32⟩ : BufTy).Contents (Elt F)),
    StableHlo.unary main_v73 main_v74 (broadcastInDim S5000x28 ![0, 1] bcast_S5000x1_S5000x28_0_1 : (⟨S5000x1, .f32⟩ : BufTy).Contents (Elt F) → (⟨S5000x28, .f32⟩ : BufTy).Contents (Elt F)),
    StableHlo.binary main_v64 main_v74 main_v75 (Host.divf : (⟨S5000x28, .f32⟩ : BufTy).Contents (Elt F) → (⟨S5000x28, .f32⟩ : BufTy).Contents (Elt F) → (⟨S5000x28, .f32⟩ : BufTy).Contents (Elt F)),
    StableHlo.unary main_v73 main_v76 (broadcastInDim S5000x28 ![0, 1] bcast_S5000x1_S5000x28_0_1 : (⟨S5000x1, .f32⟩ : BufTy).Contents (Elt F) → (⟨S5000x28, .f32⟩ : BufTy).Contents (Elt F)),
    StableHlo.binary main_v65 main_v76 main_v77 (Host.divf : (⟨S5000x28, .f32⟩ : BufTy).Contents (Elt F) → (⟨S5000x28, .f32⟩ : BufTy).Contents (Elt F) → (⟨S5000x28, .f32⟩ : BufTy).Contents (Elt F)),
    StableHlo.unary main_v23 main_v78 (Host.cos : (⟨S5000x28, .f32⟩ : BufTy).Contents (Elt F) → (⟨S5000x28, .f32⟩ : BufTy).Contents (Elt F)),
    StableHlo.unary main_v23 main_v79 (Host.sin : (⟨S5000x28, .f32⟩ : BufTy).Contents (Elt F) → (⟨S5000x28, .f32⟩ : BufTy).Contents (Elt F)),
    StableHlo.binary main_v78 main_v78 main_v80 (mulf : (⟨S5000x28, .f32⟩ : BufTy).Contents (Elt F) → (⟨S5000x28, .f32⟩ : BufTy).Contents (Elt F) → (⟨S5000x28, .f32⟩ : BufTy).Contents (Elt F)),
    StableHlo.binary main_v79 main_v79 main_v81 (mulf : (⟨S5000x28, .f32⟩ : BufTy).Contents (Elt F) → (⟨S5000x28, .f32⟩ : BufTy).Contents (Elt F) → (⟨S5000x28, .f32⟩ : BufTy).Contents (Elt F)),
    StableHlo.binary main_v80 main_v81 main_v82 (addf : (⟨S5000x28, .f32⟩ : BufTy).Contents (Elt F) → (⟨S5000x28, .f32⟩ : BufTy).Contents (Elt F) → (⟨S5000x28, .f32⟩ : BufTy).Contents (Elt F)),
    StableHlo.nullary main_cst_21 (constant S_ .f32 0x00000000#32),
    StableHlo.binary main_v82 main_cst_21 main_v83 ((fun x v => Host.reduceAdd x v reducesTo_S5000x28_S5000_d1 h_S_) : (⟨S5000x28, .f32⟩ : BufTy).Contents (Elt F) → (⟨S_, .f32⟩ : BufTy).Contents (Elt F) → (⟨S5000, .f32⟩ : BufTy).Contents (Elt F)),
    StableHlo.unary main_v83 main_v84 (broadcastInDim S5000x1 ![0] bcast_S5000_S5000x1_0 : (⟨S5000, .f32⟩ : BufTy).Contents (Elt F) → (⟨S5000x1, .f32⟩ : BufTy).Contents (Elt F)),
    StableHlo.unary main_v84 main_v85 (Host.sqrt : (⟨S5000x1, .f32⟩ : BufTy).Contents (Elt F) → (⟨S5000x1, .f32⟩ : BufTy).Contents (Elt F)),
    StableHlo.nullary main_cst_22 (constant S_ .f32 0x358637BD#32),
    StableHlo.unary main_cst_22 main_v86 (broadcastInDim S5000x1 ![] bcast_S_S5000x1 : (⟨S_, .f32⟩ : BufTy).Contents (Elt F) → (⟨S5000x1, .f32⟩ : BufTy).Contents (Elt F)),
    StableHlo.binary main_v85 main_v86 main_v87 (addf : (⟨S5000x1, .f32⟩ : BufTy).Contents (Elt F) → (⟨S5000x1, .f32⟩ : BufTy).Contents (Elt F) → (⟨S5000x1, .f32⟩ : BufTy).Contents (Elt F)),
    StableHlo.unary main_v87 main_v88 (broadcastInDim S5000x28 ![0, 1] bcast_S5000x1_S5000x28_0_1 : (⟨S5000x1, .f32⟩ : BufTy).Contents (Elt F) → (⟨S5000x28, .f32⟩ : BufTy).Contents (Elt F)),
    StableHlo.binary main_v78 main_v88 main_v89 (Host.divf : (⟨S5000x28, .f32⟩ : BufTy).Contents (Elt F) → (⟨S5000x28, .f32⟩ : BufTy).Contents (Elt F) → (⟨S5000x28, .f32⟩ : BufTy).Contents (Elt F)),
    StableHlo.unary main_v87 main_v90 (broadcastInDim S5000x28 ![0, 1] bcast_S5000x1_S5000x28_0_1 : (⟨S5000x1, .f32⟩ : BufTy).Contents (Elt F) → (⟨S5000x28, .f32⟩ : BufTy).Contents (Elt F)),
    StableHlo.binary main_v79 main_v90 main_v91 (Host.divf : (⟨S5000x28, .f32⟩ : BufTy).Contents (Elt F) → (⟨S5000x28, .f32⟩ : BufTy).Contents (Elt F) → (⟨S5000x28, .f32⟩ : BufTy).Contents (Elt F)) ]

/-- The maxima as a row. -/
abbrev column : List (HloOp τ sig (Elt F)) :=
  [ StableHlo.reshape main_v92_1 main_v93 (rfl : (.f32 : EltTy) = .f32) shapeCasts_S5000x1_S1x5000 ]

/-- 5000 words and 120 of padding. -/
def padWith (a : S5000.Idx → BitVec 32) (b : S120.Idx → BitVec 32) : S5120.Idx → BitVec 32 :=
  concatenate S5120 0 [⟨S5000, a⟩, ⟨S120, b⟩] concatenates_S5000_S120_S5120_d0

/-- The columns flattened and padded to the SparseCores' length. -/
abbrev pads : List (HloOp τ sig (Elt F)) :=
  [ StableHlo.reshape main_v94_0 main_v95 (rfl : (.i32 : EltTy) = .i32) shapeCasts_S5000x1_S5000,
    StableHlo.nullary main_v96 (iotaInDim S120 32 0),
    StableHlo.nullary main_c (constantI S_ 32 5000#32),
    StableHlo.unary main_c main_v97 (broadcastInDim S120 ![] bcast_S_S120 : (⟨S_, .i32⟩ : BufTy).Contents (Elt F) → (⟨S120, .i32⟩ : BufTy).Contents (Elt F)),
    StableHlo.binary main_v97 main_v96 main_v98 (addi : (⟨S120, .i32⟩ : BufTy).Contents (Elt F) → (⟨S120, .i32⟩ : BufTy).Contents (Elt F) → (⟨S120, .i32⟩ : BufTy).Contents (Elt F)),
    StableHlo.binary main_v95 main_v98 main_v99 (padWith : (⟨S5000, .i32⟩ : BufTy).Contents (Elt F) → (⟨S120, .i32⟩ : BufTy).Contents (Elt F) → (⟨S5120, .i32⟩ : BufTy).Contents (Elt F)),
    StableHlo.reshape main_v92_2 main_v100 (rfl : (.i32 : EltTy) = .i32) shapeCasts_S5000x1_S5000,
    StableHlo.nullary main_c_23 (constantI S_ 32 0#32),
    StableHlo.unary main_c_23 main_v101 (broadcastInDim S120 ![] bcast_S_S120 : (⟨S_, .i32⟩ : BufTy).Contents (Elt F) → (⟨S120, .i32⟩ : BufTy).Contents (Elt F)),
    StableHlo.binary main_v100 main_v101 main_v102 (padWith : (⟨S5000, .i32⟩ : BufTy).Contents (Elt F) → (⟨S120, .i32⟩ : BufTy).Contents (Elt F) → (⟨S5120, .i32⟩ : BufTy).Contents (Elt F)),
    StableHlo.reshape main_v94_1 main_v103 (rfl : (.i32 : EltTy) = .i32) shapeCasts_S5000x1_S5000,
    StableHlo.nullary main_c_24 (constantI S_ 32 0#32),
    StableHlo.unary main_c_24 main_v104 (broadcastInDim S120 ![] bcast_S_S120 : (⟨S_, .i32⟩ : BufTy).Contents (Elt F) → (⟨S120, .i32⟩ : BufTy).Contents (Elt F)),
    StableHlo.binary main_v103 main_v104 main_v105 (padWith : (⟨S5000, .i32⟩ : BufTy).Contents (Elt F) → (⟨S120, .i32⟩ : BufTy).Contents (Elt F) → (⟨S5120, .i32⟩ : BufTy).Contents (Elt F)) ]

/-- The first 5000 words. -/
abbrev result : List (HloOp τ sig (Elt F)) :=
  [ StableHlo.unary main_v106 main_v107 ((extractStridedSlice S5000 ![0] · slices_S5120_S5000_0) : (⟨S5120, .i32⟩ : BufTy).Contents (Elt F) → (⟨S5000, .i32⟩ : BufTy).Contents (Elt F)) ]

/-- The operations before the first call, piece by piece. -/
abbrev pieces : List (List (HloOp τ sig (Elt F))) :=
  [ speedsA,
    reluOps (.of main_v7) main_call0,
    layerA,
    remainderOps (.of main_v12) (.of main_cst_2) main_call1,
    hiddenB,
    reluOps (.of main_v17) main_call2,
    layerB,
    remainderOps (.of main_v22) (.of main_cst_3) main_call3,
    advance1,
    remainderOps (.of main_v30) (.of main_cst_6) main_call4,
    advance2,
    remainderOps (.of main_v38) (.of main_cst_9) main_call5,
    advance3,
    remainderOps (.of main_v46) (.of main_cst_12) main_call6,
    advance4,
    remainderOps (.of main_v54) (.of main_cst_15) main_call7,
    advance5,
    remainderOps (.of main_v62) (.of main_cst_18) main_call8,
    units ]

abbrev before : List (HloOp τ sig (Elt F)) := pieces.flatten

set_option maxRecDepth 100000 in
set_option maxHeartbeats 4000000 in
theorem main_eq (d : Dev nD) : main (F := F) d =
    (StableHlo.seq before >>= fun _ => Prog.lift (.customCall (SparseCore.inner (Pipeline.entry 0)) ()) >>= fun _ =>
      StableHlo.seq column >>= fun _ => Prog.lift (.customCall (SparseCore.inner (Pipeline.entry 1)) ()) >>= fun _ =>
      StableHlo.seq pads >>= fun _ => sc.run d 0 >>= fun _ => StableHlo.seq result) := by
  rfl

/-! ## Each operation stays on the TensorCore and frees nothing -/

/-- What the calls' rules ask of an operation. -/
def Plain (op : HloOp τ sig (Elt F)) : Prop := op.bufs ⊆ StableHlo.tcRefs τ sig ∧ op.fresh = ∅

theorem plain_reluOps (a φ) : (reluOps (F := F) a φ).Forall Plain :=
  ⟨⟨StableHlo.nullary_bufs_sub .., rfl⟩, ⟨StableHlo.unary_bufs_sub .., rfl⟩, ⟨StableHlo.binary_bufs_sub .., rfl⟩⟩

theorem plain_remainderOps (a b φ) : (remainderOps (F := F) a b φ).Forall Plain :=
  ⟨⟨StableHlo.unary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.nullary_bufs_sub .., rfl⟩, ⟨StableHlo.binary_bufs_sub .., rfl⟩, ⟨StableHlo.unary_bufs_sub .., rfl⟩, ⟨StableHlo.binary_bufs_sub .., rfl⟩, ⟨StableHlo.binary_bufs_sub .., rfl⟩, ⟨StableHlo.unary_bufs_sub .., rfl⟩, ⟨StableHlo.binary_bufs_sub .., rfl⟩, ⟨StableHlo.ternary_bufs_sub .., rfl⟩⟩

theorem plain_speedsA : (speedsA (F := F)).Forall Plain :=
  ⟨⟨StableHlo.nullary_bufs_sub .., rfl⟩, ⟨StableHlo.unary_bufs_sub .., rfl⟩, ⟨StableHlo.nullary_bufs_sub .., rfl⟩, ⟨StableHlo.unary_bufs_sub .., rfl⟩, ⟨StableHlo.nullary_bufs_sub .., rfl⟩, ⟨StableHlo.unary_bufs_sub .., rfl⟩, ⟨StableHlo.nary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩⟩

theorem plain_layerA : (layerA (F := F)).Forall Plain :=
  ⟨⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_hiddenB : (hiddenB (F := F)).Forall Plain :=
  ⟨⟨StableHlo.binary_bufs_sub .., rfl⟩, ⟨StableHlo.unary_bufs_sub .., rfl⟩, ⟨StableHlo.unary_bufs_sub .., rfl⟩, ⟨StableHlo.binary_bufs_sub .., rfl⟩⟩

theorem plain_layerB : (layerB (F := F)).Forall Plain :=
  ⟨⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_advance1 : (advance1 (F := F)).Forall Plain :=
  ⟨⟨StableHlo.nullary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_advance2 : (advance2 (F := F)).Forall Plain :=
  ⟨⟨StableHlo.nullary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_advance3 : (advance3 (F := F)).Forall Plain :=
  ⟨⟨StableHlo.nullary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_advance4 : (advance4 (F := F)).Forall Plain :=
  ⟨⟨StableHlo.nullary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_advance5 : (advance5 (F := F)).Forall Plain :=
  ⟨⟨StableHlo.nullary_bufs_sub .., rfl⟩, ⟨StableHlo.unary_bufs_sub .., rfl⟩, ⟨StableHlo.binary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩, ⟨StableHlo.nullary_bufs_sub .., rfl⟩⟩

theorem plain_units : (units (F := F)).Forall Plain :=
  ⟨⟨StableHlo.unary_bufs_sub .., rfl⟩, ⟨StableHlo.unary_bufs_sub .., rfl⟩, ⟨StableHlo.binary_bufs_sub .., rfl⟩, ⟨StableHlo.binary_bufs_sub .., rfl⟩, ⟨StableHlo.binary_bufs_sub .., rfl⟩, ⟨StableHlo.nullary_bufs_sub .., rfl⟩, ⟨StableHlo.binary_bufs_sub .., rfl⟩, ⟨StableHlo.unary_bufs_sub .., rfl⟩, ⟨StableHlo.unary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.binary_bufs_sub .., rfl⟩, ⟨StableHlo.unary_bufs_sub .., rfl⟩, ⟨StableHlo.binary_bufs_sub .., rfl⟩, ⟨StableHlo.unary_bufs_sub .., rfl⟩, ⟨StableHlo.unary_bufs_sub .., rfl⟩, ⟨StableHlo.binary_bufs_sub .., rfl⟩, ⟨StableHlo.binary_bufs_sub .., rfl⟩, ⟨StableHlo.binary_bufs_sub .., rfl⟩, ⟨StableHlo.nullary_bufs_sub .., rfl⟩, ⟨StableHlo.binary_bufs_sub .., rfl⟩, ⟨StableHlo.unary_bufs_sub .., rfl⟩, ⟨StableHlo.unary_bufs_sub .., rfl⟩, ⟨StableHlo.nullary_bufs_sub .., rfl⟩, ⟨StableHlo.unary_bufs_sub .., rfl⟩, ⟨StableHlo.binary_bufs_sub .., rfl⟩, ⟨StableHlo.unary_bufs_sub .., rfl⟩, ⟨StableHlo.binary_bufs_sub .., rfl⟩, ⟨StableHlo.unary_bufs_sub .., rfl⟩, ⟨StableHlo.binary_bufs_sub .., rfl⟩⟩

theorem plain_column : (column (F := F)).Forall Plain :=
  ⟨StableHlo.reshape_bufs_sub .., rfl⟩

theorem plain_pads : (pads (F := F)).Forall Plain :=
  ⟨⟨StableHlo.reshape_bufs_sub .., rfl⟩, ⟨StableHlo.nullary_bufs_sub .., rfl⟩, ⟨StableHlo.nullary_bufs_sub .., rfl⟩, ⟨StableHlo.unary_bufs_sub .., rfl⟩, ⟨StableHlo.binary_bufs_sub .., rfl⟩, ⟨StableHlo.binary_bufs_sub .., rfl⟩, ⟨StableHlo.reshape_bufs_sub .., rfl⟩, ⟨StableHlo.nullary_bufs_sub .., rfl⟩, ⟨StableHlo.unary_bufs_sub .., rfl⟩, ⟨StableHlo.binary_bufs_sub .., rfl⟩, ⟨StableHlo.reshape_bufs_sub .., rfl⟩, ⟨StableHlo.nullary_bufs_sub .., rfl⟩, ⟨StableHlo.unary_bufs_sub .., rfl⟩, ⟨StableHlo.binary_bufs_sub .., rfl⟩⟩

theorem plain_result : (result (F := F)).Forall Plain :=
  ⟨StableHlo.unary_bufs_sub .., rfl⟩

theorem plain_before : ∀ op ∈ before (F := F), Plain op := fun op h => by
  obtain ⟨l, hl, h⟩ := List.mem_flatten.1 h
  have hp : (pieces (F := F)).Forall fun l => l.Forall Plain :=
    ⟨plain_speedsA, plain_reluOps _ _, plain_layerA, plain_remainderOps _ _ _, plain_hiddenB, plain_reluOps _ _, plain_layerB, plain_remainderOps _ _ _,
      plain_advance1, plain_remainderOps _ _ _, plain_advance2, plain_remainderOps _ _ _, plain_advance3, plain_remainderOps _ _ _,
      plain_advance4, plain_remainderOps _ _ _, plain_advance5, plain_remainderOps _ _ _, plain_units⟩
  exact List.forall_iff_forall_mem.1 (List.forall_iff_forall_mem.1 hp l hl) op h

end Cert.Proof.Host

end
-- ==== Proof.Pay.lean ====
/-
  What the two grid kernels' bodies compute, read at an index over the extended reals: the similarity of two rows, a row's
  maximum, the first column attaining it, a row's rank among the maxima, and its threshold word.
-/
module

public import proofs.«01_k».proof.Proof.Gen.KernelIdeal.Skeleton
public import Idealize.ShloMosaic.Lib.ValueIdx
public import Idealize.ShloMosaic.Lib.ValueLayout
public import Idealize.ShloMosaic.Lib.MatmulPlain
public import Idealize.ShloMosaic.Lib.WordSum
public import Idealize.ShloMosaic.Lib.Pipeline.Value

@[expose] public section

noncomputable section

namespace Cert.Proof.Pay

open Cert.KernelIdeal Cert.KernelIdeal.Gen
open Idealize.ShloMosaic Idealize.ShloMosaic.ValueIdx
open scoped BigOperators

/-! ## The mathematics -/

/-- The product of two encoded vectors: real parts and imaginary parts. -/
def dot2 (a a' b b' : Fin 28 → EReal) : EReal := ∑ k, a k * b k + ∑ k, a' k * b' k

/-- A row's maximum. -/
def top (s : Fin 5000 → EReal) : EReal := Finset.univ.sup s

theorem fold_max {n : Nat} (s : Fin n → EReal) : (Finset.univ : Finset (Fin n)).fold max ⊥ s = Finset.univ.sup s := rfl

theorem le_top (s : Fin 5000 → EReal) (c : Fin 5000) : s c ≤ top s := Finset.le_sup (Finset.mem_univ c)

theorem exists_top (s : Fin 5000 → EReal) : ∃ c, s c = top s := by
  obtain ⟨c, -, h⟩ := Finset.exists_mem_eq_sup (Finset.univ : Finset (Fin 5000)) Finset.univ_nonempty s
  exact ⟨c, h.symm⟩

/-- The first column attaining the maximum. -/
def first (s : Fin 5000 → EReal) : Fin 5000 :=
  (Finset.univ.filter fun c => s c = top s).min' ((exists_top s).imp fun c h => Finset.mem_filter.2 ⟨Finset.mem_univ c, h⟩)

theorem first_top (s : Fin 5000 → EReal) : s (first s) = top s :=
  (Finset.mem_filter.1 (Finset.min'_mem (Finset.univ.filter fun c => s c = top s) _)).2

theorem first_le (s : Fin 5000 → EReal) {c : Fin 5000} (h : s c = top s) : first s ≤ c :=
  Finset.min'_le (Finset.univ.filter fun c => s c = top s) c (Finset.mem_filter.2 ⟨Finset.mem_univ c, h⟩)

theorem first_eq (s : Fin 5000 → EReal) {c : Fin 5000} (h : s c = top s) (hm : ∀ k, s k = top s → c ≤ k) : first s = c :=
  le_antisymm (first_le s h) (hm _ (first_top s))

/-- How many rows come before a row of maximum `x` and number `n`: those of a larger maximum, and of an equal one those
    of a smaller number. -/
def before (x : EReal) (ms : Fin 5000 → EReal) (n : Nat) : Nat :=
  (Finset.univ.filter fun k : Fin 5000 => x < ms k ∨ (ms k = x ∧ k.val < n)).card

theorem before_le (x : EReal) (ms : Fin 5000 → EReal) (n : Nat) : before x ms n ≤ 5000 :=
  (Finset.card_le_univ _).trans (by simp)

/-- Whether a row's maximum is above the threshold. -/
def above (x : EReal) : BitVec 32 := if Ideal.ofBits .f32 0x3E99999A#32 < x then 1#32 else 0#32

/-! ## Shapes -/

theorem lift_row (r : Fin 512) (k : Fin 5000) : reduces_S512x5000_S512.lift (ix1 r) k = ix2 r k := by
  funext c; apply Fin.ext; fin_cases c <;> rfl

theorem column {α : Type} (x : S512.Idx → α) (r : Fin 512) : shapeCast S512x1 x shapeCasts_S512_S512x1 (ix2 r 0) = x (ix1 r) :=
  shapeCast_apply x _ _ _ (by rw [Shape.rowMajor_val_one, Shape.rowMajor_val_two]; simp)

theorem across {α : Type} (x : S512x1.Idx → α) (r : Fin 512) (c : Fin 5000) :
    broadcastTo S512x5000 x broadcasts_S512x1_S512x5000 (ix2 r c) = x (ix2 r 0) :=
  broadcastTo_apply x _ _ _ fun a => by fin_cases a <;> rfl

theorem down {α : Type} (x : S1x5000.Idx → α) (r : Fin 512) (c : Fin 5000) :
    broadcastTo S512x5000 x broadcasts_S1x5000_S512x5000 (ix2 r c) = x (ix2 0 c) :=
  broadcastTo_apply x _ _ _ fun a => by fin_cases a <;> rfl

theorem same {s : Shape} {α : Type} (x : s.Idx → α) (h : s.ShapeCasts s) : shapeCast s x h = x :=
  funext fun j => shapeCast_apply x h j j rfl

theorem iota_col (r : Fin 512) (c : Fin 5000) :
    iota .tc S512x5000 32 [1] iota_S512x5000_d1_w32 (ix2 r c) = BitVec.ofNat 32 c.val := iota_single_apply ..

theorem iota_row (r : Fin 512) (c : Fin 5000) :
    iota .tc S512x5000 32 [0] iota_S512x5000_d0_w32 (ix2 r c) = BitVec.ofNat 32 r.val := iota_single_apply ..

/-! ## The similarity kernel -/

theorem pay1_apply (v0 v2 : Vec Ideal S512x28 .f32) (v4 v6 : Vec Ideal S5000x28 .f32) (r : Fin 512) (c : Fin 5000) :
    k0_pay1 v0 v2 v4 v6 (ix2 r c)
      = dot2 (fun k => v0 (ix2 r k)) (fun k => v2 (ix2 r k)) (fun k => v4 (ix2 c k)) (fun k => v6 (ix2 c k)) := by
  have h := fun (a : Vec Ideal S512x28 .f32) (b : Vec Ideal S5000x28 .f32) =>
    Ideal.matmul_transposedRhs_apply (φ₁ := .f32) (φ₂ := .f32) none a b (constant (F := Ideal) S512x5000 .f32 0x00000000#32) r c
  have z : (constant (F := Ideal) S512x5000 .f32 0x00000000#32) (ix2 r c) = 0 := by
    show Ideal.ofBits .f32 0x00000000#32 = 0
    simp [Ideal.ofBits, Ideal.ieee]
  simp only [z, zero_add] at h
  unfold k0_pay1
  simp only [same]
  exact congrArg₂ (fun x y : EReal => x + y) (h v0 v4) (h v2 v6)

theorem pay2_apply (v0 v2 : Vec Ideal S512x28 .f32) (v4 v6 : Vec Ideal S5000x28 .f32) (r : Fin 512) :
    k0_pay2 v0 v2 v4 v6 (ix2 r 0) = top fun c => k0_pay1 v0 v2 v4 v6 (ix2 r c) := by
  unfold k0_pay2
  refine (column _ r).trans ((Ideal.multiReduction_maximumf_single _ _ _ _ _ _).trans ?_)
  have hb : (FloatOps.ofBits (F := Ideal) .f32 0xFF800000#32 : EReal) = ⊥ := by
    show Ideal.ofBits .f32 0xFF800000#32 = ⊥
    simp [Ideal.ofBits, Ideal.ieee]
  rw [hb]
  have he : (k0_pay1 v0 v2 v4 v6 ∘ reduces_S512x5000_S512.lift (ix1 r) : Fin 5000 → EReal) = fun c => k0_pay1 v0 v2 v4 v6 (ix2 r c) :=
    funext fun k => congrArg (k0_pay1 v0 v2 v4 v6) (lift_row r k)
  exact (fold_max (n := 5000) _).trans (congrArg (fun f : Fin 5000 → EReal => top f) he)

/-! ## The rank kernel -/

theorem bit_one {p : Prop} [Decidable p] : (BitVec.ofBool (decide p)) = if p then 1#1 else 0#1 := by by_cases h : p <;> simp [h]

theorem pay3_rank (v0 : Vec Ideal S512x1 .f32) (r : Fin 512) : k1_pay3 v0 (ix2 r 0) = above (v0 (ix2 r 0)) := by
  unfold k1_pay3 k1_pay1
  simp only [same]
  show (BitVec.ofBool (decide (Ideal.ofBits .f32 0x3E99999A#32 < v0 (ix2 r 0)))).setWidth 32 = above (v0 (ix2 r 0))
  unfold above
  by_cases h : Ideal.ofBits .f32 0x3E99999A#32 < v0 (ix2 r 0) <;> simp [h]

theorem toInt_small {n : Nat} (hn : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem slt_small {a b : Nat} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  unfold BitVec.slt
  rw [toInt_small ha, toInt_small hb]
  simp

/-- What column `c` adds to a row's rank. -/
theorem term_rank (i : grid1.Coords) (x : EReal) (y : EReal) (c : Fin 5000) (r : Fin 512) :
    (BitVec.setWidth 32 (BitVec.ofBool (decide (x < y))) : BitVec 32)
        + BitVec.setWidth 32 (BitVec.ofBool (decide (y = x))
            &&& IntOp.cmpi .slt (BitVec.ofNat 32 c.val) (Scalar.muli (BitVec.ofNat 32 (i 0).val) 512#32 + BitVec.ofNat 32 r.val))
      = if x < y ∨ (y = x ∧ c.val < 512 * (i 0).val + r.val) then 1#32 else 0#32 := by
  have hi : (i 0).val < 10 := (i 0).isLt
  have hc := c.isLt
  have hr := r.isLt
  have hm : Scalar.muli (BitVec.ofNat 32 (i 0).val) 512#32 + BitVec.ofNat 32 r.val = BitVec.ofNat 32 (512 * (i 0).val + r.val) := by
    show BitVec.ofNat 32 (i 0).val * 512#32 + BitVec.ofNat 32 r.val = _
    apply BitVec.eq_of_toNat_eq
    simp only [BitVec.toNat_add, BitVec.toNat_mul, BitVec.toNat_ofNat]
    omega
  rw [hm, slt_small (by omega) (by omega)]
  by_cases h1 : x < y
  · have h2 : ¬ y = x := fun e => lt_irrefl _ (e ▸ h1)
    simp [h1, h2]
  · by_cases h2 : y = x
    · subst h2
      by_cases h3 : c.val < 512 * (i 0).val + r.val <;> simp [h3]
    · simp [h1, h2]

theorem row_sum (src : IVec S512x5000 32) (r : Fin 512) :
    multiReductionI .add [1] S512 src 0#32 reduces_S512x5000_S512 rfl (ix1 r) = ∑ k : Fin 5000, src (ix2 r k) := by
  show reduceFold reduces_S512x5000_S512 (· + ·) (0#32 : BitVec 32) src (ix1 r) = _
  rw [reduceFold_add_eq_sum, show (0#32 : BitVec 32) = 0 from rfl, zero_add, Shape.Reduces.sum_filter_drop_single]
  exact Finset.sum_congr rfl fun (k : Fin 5000) _ => congrArg src (lift_row r k)

theorem sum_bits {n : Nat} (p : Fin n → Prop) [DecidablePred p] :
    (∑ k, if p k then 1#32 else 0#32) = BitVec.ofNat 32 (Finset.univ.filter p).card :=
  (Finset.sum_boole p (Finset.univ : Finset (Fin n)) (R := BitVec 32)).trans (BitVec.natCast_eq_ofNat ..)

theorem pay2_rank (i : grid1.Coords) (v0 : Vec Ideal S512x1 .f32) (v2 : Vec Ideal S1x5000 .f32) (r : Fin 512) :
    k1_pay2 i v0 v2 (ix2 r 0) = BitVec.ofNat 32 (before (v0 (ix2 r 0)) (fun k => v2 (ix2 0 k)) (512 * (i 0).val + r.val)) := by
  unfold k1_pay2 k1_pay1
  simp only [same]
  refine (column _ r).trans ((row_sum _ r).trans ?_)
  refine (Finset.sum_congr rfl fun (k : Fin 5000) _ => (?_ : _ = if v0 (ix2 r 0) < v2 (ix2 0 k) ∨ (v2 (ix2 0 k) = v0 (ix2 r 0) ∧ k.val < 512 * (i 0).val + r.val) then 1#32 else 0#32)).trans (sum_bits _)
  rw [← term_rank i _ _ k r, ← down v2 r k, ← across v0 r k]
  show _ + (_ &&& _ : BitVec 1).setWidth 32 = _
  rw [← iota_col r k, ← iota_row r k]
  rfl

/-! ## The first column of the maximum -/

/-- A fold of the signed minimum is at most its start and every value met, and is one of them. -/
theorem foldl_min {ι : Type} (g : ι → BitVec 32) : ∀ (l : List ι) (a : BitVec 32),
    ((l.foldl (fun r i => IntOp.minsi r (g i)) a).toInt ≤ a.toInt)
      ∧ (∀ i ∈ l, (l.foldl (fun r i => IntOp.minsi r (g i)) a).toInt ≤ (g i).toInt)
      ∧ (l.foldl (fun r i => IntOp.minsi r (g i)) a = a ∨ ∃ i ∈ l, l.foldl (fun r i => IntOp.minsi r (g i)) a = g i)
  | [], a => ⟨le_rfl, fun _ h => (List.not_mem_nil h).elim, .inl rfl⟩
  | x :: l, a => by
    obtain ⟨h1, h2, h3⟩ := foldl_min g l (IntOp.minsi a (g x))
    have hm : (IntOp.minsi a (g x)).toInt ≤ a.toInt ∧ (IntOp.minsi a (g x)).toInt ≤ (g x).toInt
        ∧ (IntOp.minsi a (g x) = a ∨ IntOp.minsi a (g x) = g x) := by
      unfold IntOp.minsi
      by_cases h : a.slt (g x) = true
      · rw [if_pos h]; exact ⟨le_rfl, (BitVec.slt_iff_toInt_lt.1 h).le, .inl rfl⟩
      · rw [if_neg h]; exact ⟨not_lt.1 fun e => h (BitVec.slt_iff_toInt_lt.2 e), le_rfl, .inr rfl⟩
    refine ⟨h1.trans hm.1, fun i hi => ?_, ?_⟩
    · rcases List.mem_cons.1 hi with rfl | hi
      · exact h1.trans hm.2.1
      · exact h2 i hi
    · rcases h3 with h3 | ⟨i, hi, h3⟩
      · rcases hm.2.2 with e | e
        · exact .inl (h3.trans e)
        · exact .inr ⟨x, List.mem_cons_self, h3.trans e⟩
      · exact .inr ⟨i, List.mem_cons_of_mem _ hi, h3⟩

/-- The smallest number among a row's columns of the maximum, 5000 standing at the others. -/
theorem row_min (src : IVec S512x5000 32) (r : Fin 512) (s : Fin 5000 → EReal)
    (hs : ∀ c, src (ix2 r c) = if s c = top s then BitVec.ofNat 32 c.val else 5000#32) :
    multiReductionI .minsi [1] S512 src 2147483647#32 reduces_S512x5000_S512 rfl (ix1 r) = BitVec.ofNat 32 (first s).val := by
  show reduceFold reduces_S512x5000_S512 IntOp.minsi (2147483647#32 : BitVec 32) src (ix1 r) = _
  rw [reduceFold_eq_foldl]
  obtain ⟨h1, h2, h3⟩ := foldl_min src (((List.finRange S512x5000.numel).map S512x5000.rowMajor.symm).filter
    fun i => reduces_S512x5000_S512.drop i = ix1 r) 2147483647#32
  have hf : (first s).val < 5000 := (first s).isLt
  have mem : ∀ i : S512x5000.Idx, i ∈ ((List.finRange S512x5000.numel).map S512x5000.rowMajor.symm).filter
      (fun i => reduces_S512x5000_S512.drop i = ix1 r) ↔ reduces_S512x5000_S512.drop i = ix1 r := fun i => by
    rw [List.mem_filter]
    simp only [decide_eq_true_eq, and_iff_right_iff_imp]
    exact fun _ => List.mem_map.2 ⟨S512x5000.rowMajor i, List.mem_finRange _, Equiv.symm_apply_apply _ _⟩
  have row : ∀ i : S512x5000.Idx, reduces_S512x5000_S512.drop i = ix1 r → ∃ c : Fin 5000, i = ix2 r c := fun i hi =>
    ⟨i 1, by rw [← lift_row r (i 1), ← hi]; exact (reduces_S512x5000_S512.lift_drop i).symm⟩
  have lo : (List.foldl (fun r i => IntOp.minsi r (src i)) 2147483647#32 (((List.finRange S512x5000.numel).map S512x5000.rowMajor.symm).filter
    fun i => reduces_S512x5000_S512.drop i = ix1 r)).toInt ≤ ((first s).val : ℤ) := by
    have := h2 (ix2 r (first s)) ((mem _).2 (by rw [← lift_row r (first s)]; exact reduces_S512x5000_S512.drop_lift _ _))
    rwa [hs, if_pos (first_top s), toInt_small (by omega)] at this
  have hi : ((first s).val : ℤ) ≤ (List.foldl (fun r i => IntOp.minsi r (src i)) 2147483647#32 (((List.finRange S512x5000.numel).map S512x5000.rowMajor.symm).filter
    fun i => reduces_S512x5000_S512.drop i = ix1 r)).toInt := by
    rcases h3 with h3 | ⟨i, hi, h3⟩
    · rw [h3, show (2147483647#32 : BitVec 32).toInt = 2147483647 from rfl]; omega
    · obtain ⟨c, rfl⟩ := row i ((mem i).1 hi)
      have hc := c.isLt
      rw [h3, hs]
      by_cases h : s c = top s
      · rw [if_pos h, toInt_small (by omega)]; exact_mod_cast first_le s h
      · rw [if_neg h, show (5000#32 : BitVec 32).toInt = 5000 from rfl]; omega
  apply BitVec.eq_of_toInt_eq
  rw [toInt_small (by omega)]
  exact le_antisymm lo hi

theorem pay3_apply (v0 v2 : Vec Ideal S512x28 .f32) (v4 v6 : Vec Ideal S5000x28 .f32) (r : Fin 512) :
    k0_pay3 v0 v2 v4 v6 (ix2 r 0) = BitVec.ofNat 32 (first fun c => k0_pay1 v0 v2 v4 v6 (ix2 r c)).val := by
  unfold k0_pay3
  refine (column _ r).trans (row_min _ r _ fun c => ?_)
  rw [← pay2_apply, ← iota_col r c, ← across (k0_pay2 v0 v2 v4 v6) r c]
  show Scalar.select (BitVec.ofBool (decide (k0_pay1 v0 v2 v4 v6 (ix2 r c) = _))) _ _ = _
  by_cases h : k0_pay1 v0 v2 v4 v6 (ix2 r c) = broadcastTo S512x5000 (k0_pay2 v0 v2 v4 v6) broadcasts_S512x1_S512x5000 (ix2 r c)
  · rw [if_pos h, decide_eq_true h]; rfl
  · rw [if_neg h, decide_eq_false h]; rfl

/-! ## At any index of a block -/

theorem ix_col (x : S512x1.Idx) : x = ix2 (x 0 : Fin 512) (0 : Fin 1) :=
  (eq_ix2 x).trans (congrArg (ix2 (x 0 : Fin 512)) (Subsingleton.elim (α := Fin 1) _ _))

theorem rank_at (i : grid1.Coords) (v0 : Vec Ideal S512x1 .f32) (v2 : Vec Ideal S1x5000 .f32) (x : S512x1.Idx) :
    k1_pay2 i v0 v2 x = BitVec.ofNat 32 (before (v0 x) (fun k => v2 (ix2 0 k)) (512 * (i 0).val + (x 0).val)) := by
  obtain ⟨r, rfl⟩ : ∃ r : Fin 512, x = ix2 r 0 := ⟨_, ix_col x⟩
  exact pay2_rank i v0 v2 r

theorem word_at (v0 : Vec Ideal S512x1 .f32) (x : S512x1.Idx) : k1_pay3 v0 x = above (v0 x) := by
  obtain ⟨r, rfl⟩ : ∃ r : Fin 512, x = ix2 r 0 := ⟨_, ix_col x⟩
  exact pay3_rank v0 r

/-- A block row's similarities. -/
def simRow (v0 v2 : Vec Ideal S512x28 .f32) (v4 v6 : Vec Ideal S5000x28 .f32) (r : Fin 512) (c : Fin 5000) : EReal :=
  dot2 (fun k => v0 (ix2 r k)) (fun k => v2 (ix2 r k)) (fun k => v4 (ix2 c k)) (fun k => v6 (ix2 c k))

theorem sim_at (v0 v2 : Vec Ideal S512x28 .f32) (v4 v6 : Vec Ideal S5000x28 .f32) (x : S512x5000.Idx) :
    k0_pay1 v0 v2 v4 v6 x = simRow v0 v2 v4 v6 (x 0) (x 1) :=
  (congrArg (k0_pay1 v0 v2 v4 v6) (eq_ix2 x)).trans (pay1_apply v0 v2 v4 v6 (x 0 : Fin 512) (x 1 : Fin 5000))

theorem top_at (v0 v2 : Vec Ideal S512x28 .f32) (v4 v6 : Vec Ideal S5000x28 .f32) (x : S512x1.Idx) :
    k0_pay2 v0 v2 v4 v6 x = top (simRow v0 v2 v4 v6 (x 0)) := by
  obtain ⟨r, rfl⟩ : ∃ r : Fin 512, x = ix2 r 0 := ⟨_, ix_col x⟩
  exact (pay2_apply v0 v2 v4 v6 r).trans (congrArg top (funext fun c => pay1_apply v0 v2 v4 v6 r c))

theorem first_at (v0 v2 : Vec Ideal S512x28 .f32) (v4 v6 : Vec Ideal S5000x28 .f32) (x : S512x1.Idx) :
    k0_pay3 v0 v2 v4 v6 x = BitVec.ofNat 32 (first (simRow v0 v2 v4 v6 (x 0))).val := by
  obtain ⟨r, rfl⟩ : ∃ r : Fin 512, x = ix2 r 0 := ⟨_, ix_col x⟩
  exact (pay3_apply v0 v2 v4 v6 r).trans (congrArg (fun s => BitVec.ofNat 32 (first s).val) (funext fun c => pay1_apply v0 v2 v4 v6 r c))

end Cert.Proof.Pay

end
-- ==== Proof.Scatter.lean ====
/-
  An indexed store into a tile's memory, read at one index: the stored word where a set lane names the index (and every
  set lane naming it stores that word), the old word where none does. And the greedy body's window as a statement about
  its lanes: a lane claims its column iff its row passes the threshold, the column is not used yet and no lower lane of the
  window names it.
-/
module

public import proofs.«01_k».proof.Proof.Gen.KernelIdeal.Skeleton

@[expose] public section

noncomputable section

namespace Cert.Proof.Scatter

open Cert.KernelIdeal Cert.KernelIdeal.Gen
open Idealize.ShloMosaic Idealize.SL.Sem

variable {F : FTy → Type} [FloatOps F]

section Store

variable {s : Shape} {e : EltTy} {d : Fin 1 → Nat}
variable (f : Vec F s e) (idxs : Fin s.rank → IVec ⟨1, d⟩ 32) (v : Vec F ⟨1, d⟩ e) (mask : IVec ⟨1, d⟩ 1)
variable (h : ∀ a x, (idxs a x).toNat < s.size a)

/-- One lane of the store. -/
def lane (g : Vec F s e) (x : (⟨1, d⟩ : Shape).Idx) : Vec F s e :=
  if mask x = 1 then fun j => if (∀ a, (j a).val = (idxAt idxs h x a).val) then v x else g j else g

theorem storeIdx_eq_lanes :
    storeIdx f idxs v mask false h = (List.finRange (d 0)).foldl (fun g k => lane idxs v mask h g (Shape.ofLane k)) f := by
  unfold storeIdx lane
  simp only [Bool.false_eq_true, if_false]

theorem lane_hit {g : Vec F s e} {x : (⟨1, d⟩ : Shape).Idx} {j : s.Idx} (hm : mask x = 1) (hx : idxAt idxs h x = j) :
    lane idxs v mask h g x j = v x := by
  unfold lane
  rw [if_pos hm, if_pos (fun a => by rw [hx])]

theorem lane_miss {g : Vec F s e} {x : (⟨1, d⟩ : Shape).Idx} {j : s.Idx} (hx : mask x = 1 → idxAt idxs h x ≠ j) :
    lane idxs v mask h g x j = g j := by
  unfold lane
  split
  · next hm => exact if_neg fun hj => hx hm (funext fun a => Fin.ext (hj a).symm)
  · rfl

theorem lanes_none (l : List (Fin (d 0))) (g : Vec F s e) (j : s.Idx)
    (hn : ∀ k ∈ l, mask (Shape.ofLane k) = 1 → idxAt idxs h (Shape.ofLane k) ≠ j) :
    l.foldl (fun g k => lane idxs v mask h g (Shape.ofLane k)) g j = g j := by
  induction l generalizing g with
  | nil => rfl
  | cons k l ih =>
    rw [List.foldl_cons, ih _ fun k' hk' => hn k' (List.mem_cons_of_mem _ hk'),
      lane_miss idxs v mask h (hn k List.mem_cons_self)]

theorem lanes_some (l : List (Fin (d 0))) (g : Vec F s e) (j : s.Idx) (y : Elt F e)
    (hy : ∀ k ∈ l, mask (Shape.ofLane k) = 1 → idxAt idxs h (Shape.ofLane k) = j → v (Shape.ofLane k) = y)
    (hg : g j = y ∨ ∃ k ∈ l, mask (Shape.ofLane k) = 1 ∧ idxAt idxs h (Shape.ofLane k) = j) :
    l.foldl (fun g k => lane idxs v mask h g (Shape.ofLane k)) g j = y := by
  induction l generalizing g with
  | nil => exact hg.resolve_right fun ⟨_, hk, _⟩ => absurd hk List.not_mem_nil
  | cons k l ih =>
    rw [List.foldl_cons]
    refine ih _ (fun k' hk' => hy k' (List.mem_cons_of_mem _ hk')) ?_
    by_cases hk : mask (Shape.ofLane k) = 1 ∧ idxAt idxs h (Shape.ofLane k) = j
    · exact .inl ((lane_hit idxs v mask h hk.1 hk.2).trans (hy k List.mem_cons_self hk.1 hk.2))
    · rcases hg with hg | ⟨k', hk', hm, hx⟩
      · exact .inl ((lane_miss idxs v mask h fun hm hx => hk ⟨hm, hx⟩).trans hg)
      · rcases List.mem_cons.mp hk' with rfl | hk'
        · exact absurd ⟨hm, hx⟩ hk
        · exact .inr ⟨k', hk', hm, hx⟩

theorem ofLane_zero (x : (⟨1, d⟩ : Shape).Idx) : Shape.ofLane (d := d) (x 0) = x := by
  funext a
  obtain rfl : a = 0 := Subsingleton.elim _ _
  rfl

/-- A named index: what the lanes that name it store. -/
theorem storeIdx_hit {j : s.Idx} (x : (⟨1, d⟩ : Shape).Idx) (hm : mask x = 1) (hx : idxAt idxs h x = j)
    (hy : ∀ y, mask y = 1 → idxAt idxs h y = j → v y = v x) : storeIdx f idxs v mask false h j = v x := by
  rw [storeIdx_eq_lanes]
  refine lanes_some idxs v mask h _ _ j (v x) (fun k _ hm hk => hy _ hm hk) (.inr ⟨x 0, List.mem_finRange _, ?_, ?_⟩)
  · rw [ofLane_zero]; exact hm
  · rw [ofLane_zero]; exact hx

/-- An index no set lane names keeps its word. -/
theorem storeIdx_miss {j : s.Idx} (hn : ∀ y, mask y = 1 → idxAt idxs h y ≠ j) : storeIdx f idxs v mask false h j = f j := by
  rw [storeIdx_eq_lanes]
  exact lanes_none idxs v mask h _ _ j fun _ _ => hn _

end Store

/-! ## The window's claim -/

/-- The index of lane `n`. -/
def ln (n : Nat) (h : n < 16) : S16.Idx := fun a => ⟨n, by obtain rfl : a = 0 := Subsingleton.elim _ _; exact h⟩

theorem ln_self (x : S16.Idx) : ln (x 0).val (x 0).isLt = x := by
  funext a
  obtain rfl : a = 0 := Subsingleton.elim _ _
  rfl

/-- The lanes' numbers. -/
abbrev lanes : IVec S16 32 := iota .scVector S16 32 [0] iota_S16_d0_w32_scVector

theorem lanes_apply (x : S16.Idx) : lanes x = BitVec.ofNat 32 (x 0).val := by
  simp [lanes, iota]

/-- The lanes moved up by `a` around the window. -/
abbrev perm (a : BitVec 32) : IVec S16 32 := andi (addi lanes (broadcast S16 a)) (broadcast S16 15#32)

theorem perm_toNat (a : BitVec 32) (ha : a.toNat < 16) (x : S16.Idx) : (perm a x).toNat = ((x 0).val + a.toNat) % 16 := by
  have hx : (x 0).val < 16 := (x 0).isLt
  show (IntOp.andi (IntOp.addi (lanes x) a) 15#32).toNat = _
  rw [lanes_apply]
  unfold IntOp.andi IntOp.addi
  rw [BitVec.toNat_and, BitVec.toNat_add, BitVec.toNat_ofNat, show (15#32 : BitVec 32).toNat = 2 ^ 4 - 1 from rfl, Nat.and_two_pow_sub_one_eq_mod]
  omega

theorem perm_lt (a : BitVec 32) (ha : a.toNat < 16) (b : Fin 1) (x : S16.Idx) : ((![perm a] : Fin 1 → IVec S16 32) b x).toNat < S16.size b := by
  obtain rfl : b = 0 := Subsingleton.elim _ _
  show (perm a x).toNat < 16
  rw [perm_toNat a ha]
  exact Nat.mod_lt _ (by decide)

/-- The window's words moved down by `a` lanes around the window. -/
def roll {α : Type} (v : S16.Idx → α) (a : Nat) : S16.Idx → α := fun x => v (ln (((x 0).val + a) % 16) (Nat.mod_lt _ (by decide)))

theorem loadIdx_perm (v : Vec F S16 .i32) (a : BitVec 32) (ha : a.toNat < 16)
    (h : ∀ b x, ((![perm a] : Fin 1 → IVec S16 32) b x).toNat < S16.size b) : loadIdx v ![perm a] h = roll v a.toNat := by
  funext x
  show v _ = v _
  congr 1
  funext b
  obtain rfl : b = 0 := Subsingleton.elim _ _
  exact Fin.ext (perm_toNat a ha x)

/-- A lower lane of the window names the same column. -/
def Seen (v : S16.Idx → BitVec 32) (x : S16.Idx) : Prop := ∃ y : S16.Idx, (y 0).val < (x 0).val ∧ v y = v x

theorem andi_one {s : Shape} {a b : IVec s 1} {x : s.Idx} : andi a b x = 1#1 ↔ a x = 1#1 ∧ b x = 1#1 := by
  show a x &&& b x = 1#1 ↔ _
  generalize a x = p; generalize b x = q
  revert p q; decide

theorem ori_one {s : Shape} {a b : IVec s 1} {x : s.Idx} : ori a b x = 1#1 ↔ a x = 1#1 ∨ b x = 1#1 := by
  show a x ||| b x = 1#1 ↔ _
  generalize a x = p; generalize b x = q
  revert p q; decide

theorem xori_one {s : Shape} {a : IVec s 1} {x : s.Idx} : xori a (constantI s 1 1#1) x = 1#1 ↔ ¬ a x = 1#1 := by
  show a x ^^^ 1#1 = 1#1 ↔ _
  generalize a x = p
  revert p; decide

theorem cmp_eq_one {s : Shape} {w : Nat} {a b : IVec s w} {x : s.Idx} : cmpi .eq a b x = 1#1 ↔ a x = b x := by
  show BitVec.ofBool (a x == b x) = 1#1 ↔ _
  by_cases h : a x = b x
  · simp [h]
  · simp [h, beq_eq_false_iff_ne.mpr h]

theorem false_one {s : Shape} {x : s.Idx} : broadcast s (0#1) x = 1#1 ↔ False := by
  show (0#1 : BitVec 1) = 1#1 ↔ _
  decide

theorem lane_ge (n : Nat) (hn : n < 16) (x : S16.Idx) : cmpi .sge lanes (broadcast S16 (BitVec.ofNat 32 n)) x = 1#1 ↔ n ≤ (x 0).val := by
  show BitVec.ofBool ((BitVec.ofNat 32 n).sle (lanes x)) = 1#1 ↔ _
  have hx : (x 0).val < 16 := (x 0).isLt
  rw [lanes_apply]
  generalize (x 0).val = k at hx
  revert n k
  decide

theorem seen_iff (v : S16.Idx → BitVec 32) (x : S16.Idx) :
    Seen v x ↔ ∃ n, 1 ≤ n ∧ n < 16 ∧ roll v (16 - n) x = v x ∧ n ≤ (x 0).val := by
  have hx : (x 0).val < 16 := (x 0).isLt
  have key : ∀ n, n ≤ (x 0).val → 1 ≤ n → roll v (16 - n) x = v (ln ((x 0).val - n) (by omega)) := by
    intro n hn h1
    unfold roll
    congr 2
    omega
  constructor
  · rintro ⟨y, hy, hv⟩
    refine ⟨(x 0).val - (y 0).val, by omega, by omega, ?_, by omega⟩
    rw [key _ (by omega) (by omega), ← hv]
    congr 1
    refine Eq.trans ?_ (ln_self y)
    congr 1
    omega
  · rintro ⟨n, h1, h2, hv, hn⟩
    refine ⟨ln ((x 0).val - n) (by omega), ?_, ?_⟩
    · show (x 0).val - n < (x 0).val
      omega
    · rw [← hv, key n hn h1]

/-- The claim of a window, over its columns `v12`, its threshold words `v13` and its columns' used words `v14`. -/
abbrev claim (v12 v13 v14 : Vec F S16 .i32) : IVec S16 1 :=
  k2_pay25 lanes v12 v13 v14
    (k2_pay18 lanes v12
      (k2_pay13 lanes v12 (k2_pay7 lanes v12 (roll v12 15) (roll v12 14) (roll v12 13))
        (roll v12 12) (roll v12 11) (roll v12 10) (roll v12 9))
      (roll v12 8) (roll v12 7) (roll v12 6) (roll v12 5))
    (k2_pay20 v12 (roll v12 4)) k2_pay21 (roll v12 3) (roll v12 2) (roll v12 1)

theorem claim_iff (v12 v13 v14 : Vec F S16 .i32) (x : S16.Idx) :
    claim v12 v13 v14 x = 1#1 ↔ (v13 x = 1#32 ∧ v14 x = 0#32) ∧ ¬ Seen v12 x := by
  unfold claim k2_pay25 k2_pay18 k2_pay13 k2_pay7 k2_pay20 k2_pay21
  simp only [andi_one, ori_one, xori_one, cmp_eq_one, false_one, lane_ge _ (show 1 < 16 by decide), lane_ge _ (show 2 < 16 by decide),
    lane_ge _ (show 3 < 16 by decide), lane_ge _ (show 4 < 16 by decide), lane_ge _ (show 5 < 16 by decide), lane_ge _ (show 6 < 16 by decide),
    lane_ge _ (show 7 < 16 by decide), lane_ge _ (show 8 < 16 by decide), lane_ge _ (show 9 < 16 by decide), lane_ge _ (show 10 < 16 by decide),
    lane_ge _ (show 11 < 16 by decide), lane_ge _ (show 12 < 16 by decide), lane_ge _ (show 13 < 16 by decide), lane_ge _ (show 14 < 16 by decide),
    lane_ge _ (show 15 < 16 by decide)]
  refine and_congr Iff.rfl (not_congr ?_)
  rw [seen_iff]
  constructor
  · rintro (((((((((((((((h | h) | h) | h) | h) | h) | h) | h) | h) | h) | h) | h) | h) | h) | h) | h)
    · exact h.elim
    all_goals exact ⟨_, by omega, by omega, h.1, h.2⟩
  · rintro ⟨n, h1, h2, h3, h4⟩
    obtain rfl | rfl | rfl | rfl | rfl | rfl | rfl | rfl | rfl | rfl | rfl | rfl | rfl | rfl | rfl :
        n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
    all_goals simp only [Nat.reduceSub] at h3; simp [h3, h4]

end Cert.Proof.Scatter

end
-- ==== Proof.Greedy.lean ====
/-
  The greedy matching on the tile, as a statement about the words its loops leave.

  The rows come with a rank each (a permutation), a column each and a threshold word each; rows that pass the threshold have
  the lower ranks. Row `i` is matched to its column iff it passes the threshold and no row of a lower rank names the same
  column (`matched`). The first loop inverts the ranks (`OrderTo`) and clears the used words (`ZeroTo`); the second walks the
  rows in the order of their ranks, a window of sixteen at a time (`UsedAt`, `MatchAt`).
-/
module

public import proofs.«01_k».proof.Proof.Scatter

@[expose] public section

noncomputable section

namespace Cert.Proof.Greedy

open Cert.KernelIdeal Cert.KernelIdeal.Gen
open Idealize.ShloMosaic Idealize.SL.Sem
open Cert.Proof.Scatter

variable {F : FTy → Type} [FloatOps F]

/-- A row's word for each of the 5120 rows. -/
abbrev Words : Type := S5120.Idx → BitVec 32

/-- The index `n` of 5120. -/
def ix (n : Nat) (h : n < 5120) : S5120.Idx := fun a => ⟨n, by obtain rfl : a = 0 := Subsingleton.elim _ _; exact h⟩

theorem idx_ext {i j : S5120.Idx} (h : (i 0).val = (j 0).val) : i = j := by
  funext a
  obtain rfl : a = 0 := Subsingleton.elim _ _
  exact Fin.ext h

theorem idx_lt (i : S5120.Idx) : (i 0).val < 5120 := (i 0).isLt

/-- What the ranks, the columns and the threshold words satisfy. -/
structure Ok (rank mi thr : Words) : Prop where
  lt : ∀ i, (rank i).toNat < 5120
  inj : ∀ i j, rank i = rank j → i = j
  mi_lt : ∀ i, (mi i).toNat < 5120
  sorted : ∀ i j, (rank j).toNat < (rank i).toNat → thr i = 1#32 → thr j = 1#32

open scoped Classical in
/-- Row `i`'s match: its column, if it passes the threshold and no row of a lower rank names that column; else −1. -/
def matched (rank mi thr : Words) : Words := fun i =>
  if thr i = 1#32 ∧ ∀ j, (rank j).toNat < (rank i).toNat → mi j ≠ mi i then mi i else 4294967295#32

variable {rank mi thr : Words}

theorem Ok.surj (h : Ok rank mi thr) (r : Nat) (hr : r < 5120) : ∃ i, (rank i).toNat = r := by
  have hinj : Function.Injective fun n : Fin 5120 => (⟨(rank (ix n.val n.isLt)).toNat, h.lt _⟩ : Fin 5120) := by
    intro n n' e
    have e' : (rank (ix n.val n.isLt)).toNat = (rank (ix n'.val n'.isLt)).toNat :=
      congrArg (fun x : Fin 5120 => x.val) e
    have := h.inj _ _ (BitVec.eq_of_toNat_eq e')
    exact Fin.ext (congrArg (fun i : S5120.Idx => (i 0).val) this)
  obtain ⟨n, hn⟩ := Finite.injective_iff_surjective.mp hinj ⟨r, hr⟩
  exact ⟨_, congrArg Fin.val hn⟩

/-! ## The first loop -/

/-- The first `16 k` rows stand at their ranks. -/
def OrderTo (rank : Words) (k : Nat) (order : Words) : Prop :=
  ∀ i j : S5120.Idx, (i 0).val < 16 * k → (j 0).val = (rank i).toNat → order j = BitVec.ofNat 32 (i 0).val

/-- The first `16 k` words are zero. -/
def ZeroTo (k : Nat) (used : Words) : Prop := ∀ j : S5120.Idx, (j 0).val < 16 * k → used j = 0#32

theorem iv_toNat (k : Nat) (hk : k < 320) : (Scf.iv 0#32 1#32 k).toNat = k := by
  unfold Scf.iv
  simp [BitVec.toNat_add, BitVec.toNat_mul]
  omega

theorem order_step (h : Ok rank mi thr) {k : Nat} (hk : k < 320) {order : Words} (ho : OrderTo rank k order)
    {v11 w : IVec S16 32} (hv : ∀ (x : S16.Idx) (i : S5120.Idx), (i 0).val = 16 * k + (x 0).val → v11 x = rank i)
    (hw : ∀ x : S16.Idx, w x = BitVec.ofNat 32 (16 * k + (x 0).val))
    (hb : ∀ a x, ((![v11] : Fin 1 → IVec S16 32) a x).toNat < S5120.size a) :
    OrderTo rank (k + 1) (storeIdx (F := F) (e := .i32) order ![v11] w (fun _ => 1#1) false hb) := by
  intro i j hi hj
  have hrow : ∀ x : S16.Idx, (16 * k + (x 0).val) < 5120 := fun x => by have : (x 0).val < 16 := (x 0).isLt; omega
  by_cases hik : (i 0).val < 16 * k
  · rw [storeIdx_miss (F := F) (e := .i32) order ![v11] w _ hb, ho i j hik hj]
    intro x _ hx
    have e : (v11 x).toNat = (j 0).val := congrArg (fun i : S5120.Idx => (i 0).val) hx
    rw [hv x (ix _ (hrow x)) rfl, hj] at e
    have := congrArg (fun i : S5120.Idx => (i 0).val) (h.inj _ _ (BitVec.eq_of_toNat_eq e))
    change 16 * k + (x 0).val = (i 0).val at this
    omega
  · have hl : (i 0).val - 16 * k < 16 := by omega
    have hx : idxAt ![v11] hb (ln ((i 0).val - 16 * k) hl) = j := by
      apply idx_ext
      show (v11 _).toNat = _
      rw [hv _ i (by show _ = 16 * k + ((i 0).val - 16 * k); omega), hj]
    rw [storeIdx_hit (F := F) (e := .i32) order ![v11] w _ hb (ln ((i 0).val - 16 * k) hl) rfl hx, hw]
    · congr 1
      show 16 * k + ((i 0).val - 16 * k) = _
      omega
    · intro y _ hy
      rw [hw, hw]
      have e : (v11 y).toNat = (j 0).val := congrArg (fun i : S5120.Idx => (i 0).val) hy
      rw [hv y (ix _ (hrow y)) rfl, hj] at e
      have := congrArg (fun i : S5120.Idx => (i 0).val) (h.inj _ _ (BitVec.eq_of_toNat_eq e))
      change 16 * k + (y 0).val = (i 0).val at this
      congr 1
      show 16 * k + (y 0).val = 16 * k + ((i 0).val - 16 * k)
      omega

/-! ## The second loop -/

open scoped Classical in
/-- A column is used iff one of the first `16 k` rows in rank order passes the threshold and names it. -/
def UsedAt (rank mi thr : Words) (k : Nat) (used : Words) : Prop :=
  ∀ j : S5120.Idx, used j = if ∃ i, (rank i).toNat < 16 * k ∧ thr i = 1#32 ∧ (mi i).toNat = (j 0).val then 1#32 else 0#32

/-- The first `16 k` rows in rank order have their match. -/
def MatchAt (rank mi thr : Words) (k : Nat) (mt : Words) : Prop :=
  ∀ i, (rank i).toNat < 16 * k → mt i = matched rank mi thr i

theorem usedAt_zero {used : Words} (hz : ZeroTo 320 used) : UsedAt rank mi thr 0 used := by
  intro j
  rw [if_neg (by rintro ⟨i, hi, -⟩; omega), hz j (by have := idx_lt j; omega)]

theorem matchAt_zero (mt : Words) : MatchAt rank mi thr 0 mt := fun _ hi => absurd hi (by omega)

section Window

variable (h : Ok rank mi thr) {k : Nat} (hk : k < 320) {order used mt : Words} (ho : OrderTo rank 320 order)
variable {v11 : IVec S16 32} (hv : ∀ (x : S16.Idx) (i : S5120.Idx), (i 0).val = 16 * k + (x 0).val → v11 x = order i)

include h hk ho hv in
/-- The row of each lane. -/
theorem row_rank (x : S16.Idx) : ∃ i : S5120.Idx, (rank i).toNat = 16 * k + (x 0).val ∧ (v11 x).toNat = (i 0).val := by
  have hx : (x 0).val < 16 := (x 0).isLt
  obtain ⟨i, hi⟩ := h.surj (16 * k + (x 0).val) (by omega)
  refine ⟨i, hi, ?_⟩
  have hil := idx_lt i
  rw [hv x (ix (16 * k + (x 0).val) (by omega)) rfl, ho i _ (by omega) hi.symm, BitVec.toNat_ofNat]
  omega

include h hk ho hv in
theorem rows_lt (a : Fin 1) (x : S16.Idx) : ((![v11] : Fin 1 → IVec S16 32) a x).toNat < S5120.size a := by
  obtain rfl : a = 0 := Subsingleton.elim _ _
  obtain ⟨i, -, hi⟩ := row_rank h hk ho hv x
  show (v11 x).toNat < 5120
  rw [hi]; exact idx_lt i

variable (hb : ∀ a x, ((![v11] : Fin 1 → IVec S16 32) a x).toNat < S5120.size a)

include h hk ho hv in
theorem rank_row (x : S16.Idx) : (rank (idxAt ![v11] hb x)).toNat = 16 * k + (x 0).val := by
  obtain ⟨i, hr, hi⟩ := row_rank h hk ho hv x
  rw [← hr]
  congr 2
  exact idx_ext hi

include h in
theorem cols_lt (a : Fin 1) (x : S16.Idx) :
    ((![loadIdx (F := F) (e := .i32) mi ![v11] hb] : Fin 1 → IVec S16 32) a x).toNat < S5120.size a := by
  obtain rfl : a = 0 := Subsingleton.elim _ _
  exact h.mi_lt _

variable (hc : ∀ a x, ((![loadIdx (F := F) (e := .i32) mi ![v11] hb] : Fin 1 → IVec S16 32) a x).toNat < S5120.size a)

theorem col_at (x : S16.Idx) :
    ((idxAt (s := S5120) (![loadIdx (F := F) (e := .i32) mi ![v11] hb] : Fin 1 → IVec S16 32) hc x) 0).val = (mi (idxAt ![v11] hb x)).toNat := rfl

/-- The window's claim, on the words the loop reads. -/
abbrev win (used : Words) : IVec S16 1 :=
  claim (F := F) (loadIdx (F := F) (e := .i32) mi ![v11] hb) (loadIdx (F := F) (e := .i32) thr ![v11] hb)
    (loadIdx (F := F) (e := .i32) used ![loadIdx (F := F) (e := .i32) mi ![v11] hb] hc)

variable (hu : UsedAt rank mi thr k used)

include h hk ho hv hu in
/-- A lane claims its column iff its row passes the threshold and no row of a lower rank names the column. -/
theorem win_iff (x : S16.Idx) :
    win (F := F) (mi := mi) (thr := thr) hb hc used x = 1#1
      ↔ thr (idxAt ![v11] hb x) = 1#32 ∧ ∀ j, (rank j).toNat < (rank (idxAt ![v11] hb x)).toNat → mi j ≠ mi (idxAt ![v11] hb x) := by
  have hrk := rank_row h hk ho hv hb
  rw [claim_iff]
  have hused : (loadIdx (F := F) (e := .i32) used ![loadIdx (F := F) (e := .i32) mi ![v11] hb] hc) x = 0#32
      ↔ ¬ ∃ i, (rank i).toNat < 16 * k ∧ thr i = 1#32 ∧ mi i = mi (idxAt ![v11] hb x) := by
    show used _ = 0#32 ↔ _
    rw [hu]
    have e : (∃ i, (rank i).toNat < 16 * k ∧ thr i = 1#32 ∧ (mi i).toNat = ((idxAt (s := S5120) (![loadIdx (F := F) (e := .i32) mi ![v11] hb] : Fin 1 → IVec S16 32) hc x) 0).val)
        ↔ ∃ i, (rank i).toNat < 16 * k ∧ thr i = 1#32 ∧ mi i = mi (idxAt ![v11] hb x) :=
      exists_congr fun i => and_congr Iff.rfl (and_congr Iff.rfl ⟨fun e => BitVec.eq_of_toNat_eq (e.trans (col_at (F := F) hb hc x)), fun e => (congrArg BitVec.toNat e).trans (col_at (F := F) hb hc x).symm⟩)
    by_cases hc : ∃ i, (rank i).toNat < 16 * k ∧ thr i = 1#32 ∧ mi i = mi (idxAt ![v11] hb x)
    · rw [if_pos (e.mpr hc)]; simp [hc]
    · rw [if_neg (fun h => hc (e.mp h))]; simp [hc]
  rw [hused]
  have hseen : Seen (loadIdx (F := F) (e := .i32) mi ![v11] hb) x
      ↔ ∃ y : S16.Idx, (y 0).val < (x 0).val ∧ mi (idxAt ![v11] hb y) = mi (idxAt ![v11] hb x) := Iff.rfl
  rw [hseen, hrk x]
  constructor
  · rintro ⟨⟨ht, hn⟩, hs⟩
    refine ⟨ht, fun j hj e => ?_⟩
    by_cases hj' : (rank j).toNat < 16 * k
    · exact hn ⟨j, hj', h.sorted _ j (by rw [hrk x]; exact hj) ht, e⟩
    · have hl : (rank j).toNat - 16 * k < 16 := by have : (x 0).val < 16 := (x 0).isLt; omega
      refine hs ⟨ln ((rank j).toNat - 16 * k) hl, ?_, ?_⟩
      · show (rank j).toNat - 16 * k < (x 0).val
        omega
      · rw [← e]
        congr 1
        refine h.inj _ _ (BitVec.eq_of_toNat_eq ?_)
        rw [hrk]
        show 16 * k + ((rank j).toNat - 16 * k) = _
        omega
  · rintro ⟨ht, hn⟩
    refine ⟨⟨ht, ?_⟩, ?_⟩
    · rintro ⟨i, hi, -, e⟩
      exact hn i (by omega) e
    · rintro ⟨y, hy, e⟩
      exact hn _ (by rw [hrk y]; omega) e

include h hk ho hv hu in
theorem used_step (w : IVec S16 32) (hw : ∀ x, w x = 1#32) :
    UsedAt rank mi thr (k + 1) (storeIdx (F := F) (e := .i32) used ![loadIdx (F := F) (e := .i32) mi ![v11] hb] w
      (win (F := F) (mi := mi) (thr := thr) hb hc used) false hc) := by
  have hrk := rank_row h hk ho hv hb
  have hwin := win_iff (F := F) h hk ho hv hb hc hu
  have hat := col_at (F := F) (mi := mi) hb hc
  intro j
  by_cases hj : ∃ x, win (F := F) (mi := mi) (thr := thr) hb hc used x = 1 ∧ idxAt ![loadIdx (F := F) (e := .i32) mi ![v11] hb] hc x = j
  · obtain ⟨x, hx, hxj⟩ := hj
    have hx16 : (x 0).val < 16 := (x 0).isLt
    rw [storeIdx_hit (F := F) (e := .i32) used _ w _ hc x hx hxj (fun y _ _ => (hw y).trans (hw x).symm), hw x,
      if_pos ⟨idxAt ![v11] hb x, by rw [hrk x]; omega, ((hwin x).mp hx).1, by rw [← hat x, hxj]⟩]
  · rw [storeIdx_miss (F := F) (e := .i32) used _ w _ hc (fun x hm hx => hj ⟨x, hm, hx⟩), hu j]
    have e : (∃ i, (rank i).toNat < 16 * k ∧ thr i = 1#32 ∧ (mi i).toNat = (j 0).val)
        ↔ ∃ i, (rank i).toNat < 16 * (k + 1) ∧ thr i = 1#32 ∧ (mi i).toNat = (j 0).val := by
      constructor
      · rintro ⟨i, hi, ht, hm⟩
        exact ⟨i, by omega, ht, hm⟩
      · rintro ⟨i, hi, ht, hm⟩
        by_contra hno
        -- the lowest rank at which the column is named
        have hex : ∃ r, ∃ i, (rank i).toNat = r ∧ (mi i).toNat = (j 0).val := ⟨_, i, rfl, hm⟩
        classical
        obtain ⟨i₀, hi₀, hm₀⟩ := Nat.find_spec hex
        have hmin : ∀ i', (mi i').toNat = (j 0).val → (rank i₀).toNat ≤ (rank i').toNat := fun i' h' => by
          rw [hi₀]; exact Nat.find_min' hex ⟨i', rfl, h'⟩
        have hle := hmin i hm
        have ht₀ : thr i₀ = 1#32 := by
          rcases Nat.lt_or_eq_of_le hle with hlt | heq
          · exact h.sorted i i₀ hlt ht
          · rw [h.inj _ _ (BitVec.eq_of_toNat_eq heq)]; exact ht
        have hge : 16 * k ≤ (rank i₀).toNat := by
          by_contra hlt
          exact hno ⟨i₀, by omega, ht₀, hm₀⟩
        have hl : (rank i₀).toNat - 16 * k < 16 := by omega
        have hrow : idxAt ![v11] hb (ln ((rank i₀).toNat - 16 * k) hl) = i₀ := by
          refine h.inj _ _ (BitVec.eq_of_toNat_eq ?_)
          rw [hrk]
          show 16 * k + ((rank i₀).toNat - 16 * k) = _
          omega
        refine hj ⟨ln ((rank i₀).toNat - 16 * k) hl, (hwin _).mpr ?_, ?_⟩
        · rw [hrow]
          refine ⟨ht₀, fun i' hi' e => ?_⟩
          have := hmin i' (by rw [e, hm₀])
          omega
        · apply idx_ext
          rw [hat, hrow, hm₀]
    by_cases hc : ∃ i, (rank i).toNat < 16 * k ∧ thr i = 1#32 ∧ (mi i).toNat = (j 0).val
    · rw [if_pos hc, if_pos (e.mp hc)]
    · rw [if_neg hc, if_neg (fun h' => hc (e.mpr h'))]

include h hk ho hv hu in
theorem match_step (hm : MatchAt rank mi thr k mt) (w : IVec S16 32)
    (hw : ∀ x, w x = if win (F := F) (mi := mi) (thr := thr) hb hc used x = 1#1 then mi (idxAt ![v11] hb x) else 4294967295#32) :
    MatchAt rank mi thr (k + 1) (storeIdx (F := F) (e := .i32) mt ![v11] w (fun _ => 1#1) false hb) := by
  have hrk := rank_row h hk ho hv hb
  have hwin := win_iff (F := F) h hk ho hv hb hc hu
  intro i hi
  by_cases hik : (rank i).toNat < 16 * k
  · rw [storeIdx_miss (F := F) (e := .i32) mt ![v11] w _ hb, hm i hik]
    intro x _ hx
    have := hrk x
    rw [hx] at this
    omega
  · have hl : (rank i).toNat - 16 * k < 16 := by omega
    have hrow : idxAt ![v11] hb (ln ((rank i).toNat - 16 * k) hl) = i := by
      refine h.inj _ _ (BitVec.eq_of_toNat_eq ?_)
      rw [hrk]
      show 16 * k + ((rank i).toNat - 16 * k) = _
      omega
    rw [storeIdx_hit (F := F) (e := .i32) mt ![v11] w _ hb _ rfl hrow, hw, hrow]
    · unfold matched
      have := hwin (ln ((rank i).toNat - 16 * k) hl)
      rw [hrow] at this
      exact if_congr this rfl rfl
    · intro y _ hy
      have e : (y 0).val = (rank i).toNat - 16 * k := by
        have := hrk y
        rw [hy] at this
        omega
      congr 1
      rw [← ln_self y]
      congr 1

end Window

end Cert.Proof.Greedy

end
-- ==== Proof.Order.lean ====
/-
  The order in which the rows are matched: by descending maximum, equal maxima by row number. `rk` is a row's place in it;
  with the padding rows after the last, the places, columns and threshold words are what the SparseCore's matching asks.
-/
module

public import proofs.«01_k».proof.Proof.Pay
public import proofs.«01_k».proof.Proof.Greedy

@[expose] public section

noncomputable section

namespace Cert.Proof.Order

open Cert.KernelIdeal Cert.KernelIdeal.Gen
open Idealize.ShloMosaic Idealize.ShloMosaic.ValueIdx
open Cert.Proof.Pay Cert.Proof.Greedy

variable (s : Fin 5000 → Fin 5000 → EReal)

/-- Row `k` comes before row `r`. -/
def Prec (k r : Fin 5000) : Prop := top (s r) < top (s k) ∨ (top (s k) = top (s r) ∧ k < r)

theorem prec_irrefl (r : Fin 5000) : ¬ Prec s r r := fun h => h.elim (lt_irrefl _) fun h => lt_irrefl _ h.2

theorem prec_trans {a b c : Fin 5000} (h : Prec s a b) (h' : Prec s b c) : Prec s a c := by
  rcases h with h | ⟨h, hl⟩ <;> rcases h' with h' | ⟨h', hl'⟩
  · exact .inl (h'.trans h)
  · exact .inl (lt_of_eq_of_lt h'.symm h)
  · exact .inl (lt_of_lt_of_eq h' h.symm)
  · exact .inr ⟨h.trans h', hl.trans hl'⟩

theorem prec_total {a b : Fin 5000} (h : a ≠ b) : Prec s a b ∨ Prec s b a := by
  rcases lt_trichotomy (top (s a)) (top (s b)) with e | e | e
  · exact .inr (.inl e)
  · rcases lt_or_gt_of_ne h with l | l
    · exact .inl (.inr ⟨e, l⟩)
    · exact .inr (.inr ⟨e.symm, l⟩)
  · exact .inl (.inl e)

/-- A row's place. -/
def rk (r : Fin 5000) : Nat := before (top (s r)) (fun k => top (s k)) r.val

open scoped Classical in
theorem rk_eq (r : Fin 5000) : rk s r = (Finset.univ.filter fun k => Prec s k r).card := by
  have h : ∀ k, (top (s r) < top (s k) ∨ (top (s k) = top (s r) ∧ k.val < r.val)) = Prec s k r := fun k => rfl
  unfold rk before
  simp only [h]

open scoped Classical in
theorem rk_lt_of_prec {a b : Fin 5000} (h : Prec s a b) : rk s a < rk s b := by
  rw [rk_eq, rk_eq]
  apply Finset.card_lt_card
  rw [Finset.ssubset_iff_of_subset]
  · exact ⟨a, by simpa using h, by simpa using prec_irrefl s a⟩
  · intro k hk
    simp only [Finset.mem_filter, Finset.mem_univ, true_and] at hk ⊢
    exact prec_trans s hk h

theorem rk_lt_iff {a b : Fin 5000} : rk s a < rk s b ↔ Prec s a b := by
  refine ⟨fun h => ?_, rk_lt_of_prec s⟩
  by_cases e : a = b
  · subst e; exact absurd h (lt_irrefl _)
  · rcases prec_total s e with p | p
    · exact p
    · exact absurd (h.trans (rk_lt_of_prec s p)) (lt_irrefl _)

theorem rk_inj {a b : Fin 5000} (h : rk s a = rk s b) : a = b := by
  by_contra e
  rcases prec_total s e with p | p
  · exact absurd (rk_lt_of_prec s p) (by omega)
  · exact absurd (rk_lt_of_prec s p) (by omega)

open scoped Classical in
theorem rk_lt (r : Fin 5000) : rk s r < 5000 := by
  rw [rk_eq]
  have : (Finset.univ.filter fun k => Prec s k r).card < (Finset.univ : Finset (Fin 5000)).card := by
    apply Finset.card_lt_card
    rw [Finset.ssubset_iff_of_subset (Finset.subset_univ _)]
    exact ⟨r, Finset.mem_univ _, by simpa using prec_irrefl s r⟩
  simpa using this

/-- A larger maximum's word is set if a smaller one's is. -/
theorem above_mono {x y : EReal} (h : x ≤ y) (hx : above x = 1#32) : above y = 1#32 := by
  unfold above at *
  split at hx
  · rename_i hl
    rw [if_pos (hl.trans_le h)]
  · exact absurd hx (by decide)

theorem top_le_of_prec {a b : Fin 5000} (h : Prec s a b) : top (s b) ≤ top (s a) := h.elim le_of_lt fun h => h.1.ge

/-! ## With the padding -/

/-- The places, the padding rows after the last; -/
def pRank : Words := fun i => if h : (i 0).val < 5000 then BitVec.ofNat 32 (rk s ⟨(i 0).val, h⟩) else BitVec.ofNat 32 (i 0).val
/-- the columns, 0 for the padding; -/
def pCol : Words := fun i => if h : (i 0).val < 5000 then BitVec.ofNat 32 (first (s ⟨(i 0).val, h⟩)).val else 0#32
/-- the threshold words, unset for the padding. -/
def pThr : Words := fun i => if h : (i 0).val < 5000 then above (top (s ⟨(i 0).val, h⟩)) else 0#32

/-- A place as a number. -/
def place (i : S5120.Idx) : Nat := if h : (i 0).val < 5000 then rk s ⟨(i 0).val, h⟩ else (i 0).val

theorem pRank_toNat (i : S5120.Idx) : (pRank s i).toNat = place s i := by
  have hi := idx_lt i
  unfold pRank place
  split
  · rename_i h
    have := rk_lt s ⟨(i 0).val, h⟩
    rw [BitVec.toNat_ofNat, Nat.mod_eq_of_lt (by omega)]
  · rw [BitVec.toNat_ofNat, Nat.mod_eq_of_lt (by omega)]

theorem ok : Ok (pRank s) (pCol s) (pThr s) where
  lt i := by
    have hi := idx_lt i
    rw [pRank_toNat]; unfold place
    split
    · rename_i h; have := rk_lt s ⟨(i 0).val, h⟩; omega
    · exact hi
  inj i j e := by
    have e' : place s i = place s j := by rw [← pRank_toNat, ← pRank_toNat, e]
    unfold place at e'
    apply idx_ext
    split at e' <;> split at e'
    · have := rk_inj s e'; exact congrArg (fun k : Fin 5000 => k.val) this
    · rename_i h _; have := rk_lt s ⟨(i 0).val, h⟩; omega
    · rename_i h; have := rk_lt s ⟨(j 0).val, h⟩; omega
    · exact e'
  mi_lt i := by
    unfold pCol
    split
    · have := (first (s ⟨(i 0).val, ‹_›⟩)).isLt
      rw [BitVec.toNat_ofNat, Nat.mod_eq_of_lt (by omega)]; omega
    · decide
  sorted i j h hi := by
    rw [pRank_toNat, pRank_toNat] at h
    unfold pThr at *
    unfold place at h
    by_cases h1 : (i 0).val < 5000
    · rw [dif_pos h1] at h hi
      have := rk_lt s ⟨(i 0).val, h1⟩
      by_cases h2 : (j 0).val < 5000
      · rw [dif_pos h2] at h ⊢
        exact above_mono (top_le_of_prec s ((rk_lt_iff s).1 h)) hi
      · rw [dif_neg h2] at h; omega
    · rw [dif_neg h1] at hi; exact absurd hi (by decide)

open scoped Classical in
/-- Row `r`'s match: the first column of its maximum, if the maximum is above the threshold and no earlier row has that
    column; else −1. -/
def match' (r : Fin 5000) : BitVec 32 :=
  if above (top (s r)) = 1#32 ∧ ∀ k, Prec s k r → first (s k) ≠ first (s r) then BitVec.ofNat 32 (first (s r)).val else 4294967295#32

theorem first_ofNat_inj {a b : Fin 5000} (h : BitVec.ofNat 32 a.val = BitVec.ofNat 32 b.val) : a = b := by
  have := congrArg BitVec.toNat h
  rw [BitVec.toNat_ofNat, BitVec.toNat_ofNat, Nat.mod_eq_of_lt (by omega), Nat.mod_eq_of_lt (by omega)] at this
  exact Fin.ext this

open scoped Classical in
/-- On the padded words the SparseCore's matching is the rows' matching. -/
theorem matched_row (r : Fin 5000) : matched (pRank s) (pCol s) (pThr s) (ix r.val (by omega)) = match' s r := by
  have hr : ((ix r.val (by omega)) 0).val < 5000 := r.isLt
  unfold matched match'
  have h1 : pThr s (ix r.val (by omega)) = above (top (s r)) := dif_pos hr
  have h2 : pCol s (ix r.val (by omega)) = BitVec.ofNat 32 (first (s r)).val := dif_pos hr
  have h3 : (pRank s (ix r.val (by omega))).toNat = rk s r := (pRank_toNat s _).trans (dif_pos hr)
  rw [h1, h2, h3]
  refine if_congr (and_congr_right fun _ => ⟨fun h k hk e => ?_, fun h j hj e => ?_⟩) rfl rfl
  · have hk' : ((ix k.val (by omega)) 0).val < 5000 := k.isLt
    refine h (ix k.val (by omega)) ?_ ?_
    · rw [pRank_toNat, show place s (ix k.val (by omega)) = rk s k from dif_pos hk']
      exact (rk_lt_iff s).2 hk
    · rw [show pCol s (ix k.val (by omega)) = BitVec.ofNat 32 (first (s k)).val from dif_pos hk', e]
  · rw [pRank_toNat] at hj
    unfold place at hj
    by_cases hl : (j 0).val < 5000
    · rw [dif_pos hl] at hj
      rw [show pCol s j = BitVec.ofNat 32 (first (s ⟨(j 0).val, hl⟩)).val from dif_pos hl] at e
      exact h _ ((rk_lt_iff s).1 hj) (first_ofNat_inj e)
    · rw [dif_neg hl] at hj
      have := rk_lt s r
      omega

end Cert.Proof.Order

end
-- ==== Proof.RefLoop.lean ====
/-
  The reference's matching loop: trip by trip, the rows placed so far have their match and the columns they name are used.
-/
module

public import proofs.«01_k».proof.Proof.Order
public import proofs.«01_k».proof.Proof.Gen.ReferenceIdeal.Run
public import Idealize.ShloMosaic.Lib.Routing.OpsOne
public import Idealize.ShloMosaic.Lib.DynamicIndex

@[expose] public section

noncomputable section

namespace Cert.Proof.RefLoop

open Cert.ReferenceIdeal Cert.ReferenceIdeal.Gen Cert.ReferenceIdeal.Value
open Idealize.ShloMosaic
open Cert.Proof.Pay (top first above)
open Cert.Proof.Order (rk Prec match' rk_lt_iff rk_inj top_le_of_prec above_mono)

/-! ## One word read and one word written -/

/-- A scalar word. -/
abbrev word (b : BitVec 32) : IVec S_ 32 := fun _ => b

theorem ofNat_toInt {n : Nat} (hn : n < 5000) : (BitVec.ofNat 32 n).toInt = n := Pay.toInt_small (by omega)

theorem wrap {n : Nat} (hn : n < 5000) :
    select (cmpi .slt (word (BitVec.ofNat 32 n)) (constantI S_ 32 0#32)) (addi (word (BitVec.ofNat 32 n)) (constantI S_ 32 5000#32)) (word (BitVec.ofNat 32 n))
      = word (BitVec.ofNat 32 n) :=
  funext fun j => select_slt_zero_of_nonneg _ _ _ j (by rw [ofNat_toInt hn]; omega)

theorem read {α : Type} (x : S5000.Idx → α) (n : Fin 5000) :
    shapeCast S_ (Host.dynamicSlice S1 x (fun k => (((![word (BitVec.ofNat 32 n.val)] : Fin 1 → S_.Idx → BitVec 32)) k (Shape.Idx.first h_S_)).toInt) sliceFits_S5000_S1) shapeCasts_S1_S_
      = fun _ => x (ValueIdx.ix1 n) := by
  funext j
  refine (shapeCast_apply _ _ _ (ValueIdx.ix1 0) (by rw [Shape.rowMajor_val_one]; have := (S_.rowMajor j).isLt; simp [Shape.numel] at this ⊢; omega)).trans ?_
  rw [Host.dynamicSlice_eq_extractStridedSlice S1 x _ (fun _ => n.val) _ ⟨rfl, fun a => by
    obtain rfl : a = 0 := Subsingleton.elim _ _
    show n.val + 1 ≤ 5000
    omega⟩ (fun a => by
    obtain rfl : a = 0 := Subsingleton.elim _ _
    exact ofNat_toInt n.isLt)]
  refine congrArg x (funext fun a => Fin.ext ?_)
  obtain rfl : a = 0 := Subsingleton.elim _ _
  rfl

theorem write {α : Type} (x : S5000.Idx → α) (n : Fin 5000) (v : S_.Idx → α) (e : Fin 5000) :
    Host.scatter scatter_S5000_S1_S__n_0_0_0 (fun _ b => b) x (broadcastInDim S1 ![] bcast_S_S1 (word (BitVec.ofNat 32 n.val))) v (ValueIdx.ix1 e)
      = if e = n then v ValueIdx.ix0 else x (ValueIdx.ix1 e) := by
  have hl := Routing.lands_one (N := 5000) scatter_S5000_S1_S__n_0_0_0 rfl rfl (broadcastInDim S1 ![] bcast_S_S1 (word (BitVec.ofNat 32 n.val))) n (ofNat_toInt n.isLt) e
  by_cases h : e = n
  · rw [if_pos h]
    exact Routing.scatter_set_hit _ x _ v _ _ (fun j _ => congrArg v (ValueIdx.eq_ix0 j)) ValueIdx.ix0 (hl.2 h)
  · rw [if_neg h]
    exact Routing.scatter_set_miss _ x _ v _ fun j hj => h (hl.1 (by rw [← ValueIdx.eq_ix0 j]; exact hj))

theorem or_at (u w : S_.Idx → BitVec 1) {j : S_.Idx} {b : BitVec 1} (hb : u j = b) : ori u w j = b ||| w j := by subst hb; rfl

attribute [local irreducible] first top

/-! ## The invariant -/

variable (s : Fin 5000 → Fin 5000 → EReal) (ord : Fin 5000 → Fin 5000)

/-- Column `c` is named by a row above the threshold among the first `k`. -/
def Used (k : Nat) (c : Fin 5000) : Prop := ∃ r, rk s r < k ∧ above (top (s r)) = 1#32 ∧ first (s r) = c

open scoped Classical in
/-- The carried arrays before trip `k`. -/
structure Inv (k : Nat) (V : Valuation τ sig (Elt Ideal)) : Prop where
  ord : ∀ r : Fin 5000, (V (Proc.devRef .tc main_v123_0) : S5000.Idx → BitVec 32) (ValueIdx.ix1 r) = BitVec.ofNat 32 (ord r).val
  col : ∀ r : Fin 5000, (V (Proc.devRef .tc main_v123_1) : S5000.Idx → BitVec 32) (ValueIdx.ix1 r) = BitVec.ofNat 32 (first (s r)).val
  top : ∀ r : Fin 5000, (V (Proc.devRef .tc main_v123_2) : S5000.Idx → EReal) (ValueIdx.ix1 r) = top (s r)
  ctr : (V (Proc.devRef .tc main_v123_3) : S_.Idx → BitVec 32) = word (BitVec.ofNat 32 k)
  mt : ∀ r : Fin 5000, (V (Proc.devRef .tc main_v123_4) : S5000.Idx → BitVec 32) (ValueIdx.ix1 r) = if rk s r < k then match' s r else 4294967295#32
  used : ∀ c : Fin 5000, (V (Proc.devRef .tc main_v123_5) : S5000.Idx → BitVec 1) (ValueIdx.ix1 c) = if Used s k c then 1#1 else 0#1

variable {s ord} {k : Nat} (hk : k < 5000) {V : Valuation τ sig (Elt Ideal)} (h : Inv s ord k V)

include hk h in
theorem row_at : res_main_while0b_v124 V = word (BitVec.ofNat 32 (ord ⟨k, hk⟩).val) := by
  unfold res_main_while0b_v124
  rw [h.ctr]
  refine (read (V (Proc.devRef .tc main_v123_0)) ⟨k, hk⟩).trans (funext fun _ => h.ord ⟨k, hk⟩)

include hk h in
theorem col_at : res_main_while0b_v129 V = word (BitVec.ofNat 32 (first (s (ord ⟨k, hk⟩))).val) := by
  unfold res_main_while0b_v129
  rw [row_at hk h, wrap (ord ⟨k, hk⟩).isLt]
  exact (read (V (Proc.devRef .tc main_v123_1)) (ord ⟨k, hk⟩)).trans (funext fun _ => h.col _)

open scoped Classical in
include hk h in
theorem ok_at : res_main_while0b_v142 V = fun _ => if ¬ Used s k (first (s (ord ⟨k, hk⟩))) ∧ above (top (s (ord ⟨k, hk⟩))) = 1#32 then 1#1 else 0#1 := by
  unfold res_main_while0b_v142
  rw [col_at hk h, wrap (first _).isLt, row_at hk h, wrap (ord ⟨k, hk⟩).isLt]
  refine (congrArg₂ andi (congrArg noti (read (V (Proc.devRef .tc main_v123_5)) (first (s (ord ⟨k, hk⟩)))))
    (congrArg (fun x : S_.Idx → EReal => cmpf (F := Ideal) (φ := .f32) .ogt x (constant S_ .f32 0x3E99999A#32)) (read (V (Proc.devRef .tc main_v123_2)) (ord ⟨k, hk⟩)))).trans ?_
  funext j
  have hu := h.used (first (s (ord ⟨k, hk⟩)))
  have ht := h.top (ord ⟨k, hk⟩)
  show (~~~ _ : BitVec 1) &&& BitVec.ofBool (decide (Ideal.ofBits .f32 0x3E99999A#32 < _)) = _
  rw [hu, ht]
  unfold above
  by_cases h1 : Used s k (first (s (ord ⟨k, hk⟩))) <;> by_cases h2 : Ideal.ofBits .f32 0x3E99999A#32 < top (s (ord ⟨k, hk⟩)) <;> simp [h1, h2]

/-! ## One trip -/

variable (hord : ∀ k : Fin 5000, rk s (ord k) = k.val)

include hord in
theorem rk_succ (hk : k < 5000) (r : Fin 5000) : rk s r < k + 1 ↔ rk s r < k ∨ r = ord ⟨k, hk⟩ := by
  have ho : rk s (ord ⟨k, hk⟩) = k := hord ⟨k, hk⟩
  constructor
  · intro hr
    by_cases e : rk s r < k
    · exact .inl e
    · exact .inr (rk_inj s (by omega))
  · rintro (e | rfl) <;> omega

include hord in
theorem used_succ (hk : k < 5000) (c : Fin 5000) :
    Used s (k + 1) c ↔ Used s k c ∨ (above (top (s (ord ⟨k, hk⟩))) = 1#32 ∧ first (s (ord ⟨k, hk⟩)) = c) := by
  constructor
  · rintro ⟨r, hr, ha, hc⟩
    rcases (rk_succ hord hk r).1 hr with e | rfl
    · exact .inl ⟨r, e, ha, hc⟩
    · exact .inr ⟨ha, hc⟩
  · rintro (⟨r, hr, ha, hc⟩ | ⟨ha, hc⟩)
    · exact ⟨r, by omega, ha, hc⟩
    · exact ⟨_, (rk_succ hord hk _).2 (.inr rfl), ha, hc⟩

open scoped Classical in
include hord in
/-- The row placed at trip `k` is matched as the trip decides. -/
theorem match_ord (hk : k < 5000) :
    match' s (ord ⟨k, hk⟩) = if ¬ Used s k (first (s (ord ⟨k, hk⟩))) ∧ above (top (s (ord ⟨k, hk⟩))) = 1#32
      then BitVec.ofNat 32 (first (s (ord ⟨k, hk⟩))).val else 4294967295#32 := by
  have ho : rk s (ord ⟨k, hk⟩) = k := hord ⟨k, hk⟩
  unfold match'
  refine if_congr ⟨fun ⟨ha, hn⟩ => ⟨?_, ha⟩, fun ⟨hn, ha⟩ => ⟨ha, fun r hr e => ?_⟩⟩ rfl rfl
  · rintro ⟨r, hr, -, hc⟩
    exact hn r ((rk_lt_iff s).1 (by omega)) hc
  · exact hn ⟨r, by have := (rk_lt_iff s).2 hr; omega, above_mono (top_le_of_prec s hr) ha, e⟩

include hk h hord in
theorem step : Inv s ord (k + 1) (STEP V) where
  ord r := by rw [STEP_main_v123_0]; exact h.ord r
  col r := by rw [STEP_main_v123_1]; exact h.col r
  top r := by rw [STEP_main_v123_2]; exact h.top r
  ctr := by
    rw [STEP_main_v123_3]
    unfold step_main_v123_3
    rw [h.ctr]
    funext j
    show BitVec.ofNat 32 k + 1#32 = BitVec.ofNat 32 (k + 1)
    exact (BitVec.ofNat_add k 1).symm
  mt r := by
    classical
    have ho : rk s (ord ⟨k, hk⟩) = k := hord ⟨k, hk⟩
    rw [STEP_main_v123_4]
    unfold step_main_v123_4
    rw [row_at hk h, col_at hk h, ok_at hk h, wrap (ord ⟨k, hk⟩).isLt]
    refine (write (V (Proc.devRef .tc main_v123_4)) (ord ⟨k, hk⟩) _ r).trans ?_
    by_cases e : r = ord ⟨k, hk⟩
    · rw [if_pos e, if_pos ((rk_succ hord hk r).2 (.inr e)), e, match_ord hord hk]
      have hr := congrFun (read (V (Proc.devRef .tc main_v123_4)) (ord ⟨k, hk⟩)) ValueIdx.ix0
      rw [h.mt, if_neg (by omega)] at hr
      by_cases hc : ¬ Used s k (first (s (ord ⟨k, hk⟩))) ∧ above (top (s (ord ⟨k, hk⟩))) = 1#32
      · simp only [if_pos hc]; rfl
      · simp only [if_neg hc]; exact hr
    · rw [if_neg e, h.mt]
      exact if_congr ((rk_succ hord hk r).trans (by simp [e])).symm rfl rfl
  used c := by
    classical
    rw [STEP_main_v123_5]
    unfold step_main_v123_5
    rw [col_at hk h, ok_at hk h, wrap (first _).isLt]
    refine (write (V (Proc.devRef .tc main_v123_5)) (first (s (ord ⟨k, hk⟩))) _ c).trans ?_
    by_cases e : c = first (s (ord ⟨k, hk⟩))
    · rw [if_pos e]
      have hr := congrFun (read (V (Proc.devRef .tc main_v123_5)) (first (s (ord ⟨k, hk⟩)))) ValueIdx.ix0
      rw [h.used] at hr
      refine (or_at _ _ hr).trans ?_
      rw [e]
      have hs := used_succ hord hk (first (s (ord ⟨k, hk⟩)))
      by_cases h1 : Used s k (first (s (ord ⟨k, hk⟩))) <;> by_cases h2 : above (top (s (ord ⟨k, hk⟩))) = 1#32 <;> simp [hs, h1, h2]
    · rw [if_neg e, h.used]
      exact if_congr ((used_succ hord hk c).trans (by simp [Ne.symm e])).symm rfl rfl

include hord in
theorem iterate {V : Valuation τ sig (Elt Ideal)} (h : Inv s ord 0 V) : ∀ k, k ≤ 5000 → Inv s ord k (STEP^[k] V)
  | 0, _ => h
  | k + 1, hk => by rw [Function.iterate_succ_apply']; exact step (by omega) (iterate h k (by omega)) hord

include hord in
/-- After the last trip every row has its match. -/
theorem matches_eq {V : Valuation τ sig (Elt Ideal)} (h : Inv s ord 0 V) :
    (STEP^[5000] V) (Proc.devRef .tc main_v123_4) = (fun i : S5000.Idx => match' s (i 0)) := by
  funext i
  obtain ⟨r, rfl⟩ : ∃ r : Fin 5000, i = ValueIdx.ix1 r := ⟨i 0, ValueIdx.eq_ix1 i⟩
  exact ((iterate hord h 5000 le_rfl).mt r).trans (if_pos (Order.rk_lt s r))

end Cert.Proof.RefLoop

end
-- ==== Proof.RefHead.lean ====
/-
  What the reference makes of a matrix of similarities before its loop: each row's maximum, the first column attaining it,
  and the rows in descending order of their maxima, equal ones by number.
-/
module

public import proofs.«01_k».proof.Proof.RefLoop
public import Idealize.ShloMosaic.Lib.SortPrefix
public import Idealize.ShloMosaic.Lib.StackMember

@[expose] public section

noncomputable section

namespace Cert.Proof.RefHead

open Cert.ReferenceIdeal Cert.ReferenceIdeal.Gen
open Idealize.ShloMosaic Idealize.ShloMosaic.ValueIdx
open Cert.Proof.Pay (top first first_eq le_top first_top fold_max)
open Cert.Proof.Order (rk Prec rk_lt_iff rk_inj rk_lt prec_irrefl prec_trans prec_total)

attribute [local irreducible] top first

/-! ## A row's maximum and its column -/

theorem neg_inf : (FloatOps.ofBits (F := Ideal) .f32 0xFF800000#32 : EReal) = ⊥ := by
  show Ideal.ofBits .f32 0xFF800000#32 = ⊥
  simp [Ideal.ofBits, Ideal.ieee]

/-- The pair is at least the other: of a larger value, or of the same value and no larger a number. -/
def AtLeast (p q : EReal × BitVec 32) : Prop := q.1 < p.1 ∨ (q.1 = p.1 ∧ p.2.toInt ≤ q.2.toInt)

theorem atLeast_refl (p : EReal × BitVec 32) : AtLeast p p := .inr ⟨rfl, le_rfl⟩

theorem atLeast_trans {p q r : EReal × BitVec 32} (h : AtLeast p q) (h' : AtLeast q r) : AtLeast p r := by
  rcases h with h | ⟨h, hl⟩ <;> rcases h' with h' | ⟨h', hl'⟩
  · exact .inl (h'.trans h)
  · exact .inl (lt_of_eq_of_lt h' h)
  · exact .inl (lt_of_lt_of_eq h' h)
  · exact .inr ⟨h'.trans h, hl.trans hl'⟩

theorem ofBool_eq_one {b : Bool} : BitVec.ofBool b = 1#1 ↔ b = true := by cases b <;> simp

theorem reducer_spec (p q : EReal × BitVec 32) :
    (reducer_argmax_f32_i32 (F := Ideal) p q = p ∨ reducer_argmax_f32_i32 (F := Ideal) p q = q)
      ∧ AtLeast (reducer_argmax_f32_i32 (F := Ideal) p q) p ∧ AtLeast (reducer_argmax_f32_i32 (F := Ideal) p q) q := by
  obtain ⟨a, i⟩ := p
  obtain ⟨b, j⟩ := q
  have hv : reducer_argmax_f32_i32 (F := Ideal) (a, i) (b, j)
      = if b < a then (a, i) else if a = b ∧ i.toInt < j.toInt then (a, i) else (b, j) := by
    unfold reducer_argmax_f32_i32
    simp only [Ideal.cmpf_def, Ideal.cmp, Scalar.select, IntOp.ori, IntOp.andi, IntOp.cmpi]
    have h0 : ∀ b : Bool, 1#1 ||| BitVec.ofBool b = 1#1 := by decide
    by_cases h1 : b < a
    · simp [h1, h0]
    · by_cases h2 : a = b
      · subst h2
        by_cases h3 : i.toInt < j.toInt <;> simp [h3, BitVec.slt]
      · simp [h1, h2]
  rw [hv]
  by_cases h1 : b < a
  · rw [if_pos h1]
    exact ⟨.inl rfl, atLeast_refl _, .inl h1⟩
  · rw [if_neg h1]
    by_cases h2 : a = b ∧ i.toInt < j.toInt
    · rw [if_pos h2]
      exact ⟨.inl rfl, atLeast_refl _, .inr ⟨h2.1.symm, h2.2.le⟩⟩
    · rw [if_neg h2]
      refine ⟨.inr rfl, ?_, atLeast_refl _⟩
      rcases lt_or_eq_of_le (not_lt.mp h1) with h | h
      · exact .inl h
      · exact .inr ⟨h, not_lt.mp fun hl => h2 ⟨h, hl⟩⟩

theorem foldl_spec {ι : Type} (x : ι → EReal × BitVec 32) : ∀ (l : List ι) (p : EReal × BitVec 32),
    (l.foldl (fun r n => reducer_argmax_f32_i32 (F := Ideal) r (x n)) p = p ∨ ∃ n ∈ l, l.foldl (fun r n => reducer_argmax_f32_i32 (F := Ideal) r (x n)) p = x n)
      ∧ AtLeast (l.foldl (fun r n => reducer_argmax_f32_i32 (F := Ideal) r (x n)) p) p
      ∧ ∀ n ∈ l, AtLeast (l.foldl (fun r n => reducer_argmax_f32_i32 (F := Ideal) r (x n)) p) (x n)
  | [], p => ⟨.inl rfl, atLeast_refl p, fun _ h => absurd h List.not_mem_nil⟩
  | a :: l, p => by
    have hs := reducer_spec p (x a)
    have ih := foldl_spec x l (reducer_argmax_f32_i32 (F := Ideal) p (x a))
    rw [List.foldl_cons]
    refine ⟨?_, atLeast_trans ih.2.1 hs.2.1, ?_⟩
    · rcases ih.1 with h | ⟨n, hn, h⟩
      · rcases hs.1 with h' | h'
        · exact .inl (h.trans h')
        · exact .inr ⟨a, List.mem_cons_self, h.trans h'⟩
      · exact .inr ⟨n, List.mem_cons_of_mem _ hn, h⟩
    · intro n hn
      rcases List.mem_cons.mp hn with rfl | hn
      · exact atLeast_trans ih.2.1 hs.2.2
      · exact ih.2.2 n hn

/-- The reference's column of a row: the first of those attaining the maximum. -/
theorem argmax_eq (X : S5000x5000.Idx → EReal) (r : Fin 5000) :
    (Host.argReduce (reducer_argmax_f32_i32 (F := Ideal)) X (iotaInDim S5000x5000 32 1) (constant (F := Ideal) S_ .f32 0xFF800000#32) (constantI S_ 32 0#32)
      reducesTo_S5000x5000_S5000_d1 h_S_ (ix1 r)).2 = BitVec.ofNat 32 (first fun c => X (ix2 r c)).val := by
  rw [Ideal.argReduce_eq_reduce2]
  unfold Host.reduce2
  have hs := foldl_spec (fun n : Fin S5000x5000.numel => (X (S5000x5000.rowMajor.symm n), iotaInDim S5000x5000 32 1 (S5000x5000.rowMajor.symm n)))
    ((List.finRange S5000x5000.numel).filter fun n => reducesTo_S5000x5000_S5000_d1.drop (S5000x5000.rowMajor.symm n) = ix1 r)
    (constant (F := Ideal) S_ .f32 0xFF800000#32 (Shape.Idx.first h_S_), constantI S_ 32 0#32 (Shape.Idx.first h_S_))
  generalize List.foldl _ _ _ = g at hs ⊢
  obtain ⟨hm, h0, hall⟩ := hs
  have hrow : ∀ i : S5000x5000.Idx, reducesTo_S5000x5000_S5000_d1.drop i = ix1 r → i 0 = r := fun i hi =>
    Fin.ext ((Shape.ReducesTo.drop_apply_val_of_eq reducesTo_S5000x5000_S5000_d1 i 0 0).symm.trans (congrArg (fun j : S5000.Idx => (j 0).val) hi))
  have hat : ∀ c : Fin 5000, AtLeast g (X (ix2 r c), BitVec.ofNat 32 c.val) := fun c => by
    have := hall (S5000x5000.rowMajor (ix2 r c)) (List.mem_filter.mpr ⟨List.mem_finRange _, by
      rw [Equiv.symm_apply_apply, decide_eq_true_eq]
      funext b
      obtain rfl : b = 0 := Subsingleton.elim _ _
      exact Fin.ext (Shape.ReducesTo.drop_apply_val_of_eq reducesTo_S5000x5000_S5000_d1 (ix2 r c) 0 0)⟩)
    rw [Equiv.symm_apply_apply] at this
    exact this
  have hint : ∀ c : Fin 5000, (BitVec.ofNat 32 c.val).toInt = c.val := fun c => Pay.toInt_small (by omega)
  have key : ∀ c : Fin 5000, g = (X (ix2 r c), BitVec.ofNat 32 c.val) → g.2 = BitVec.ofNat 32 (first fun c => X (ix2 r c)).val := fun c hg => by
    rw [hg]
    have hge : ∀ k, X (ix2 r k) < X (ix2 r c) ∨ (X (ix2 r k) = X (ix2 r c) ∧ c ≤ k) := fun k => by
      have := hat k
      rw [hg] at this
      rcases this with h | ⟨h, hl⟩
      · exact .inl h
      · simp only [hint] at hl
        exact .inr ⟨h, by exact_mod_cast hl⟩
    have hle : ∀ k, X (ix2 r k) ≤ X (ix2 r c) := fun k => (hge k).elim le_of_lt fun h => h.1.le
    have ht : (fun c => X (ix2 r c)) c = top (fun c => X (ix2 r c)) :=
      le_antisymm (le_top (fun c => X (ix2 r c)) c) (by rw [← first_top fun c => X (ix2 r c)]; exact hle _)
    rw [first_eq _ ht fun k hk => ?_]
    rcases hge k with h | h
    · exact absurd (hk.trans ht.symm) h.ne
    · exact h.2
  rcases hm with hg | ⟨n, hn, hg⟩
  · refine key 0 ?_
    have h := hat 0
    have hc : (constant (F := Ideal) S_ .f32 0xFF800000#32 (Shape.Idx.first h_S_) : EReal) = ⊥ := neg_inf
    rw [hg] at h ⊢
    rw [hc] at h ⊢
    rcases h with h | h
    · exact absurd h not_lt_bot
    · exact Prod.ext h.1.symm rfl
  · have hi := hrow _ (of_decide_eq_true (List.mem_filter.mp hn).2)
    refine key (S5000x5000.rowMajor.symm n 1) ?_
    rw [hg]
    refine Prod.ext (congrArg X ?_) rfl
    rw [← hi]
    exact eq_ix2 _

/-- The reference's maximum of a row. -/
theorem max_eq (X : S5000x5000.Idx → EReal) (r : Fin 5000) :
    Host.reduce FloatOps.maximumf X (constant (F := Ideal) S_ .f32 0xFF800000#32) reducesTo_S5000x5000_S5000_d1 h_S_ (ix1 r) = top fun c => X (ix2 r c) := by
  have hred : S5000x5000.Reduces [1] S5000 := by decide
  refine (Host.reduce_eq_fold_single (FloatOps.maximumf (F := Ideal) (φ := .f32)) X _ reducesTo_S5000x5000_S5000_d1 hred h_S_ (ix1 r)).trans ?_
  have hb : (constant (F := Ideal) S_ .f32 0xFF800000#32 (Shape.Idx.first h_S_) : EReal) = ⊥ := neg_inf
  rw [hb]
  have he : (X ∘ hred.lift (ix1 r) : Fin 5000 → EReal) = fun c => X (ix2 r c) :=
    funext fun k => congrArg X (by funext a; exact Fin.ext (match a with | ⟨0, _⟩ => rfl | ⟨1, _⟩ => rfl))
  exact ((fold_max (n := 5000) _).trans (congrArg (fun f : Fin 5000 → EReal => Finset.univ.sup f) he)).trans (by unfold top; rfl)

/-! ## The order of the rows -/

/-- Two comparisons that agree on the pairs of a list, the later one named first, sort it alike. -/
theorem stableSort_congr_later {ι : Type} (R R' : ι → ι → Bool) : ∀ l : List ι, l.Pairwise (fun a b => R b a = R' b a) → stableSort R l = stableSort R' l
  | [], _ => rfl
  | a :: l, h => by
    obtain ⟨ha, hl⟩ := List.pairwise_cons.mp h
    unfold stableSort
    rw [stableSort_congr_later R R' l hl]
    exact insertBefore_congr R R' a _ fun b hb => ha b ((perm_stableSort R' l).mem_iff.mp hb)

variable (s : Fin 5000 → Fin 5000 → EReal)

/-- The comparison of the reference's sort, of rows: by the negated maxima. -/
def Before (k k' : Fin 5000) : Bool := decide (-top (s k) < -top (s k'))

open scoped Classical in
/-- The rows' order as a comparison. -/
def precB (k k' : Fin 5000) : Bool := decide (Prec s k k')

theorem precB_iff {k k' : Fin 5000} : precB s k k' = true ↔ Prec s k k' := by simp [precB]

theorem precB_total : StrictTotalBefore (precB s) where
  irrefl a := by simp [precB, prec_irrefl s a]
  trans a b c h h' := (precB_iff s).mpr (prec_trans s ((precB_iff s).mp h) ((precB_iff s).mp h'))
  total a b h := (prec_total s h).imp (precB_iff s).mpr (precB_iff s).mpr

theorem before_eq_precB {a b : Fin 5000} (h : a < b) : Before s b a = precB s b a := by
  have h1 : (-top (s b) < -top (s a)) ↔ Prec s b a := by
    rw [EReal.neg_lt_neg_iff]
    exact ⟨.inl, fun hp => hp.elim id fun hp => absurd (hp.2.trans h) (lt_irrefl _)⟩
  unfold Before precB
  exact decide_eq_decide.mpr h1

theorem positions_eq : sortPositions 5000 (Before s) = sortPositions 5000 (precB s) :=
  stableSort_congr_later _ _ _ ((List.pairwise_lt_finRange 5000).imp fun h => before_eq_precB s h)

/-- The row the reference's sort puts at a place. -/
def ord (k : Fin 5000) : Fin 5000 := sortedFrom (Before s) k

theorem sortedFrom_eq {n : Nat} {B B' : Fin n → Fin n → Bool} (h : sortPositions n B = sortPositions n B') (k : Fin n) : sortedFrom B k = sortedFrom B' k :=
  List.get_of_eq h _

theorem ord_eq (k : Fin 5000) : ord s k = sortedFrom (precB s) k := sortedFrom_eq (positions_eq s) k

theorem ord_prec {i j : Fin 5000} (h : i < j) : Prec s (ord s i) (ord s j) := by
  have hn := sortedFrom_noInversion (precB s) (precB s) (fun a b h => (precB_total s).asymm a b h) (fun _ _ h => h) (precB_total s).negTrans i j h
  rw [ord_eq, ord_eq]
  refine (prec_total s fun e => h.ne (sortedFrom_injective (precB s) e)).resolve_right fun hp => ?_
  rw [(precB_iff s).mpr hp] at hn
  exact absurd hn (by decide)

theorem rank_of_mono {n : Nat} (f : Fin n → Nat) (hf : ∀ k, f k < n) (hm : ∀ i j, i < j → f i < f j) (k : Fin n) : f k = k.val := by
  have h : StrictMono fun k => (⟨f k, hf k⟩ : Fin n) := fun i j hij => Fin.lt_def.mpr (hm i j hij)
  exact congrArg Fin.val (le_antisymm h.apply_le h.le_apply : (⟨f k, hf k⟩ : Fin n) = k)

theorem rk_ord (k : Fin 5000) : rk s (ord s k) = k.val :=
  rank_of_mono (fun k => rk s (ord s k)) (fun k => rk_lt s (ord s k)) (fun _ _ h => (rk_lt_iff s).mpr (ord_prec s h)) k

theorem tidied (a z w : Ideal .f32) : Scalar.select (FloatOps.cmpf .une a a) z (Scalar.select (FloatOps.cmpf .oeq a w) w a) = a := by
  have hn : FloatOps.cmpf .une a a = 0#1 := by rw [Ideal.cmpf_def]; simp [Ideal.cmp]
  rw [hn]
  by_cases h : a = w
  · subst h
    unfold Scalar.select
    split <;> simp_all
  · have hw : FloatOps.cmpf .oeq a w = 0#1 := by rw [Ideal.cmpf_def]; simp [Ideal.cmp, h]
    rw [hw]
    rfl

theorem comparator_eq (a b : Ideal .f32) (i j : BitVec 32) : comparator_f32_i32_d0 (F := Ideal) (a, i) (b, j) = BitVec.ofBool (decide ((a : EReal) < b)) := by
  show FloatOps.cmpfTotal .lt (Scalar.select (FloatOps.cmpf .une a a) _ (Scalar.select (FloatOps.cmpf .oeq a _) _ a))
    (Scalar.select (FloatOps.cmpf .une b b) _ (Scalar.select (FloatOps.cmpf .oeq b _) _ b)) = _
  rw [tidied, tidied]
  rfl

/-- The reference's order of the rows. -/
theorem order_eq (x : S5000.Idx → EReal) (hx : ∀ r, x (ix1 r) = -top (s r)) (n : Fin 5000) :
    (Host.sort2 S5000 0 (comparator_f32_i32_d0 (F := Ideal)) x (iotaInDim S5000 32 0)).2 (ix1 n) = BitVec.ofNat 32 (ord s n).val := by
  have hal : ∀ (j : S5000.Idx) (k : Fin 5000), j.along (0 : Fin S5000.rank) k = ix1 k := fun j k => by
    funext a
    obtain rfl : a = (0 : Fin S5000.rank) := Subsingleton.elim (α := Fin 1) _ _
    exact Function.update_self ..
  have hb : (fun k k' : Fin 5000 => comparator_f32_i32_d0 (F := Ideal) (x ((ix1 n : S5000.Idx).along (0 : Fin S5000.rank) k), iotaInDim S5000 32 0 ((ix1 n : S5000.Idx).along (0 : Fin S5000.rank) k))
      (x ((ix1 n : S5000.Idx).along (0 : Fin S5000.rank) k'), iotaInDim S5000 32 0 ((ix1 n : S5000.Idx).along (0 : Fin S5000.rank) k')) == 1#1) = Before s := by
    funext k k'
    rw [hal, hal, comparator_eq, hx, hx]
    exact Bool.eq_iff_iff.mpr (beq_iff_eq.trans ofBool_eq_one)
  unfold Host.sort2
  rw [dif_pos (by decide : 0 < S5000.rank)]
  refine (congrArg (iotaInDim S5000 32 0) (hal (ix1 n) _)).trans ?_
  exact congrArg (fun B : Fin 5000 → Fin 5000 → Bool => BitVec.ofNat 32 (sortedFrom B n).val) hb

/-! ## The similarities -/

/-- A product of unit vectors' parts with the other's transposed. -/
theorem dot_eq (A B : S5000x28.Idx → EReal) (r c : Fin 5000) :
    Host.dotGeneral (F := Ideal) (φ₁ := .f32) (φ₂ := .f32) dot_S5000x28_S28x5000_S5000x5000_1_0_0_1_n_n none A (transpose S28x5000 [1, 0] B transposes_S5000x28_S28x5000_1_0) (ix2 r c)
      = ∑ k : Fin 28, A (ix2 r k) * B (ix2 c k) := by
  refine (StackMember.dotGeneral_plain_apply (m := 5000) (n := 5000) (k := 28) none A _ r c).trans (Finset.sum_congr rfl fun k _ => ?_)
  rw [transpose_ix2_apply]

end Cert.Proof.RefHead

end
-- ==== Proof.RefRun.lean ====
/-
  The reference's run: the matches are what 5000 trips of its loop make, and the similarities and the arguments pass the loop.
-/
module

public import proofs.«01_k».proof.Proof.RefLoop
public import Idealize.ShloMosaic.Lib.Quiescent
public import Idealize.ShloMosaic.Lib.StableHlo.RunHlo

@[expose] public section

noncomputable section

namespace Cert.Proof.RefRun

open Cert.ReferenceIdeal Cert.ReferenceIdeal.Gen Cert.ReferenceIdeal.Value
open Idealize.ShloMosaic Idealize.ShloMosaic.StableHlo
open Idealize.ShloMosaic.TcCoe

/-- The stretch leaves this reference alone. -/
def Keeps (r : Ref sig .tc) (ops : List (HloOp τ sig (Elt Ideal))) : Prop :=
  ∀ V : Valuation τ sig (Elt Ideal), after ops V (Proc.devRef .tc r) = V (Proc.devRef .tc r)

theorem keeps_of {r : Ref sig .tc} {ops : List (HloOp τ sig (Elt Ideal))} {W : List (Ref sig .tc)}
    (hw : ops.Forall fun op => op.writes ⊆ (W.map (Proc.devRef (τ := τ) .tc)).toFinset) (h : r ∉ W) : Keeps r ops :=
  fun V => after_of_writes_sub ops V hw h

theorem afterL_keeps {r : Ref sig .tc} : ∀ {items : List (List (HloOp τ sig (Elt Ideal)))}, (∀ ops ∈ items, Keeps r ops) →
    ∀ V : Valuation τ sig (Elt Ideal), afterL items V (Proc.devRef .tc r) = V (Proc.devRef .tc r)
  | [], _, _ => rfl
  | ops :: items, h, V => (afterL_keeps (items := items) (fun o ho => h o (List.mem_cons_of_mem _ ho)) (after ops V)).trans (h ops List.mem_cons_self V)

/-- What one trip of the loop writes. -/
def tripW : List (Ref sig .tc) := while0Ops0_W ++ while0Ops0_1_W ++ while0Ops0_2_W ++ while0Ops0_3_W ++ condOps_W

theorem body_keeps {r : Ref sig .tc} (h : r ∉ tripW) : ∀ ops ∈ (bodyI : List (List (HloOp τ sig (Elt Ideal)))), Keeps r ops := by
  simp only [tripW, List.mem_append, not_or] at h
  obtain ⟨⟨⟨⟨h0, h1⟩, h2⟩, h3⟩, -⟩ := h
  intro ops ho
  simp only [bodyI, List.mem_cons, List.not_mem_nil, or_false] at ho
  rcases ho with rfl | rfl | rfl | rfl
  · exact keeps_of while0Ops0_writes h0
  · exact keeps_of while0Ops0_1_writes h1
  · exact keeps_of while0Ops0_2_writes h2
  · exact keeps_of while0Ops0_3_writes h3

theorem cond_keeps' {r : Ref sig .tc} (h : r ∉ tripW) : Keeps r condOps := by
  simp only [tripW, List.mem_append, not_or] at h
  exact keeps_of condOps_writes h.2

variable (m : (ℓ : Loc nD τ sig) → Buf (Elt Ideal) ℓ) (ρ : Dev nD → PrngReg)

/-- The contents at the loop's entry. -/
abbrev E (c : Dev nD) : Valuation τ sig (Elt Ideal) := entryContents preI m c

theorem atK_keeps {r : Ref sig .tc} (h : r ∉ tripW) (c : Dev nD) : ∀ k, atK m k c (Proc.devRef .tc r) = E m c (Proc.devRef .tc r)
  | 0 => rfl
  | k + 1 => by
    rw [show atK m (k + 1) c = afterL bodyI (after condOps (atK m k c)) from rfl, afterL_keeps (body_keeps h), cond_keeps' h, atK_keeps h c k]

theorem final_keeps {r : Ref sig .tc} (h : r ∉ tripW) (c : Dev nD) :
    finalContents condOps preI bodyI postI 5000 m c (Proc.devRef .tc r) = E m c (Proc.devRef .tc r) :=
  (cond_keeps' h (atK m 5000 c)).trans (atK_keeps m h c 5000)

theorem final_matches (c : Dev nD) :
    finalContents condOps preI bodyI postI 5000 m c (Proc.devRef .tc main_v123_4) = (STEP^[5000] (E m c)) (Proc.devRef .tc main_v123_4) :=
  (cond_keeps (atK m 5000 c) _ (by decide)).trans (atK_agree m c 5000 _ (by decide))

/-! ## The stretches before the loop -/

/-- The arguments. -/
def args : List (Ref sig .tc) := [main_arg0, main_arg1, main_arg2, main_arg3, main_arg4, main_arg5, main_arg6, main_arg7, main_arg8, main_arg9]

/-- What the stretches before the loop write, as far as a reference among the arguments can tell. -/
theorem pre_keeps {r : Ref sig .tc} (h : r ∈ args) : ∀ ops ∈ (preI : List (List (HloOp τ sig (Elt Ideal)))), Keeps r ops := by
  have key : ∀ (W : List (Ref sig .tc)) (_ : ∀ a ∈ args, a ∉ W) (ops : List (HloOp τ sig (Elt Ideal)))
      (_ : ops.Forall fun op => op.writes ⊆ (W.map (Proc.devRef (τ := τ) .tc)).toFinset), Keeps r ops := fun W hW ops hw => keeps_of hw (hW r h)
  refine List.forall_iff_forall_mem.mp ?_
  exact ⟨key _ (by decide) _ hostOps0_writes, key _ (by decide) _ hostOps0_1_writes, key _ (by decide) _ hostOps0_2_writes, key _ (by decide) _ hostOps0_3_writes,
    key _ (by decide) _ hostOps0_4_writes, key _ (by decide) _ hostOps0_5_writes, key _ (by decide) _ hostOps0_6_writes, key _ (by decide) _ hostOps0_7_writes,
    key _ (by decide) _ hostOps0_8_writes, key _ (by decide) _ hostOps0_9_writes, key _ (by decide) _ hostOps0_10_writes, key _ (by decide) _ hostOps0_11_writes,
    key _ (by decide) _ hostOps0_12_writes, key _ (by decide) _ hostOps0_13_writes, key _ (by decide) _ hostOps0_14_writes, key _ (by decide) _ hostOps0_15_writes,
    key _ (by decide) _ hostOps0_16_writes, key _ (by decide) _ hostOps0_17_writes, key _ (by decide) _ hostOps0_18_writes, key _ (by decide) _ hostOps0_19_writes,
    key _ (by decide) _ hostOps0_20_writes, key _ (by decide) _ hostOps0_21_writes, key _ (by decide) _ hostOps0_22_writes, key _ (by decide) _ hostOps0_23_writes,
    key _ (by decide) _ hostOps0_24_writes, key _ (by decide) _ hostOps0_25_writes, key _ (by decide) _ hostOps0_26_writes, key _ (by decide) _ hostOps0_27_writes,
    key _ (by decide) _ hostOps0_28_writes, key _ (by decide) _ hostOps0_29_writes, key _ (by decide) _ hostOps0_30_writes⟩

theorem args_kept {r : Ref sig .tc} (h : r ∈ args) (c : Dev nD) :
    finalContents condOps preI bodyI postI 5000 m c (Proc.devRef .tc r) = m ((c.tc : Thread nD τ).loc r) :=
  (final_keeps m ((by decide : ∀ a ∈ args, a ∉ tripW) r h) c).trans (afterL_keeps (pre_keeps h) (launchContents m c))

/-- The reference's run: the results by what the loop's entry holds, the arguments unchanged and every semaphore at zero. -/
theorem run : θ_run (defs (F := Ideal)) (onTc (τ := τ) (main (F := Ideal))) ⟨m, fun _ => 0, ρ⟩
    (fun r => (∀ c : Dev nD, r.2.mem ((c.tc : Thread nD τ).loc main_v123_4) = (STEP^[5000] (E m c)) (Proc.devRef .tc main_v123_4)
      ∧ r.2.mem ((c.tc : Thread nD τ).loc main_v116) = E m c (Proc.devRef .tc main_v116)
      ∧ ∀ a ∈ args, r.2.mem ((c.tc : Thread nD τ).loc a) = m ((c.tc : Thread nD τ).loc a)) ∧ r.2.sem = fun _ => 0) := by
  refine θ_run_mono (run_fold m ρ) ?_
  intro r h
  refine ⟨fun c => ⟨(h c main_v123_4 (by decide)).trans (final_matches m c), (h c main_v116 (by decide)).trans (final_keeps m (by decide) c),
    fun a ha => (h c a ((by decide : ∀ a ∈ args, (Proc.devRef .tc a : DevRef τ sig).isScoped = false) a ha)).trans (args_kept m ha c)⟩, ?_⟩
  exact sem_eq_zero_of_no_sems (by decide) r.2

end Cert.Proof.RefRun

end
-- ==== Proof.Launch.lean ====
/-
  The program as the SparseCore launch theorem sees it: the configuration, the resource algebra, and what the one SparseCore
  call hands the tiles and takes back. Tile (0, 0) alone works: it takes the ranks, the columns and the threshold words
  (`R`, `M`, `H`) and the output array, and brings the output back at the rows' matches (`matched`); every other tile takes
  and brings nothing.
-/
module

public import proofs.«01_k».proof.Proof.Greedy
public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Greedy

variable {F : FTy → Type}

/-! ## The configuration -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds. -/
abbrev EH : Emb UH (MT nD τ sig (HIx 1) (Elt F) ℕ UU ℕ) := embL

/-- The pipelines' rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## What the call carries -/

/-- The ranks, the columns, the threshold words and the output, as locations of device `d`. -/
abbrev rLoc (d : Dev nD) : Loc nD τ sig := (SparseCore.T d).loc main_v99
abbrev mLoc (d : Dev nD) : Loc nD τ sig := (SparseCore.T d).loc main_v102
abbrev hLoc (d : Dev nD) : Loc nD τ sig := (SparseCore.T d).loc main_v105
abbrev oLoc (d : Dev nD) : Loc nD τ sig := (SparseCore.T d).loc main_v106

variable (R M H : Dev nD → Words)

/-- The three inputs at their words, -/
abbrev inPts (d : Dev nD) : sProp 𝕄 :=
  iprop((rLoc d ↦{fullShare} (R d : Buf (Elt F) (rLoc d))) ∗ (mLoc d ↦{fullShare} (M d : Buf (Elt F) (mLoc d))) ∗ (hLoc d ↦{fullShare} (H d : Buf (Elt F) (hLoc d))))
/-- and the output at `f`. -/
abbrev oPts (d : Dev nD) (f : Words) : sProp 𝕄 := oLoc d ↦{fullShare} (f : Buf (Elt F) (oLoc d))

/-- What the working tile takes, -/
abbrev take (d : Dev nD) : sProp 𝕄 := iprop(inPts R M H d ∗ ∃ f, oPts d f)
/-- and brings back. -/
abbrev bring (d : Dev nD) : sProp 𝕄 := iprop(inPts R M H d ∗ oPts d (matched (R d) (M d) (H d)))

/-- `X` for number 0, nothing for the others. -/
def only (n : ℕ) (X : sProp 𝕄) : sProp 𝕄 := if n = 0 then X else iprop(emp)

theorem only_zero (X : sProp 𝕄) : only 0 X = X := if_pos rfl
theorem only_pos {n : ℕ} (h : n ≠ 0) (X : sProp 𝕄) : only n X = iprop(emp) := if_neg h

instance only_storable (n : ℕ) (X : sProp 𝕄) [BI.Storable (upEmb : UEmb _ 𝕄) X] : BI.Storable (upEmb : UEmb _ 𝕄) (only n X) := by
  unfold only; split <;> infer_instance

/-- The one call's payloads. -/
def P : (K (F := F)).Pay (nD := nD) (Val := Elt F) (Name := ℕ) (U := UU) where
  st := fun _ d c => only c.val (take R M H d)
  dn := fun _ d c => only c.val (bring R M H d)
  go := fun _ d c i => only i.val (only c.val (take R M H d))
  td := fun _ d c i => only i.val (only c.val (bring R M H d))
  x := fun _ _ => iprop(emp)

instance P_storable : (P (F := F) R M H).IsStorable where
  st _ d c := by unfold P; infer_instance
  dn _ d c := by unfold P; infer_instance
  go _ _ _ _ := by unfold P; infer_instance
  td _ _ _ _ := by unfold P; infer_instance

theorem bigSep_emp' {I : Type} (s : Finset I) : (bigSep s fun _ => iprop(emp)) = (iprop(emp) : sProp 𝕄) := bigSep_emp_const s

/-- The sixteen tiles' shares are tile 0's. -/
theorem bigSep_only (n : ℕ) (X : sProp 𝕄) : (bigSep Finset.univ fun i : Fin (n + 1) => only i.val X) = X := by
  rw [SparseCore.bigSep_erase' (Finset.mem_univ (0 : Fin (n + 1))), bigSep_congr (Ψ := fun _ => iprop(emp)) (fun i hi => only_pos (fun h => (Finset.mem_erase.mp hi).1 (Fin.ext h)) X),
    bigSep_emp', show only (0 : Fin (n + 1)).val X = X from only_zero X]
  exact Entails.antisymm sep_emp_elim sep_emp_intro

theorem vecSplit : (K (F := F)).VecSplit' (P R M H) 0 := by
  intro d c
  show only c.val (take R M H d) ⊢ |={Set.univ}=> iprop(
      (bigSep Finset.univ fun i : Fin 16 => only i.val (only c.val (take R M H d)))
      ∗ ((bigSep Finset.univ fun i : Fin 16 => only i.val (only c.val (bring R M H d))) -∗ only c.val (bring R M H d)))
  rw [bigSep_only 15, bigSep_only 15]
  iintro Hx; imodintro
  isplitl [Hx]; · iexact Hx
  iintro Hx; iexact Hx

/-- What @main hands the call for the two SparseCores, and takes back. -/
theorem st_eq (d : Dev nD) : (bigSep Finset.univ fun c : Fin ((K (F := F)).nCore 0) => (P (F := F) R M H).st 0 d c) = take R M H d :=
  bigSep_only 1 _
theorem dn_eq (d : Dev nD) : (bigSep Finset.univ fun c : Fin ((K (F := F)).nCore 0) => (P (F := F) R M H).dn 0 d c) = bring R M H d :=
  bigSep_only 1 _

end Cert.Proof.Launch

end
-- ==== Proof.Region.lean ====
/-
  A TensorCore call inside the SparseCore program. The two grid kernels run before the SparseCore call, while the TensorCore
  still owes the SparseCores their start signal; every wait their pipelines record is at index `none`, whose level is 0, so
  the bound the handshake asks of the recorded waits survives. `seg` is such a call as one segment of @main: entered from the
  unscoped buffers at a valuation, left at `afterRegion` of it.
-/
module

public import proofs.«01_k».proof.Proof.Launch
public import proofs.«01_k».proof.Proof.Gen.KernelIdeal.Launch
public import Idealize.ShloMosaic.Lib.Pipeline.RegionArraysS

@[expose] public section

noncomputable section

namespace Cert.Proof.Region

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Proof.Launch

variable {F : FTy → Type} [FloatOps F]

local notation "𝕄" => MT nD τ sig (HIx 1) (Elt F) ℕ UU ℕ

/-- The calls prefetch no table: the one admissible contents. -/
abbrev adm : (p : Fin 2) → (pcfgs (F := F) p).Adm := fun p => (cfgs p).toPCfg_adm

/-- The waits recorded at level 0. -/
def low (d : Dev nD) : Set (SemLoc sig × HIx 1) := {p | (K (F := F)).lev (T d, p.1) p.2 ≤ 0}

/-- What the TensorCore owes before the SparseCore call, its recorded waits at level 0. -/
def debt (d : Dev nD) : sProp 𝕄 :=
  iprop(∃ W, ⌜(K (F := F)).WBelow (T d) W 0⌝ ∗ owes (T d) ((K (F := F)).Otc d 0) W)

section Seg

variable (pdats : (p : Fin 2) → (c : Dev nD) → Dat τ (Elt F) (HIx 1) ℕ UU ℕ (pin (pcfgs (F := F)) adm p) c)
variable (p : Fin 2) (kit : PLaunchFacts (nD := nD) (τ := τ) (pcfgs (F := F)) p)
  (hbody : ∀ c, BodyObligationLoose (pdats p c) (defs₀ (F := F)) 𝒱₀ none Set.univ)
  (howed : ∀ c t, (pdats p c).owed t = (K (F := F)).Otc c 0) (hrec : ∀ c t, (pdats p c).recorded t = low (F := F) c)
  (hshare : ∀ c w, (pdats p c).share w = fullShare)
  (hΦ : ∀ c t, (pdats p c).Φ t = scopedRest (pin (pcfgs (F := F)) adm p).spec c)
  (hS : arrRefs (pcfgs (F := F) p).spec ⊆ ucRefs τ sig)
  (W : Dev nD → Valuation τ sig (Elt F))
  (hW : ∀ c w, (pdats p c).arrAt w 0 = W c (Proc.devRef .tc (arrRef (pin (pcfgs (F := F)) adm p).spec w)))

/-- A grid kernel's call as a segment of @main. -/
def seg (hK : (pcfgs (F := F) p).pre.K = 0) : RegionSeg (pcfgs (F := F)) adm pdats none (defs₀ (F := F)) 𝒱₀ (K (F := F)).L (K (F := F)).lev p where
  win := kit.win.to₀
  block_pos := kit.block_pos
  stage_whole := kit.stage_whole
  K := PEmpty
  osem k := k.elim
  ho := OwnSemFacts.none _
  hbody := hbody
  hwaits c := cellsWaits_of_cut (pin (pcfgs (F := F)) adm) pdats none p c 0 ((K (F := F)).Otc c 0) (howed c)
    (fun _ _ => Finset.mem_univ _) (fun _ _ => le_rfl)
    (fun g i h => ⟨Finset.mem_univ _, Nat.lt_of_lt_of_le (Nat.succ_pos _) ((K (F := F)).lev_of_Otc_pos h)⟩)
  pre c := iprop(StableHlo.held (T c) (ucRefs τ sig) (W c) ∗ debt (F := F) c)
  post c := iprop(StableHlo.held (T c) (ucRefs τ sig) (afterRegion (pdats p c) (W c)) ∗ debt (F := F) c)
  X _ := iprop(emp)
  Y _ := iprop(emp)
  Z c := StableHlo.held (T c) (ucRefs τ sig \ arrRefs (pcfgs (F := F) p).spec) (W c)
  hentry c := by
    rw [ownSems0_none, prefHeld_of_none _ hK, StableHlo.held_sub_split (T c) hS (W c)]
    rw [← arrays_held (pcfgs (F := F)) adm pdats p kit c (hshare c) ((pdats p c).arrAt · 0) (W c) (hW c)]
    iintro ⟨⟨⟨Ha, Hu⟩, HO⟩, -, -⟩
    imodintro
    isplitl [Ha]; · iexact Ha
    isplitr; · iempintro
    isplitl [HO]
    · unfold Dat.owesAt owesWithin Dat.bound debt
      rw [howed c 0, hrec c 0]
      icases HO with ⟨%W, %hb, HO⟩; iexists W; isplitr; · ipureintro; exact fun q hq => Or.inl (hb q hq)
      iexact HO
    isplitr; · iempintro
    iexact Hu
  hin c := by
    rw [hΦ]
    iintro ⟨-, -, Hr⟩
    iexact Hr
  hout c := by
    rw [hΦ, ownSems0_none]
    iintro Hr
    isplitr; · iempintro
    isplitr; · iempintro
    iexact Hr
  hexit c := by
    rw [arrays_held (pcfgs (F := F)) adm pdats p kit c (hshare c) ((pdats p c).arrAt · (pin (pcfgs (F := F)) adm p).N) (afterRegion (pdats p c) (W c))
        (fun w => (afterRegion_arr (pdats p c) (W c) kit.win.arr_inj w).symm),
      StableHlo.held_sub_split (T c) hS (afterRegion (pdats p c) (W c)),
      StableHlo.held_congr (T c) (S := ucRefs τ sig \ arrRefs (pcfgs (F := F) p).spec) (V := afterRegion (pdats p c) (W c)) (V' := W c)
        (afterRegion_off (pdats p c) (W c) _)]
    iintro ⟨Ha, HO, -, HZ⟩
    imodintro
    isplitl [Ha HZ]
    · isplitl [Ha]; · iexact Ha
      iexact HZ
    unfold Dat.owesAt owesWithin Dat.bound debt
    rw [howed c (Fin.last _), hrec c (Fin.last _)]
    icases HO with ⟨%W, %hb, HO⟩; iexists W
    isplitr
    · ipureintro
      intro q hq
      rcases hb hq with h | ⟨w, s, rfl⟩
      · exact h
      · exact le_rfl
    iexact HO

include kit hbody howed hrec hshare hΦ hS hW in
/-- The call, in the SparseCore program. -/
theorem wp_region (hK : (pcfgs (F := F) p).pre.K = 0) (c : Dev nD)
    {α : Type} (k : PUnit → Prog (TpuEff nD τ sig (Elt F) (SparseCore.Sig (ΛP (F := F)) 1) .tc) α) (Q : α → sProp 𝕄) :
    iprop((iprop(boundary (T c) ∗ StableHlo.held (T c) (ucRefs τ sig) (afterRegion (pdats p c) (W c)) ∗ debt (F := F) c)
          -∗ wp frame (wpE ((K (F := F)).defs (D (F := F))) 𝒱 (T c) none) Set.univ (k ⟨⟩) Q)
        ∗ boundary (T c) ∗ StableHlo.held (T c) (ucRefs τ sig) (W c) ∗ debt (F := F) c ∗ levAts (K (F := F)).L (K (F := F)).lev
        ∗ cellsGhost (pin (pcfgs (F := F)) adm) EP p c ∗ toksInit (pin (pcfgs (F := F)) adm) EP p c)
      ⊢ wp frame (wpE ((K (F := F)).defs (D (F := F))) 𝒱 (T c) none) Set.univ
          (Prog.lift (.customCall (SparseCore.inner (Pipeline.entry p)) ()) >>= k) Q := by
  have h := RegionSeg.wp (pcfgs (F := F)) adm pdats none (kit.cellOf_inj adm) EP (defs₀ (F := F)) 𝒱₀ (K (F := F)).L (K (F := F)).lev
    (seg pdats p kit hbody howed hrec hshare hΦ hS W hW hK) c none (fun _ h => nomatch h) (α := PUnit)
    (fun _ => .ret ⟨⟩) (fun x => wp frame (wpE ((K (F := F)).defs (D (F := F))) 𝒱 (T c) none) Set.univ (k x) Q)
  have h2 := (K (F := F)).wp_liftProg (D (F := F)) 𝒱 (T c) Set.univ none (Prog.op (.customCall (entry p) ()) fun _ => .ret ⟨⟩)
    (fun x => wp frame (wpE ((K (F := F)).defs (D (F := F))) 𝒱 (T c) none) Set.univ (k x) Q)
  rw [wp_bind]
  refine BIBase.Entails.trans ?_ (BIBase.Entails.trans h h2)
  iintro ⟨Hk, Hb, HW, HD, HL, Hg, Ht⟩
  isplitl [Hk]
  · rw [wp_ret]
    rw [show (seg pdats p kit hbody howed hrec hshare hΦ hS W hW hK).post c
      = iprop(StableHlo.held (T c) (ucRefs τ sig) (afterRegion (pdats p c) (W c)) ∗ debt (F := F) c) from rfl]
    iintro ⟨Hb, HW, HD⟩
    imodintro
    iapply Hk
    isplitl [Hb]; · iexact Hb
    isplitl [HW]; · iexact HW
    iexact HD
  isplitl [Hb]; · iexact Hb
  rw [show (seg pdats p kit hbody howed hrec hshare hΦ hS W hW hK).pre c
    = iprop(StableHlo.held (T c) (ucRefs τ sig) (W c) ∗ debt (F := F) c) from rfl]
  isplitl [HW HD]
  · isplitl [HW]; · iexact HW
    iexact HD
  isplitl [HL]; · iexact HL
  isplitl [Hg]; · iexact Hg
  iexact Ht

end Seg

end Cert.Proof.Region

end
-- ==== Proof.Sim.lean ====
/-
  The similarity kernel: ten blocks of 512 rows, the last cut at row 5000. From the encoded vectors' real and imaginary parts
  it leaves every pair's similarity, each row's maximum and the first column attaining it.
-/
module

public import proofs.«01_k».proof.Proof.Region
public import proofs.«01_k».proof.Proof.Pay
public import proofs.«01_k».proof.Proof.Gen.KernelIdeal.Points
public import Idealize.ShloMosaic.Lib.Pipeline.ValueKit
public import Idealize.ShloMosaic.Lib.Tactic

@[expose] public section

noncomputable section

namespace Cert.Proof.Sim

open Cert.KernelIdeal Cert.KernelIdeal.Gen
open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Proof.Launch Cert.Proof.Region Cert.Proof.Pay

local notation "𝕄" => MT nD τ sig (HIx 1) (Elt Ideal) ℕ UU ℕ

variable (V : Valuation τ sig (Elt Ideal))

/-- The encoded vectors: of the first detections and of the second, real and imaginary parts. -/
def ra : S5000x28.Idx → EReal := V (Proc.devRef .tc main_v75)
def ia : S5000x28.Idx → EReal := V (Proc.devRef .tc main_v77)
def rb : S5000x28.Idx → EReal := V (Proc.devRef .tc main_v89)
def ib : S5000x28.Idx → EReal := V (Proc.devRef .tc main_v91)

/-- The similarity of row `r` of the first and row `c` of the second. -/
def simF (ra ia rb ib : S5000x28.Idx → EReal) (r c : Fin 5000) : EReal :=
  dot2 (fun k => ra (ValueIdx.ix2 r k)) (fun k => ia (ValueIdx.ix2 r k)) (fun k => rb (ValueIdx.ix2 c k)) (fun k => ib (ValueIdx.ix2 c k))

/-- What the kernel leaves: similarities, maxima, columns. -/
def sims : S5000x5000.Idx → EReal := fun i => simF (ra V) (ia V) (rb V) (ib V) (i 0) (i 1)
def tops : S5000x1.Idx → EReal := fun i => top (simF (ra V) (ia V) (rb V) (ib V) (i 0))
def cols : S5000x1.Idx → BitVec 32 := fun i => BitVec.ofNat 32 (first (simF (ra V) (ia V) (rb V) (ib V) (i 0))).val

theorem tops_at (i : S5000x1.Idx) : tops V i = top (simF (ra V) (ia V) (rb V) (ib V) (i 0)) := rfl

attribute [local irreducible] tops

def dat (c : Dev nD) : Dat τ (Elt Ideal) (HIx 1) ℕ UU ℕ cfg0 c where
  A w := V (Proc.devRef .tc (arrRef spec0 w))
  after w t := match w with
    | ⟨0, _⟩ => win0_0.fill (grid0.coords t) (fun _ => (0 : EReal)) ((win0_0.blk t).view.read (Elt Ideal) (ra V))
    | ⟨1, _⟩ => win0_1.fill (grid0.coords t) (fun _ => (0 : EReal)) ((win0_1.blk t).view.read (Elt Ideal) (ia V))
    | ⟨2, _⟩ => rb V
    | ⟨3, _⟩ => ib V
    | ⟨4, _⟩ => win0_4.fill (grid0.coords t) (fun _ => (0 : EReal)) ((win0_4.blk t).view.read (Elt Ideal) (sims V))
    | ⟨5, _⟩ => win0_5.fill (grid0.coords t) (fun _ => (0 : EReal)) ((win0_5.blk t).view.read (Elt Ideal) (tops V))
    | ⟨6, _⟩ => win0_6.fill (grid0.coords t) (fun _ => 0#32) ((win0_6.blk t).view.read (Elt Ideal) (cols V))
  Φ _ := scopedRest spec0 c
  q _ := fullShare
  owed _ := (K (F := Ideal)).Otc c 0
  recorded _ := low (F := Ideal) c

theorem before_0 (c : Dev nD) (t : Fin cfg0.N) (d) :
    (dat V c).before (0 : Fin 7) t d = win0_0.fill (grid0.coords t) d ((win0_0.blk t).view.read (Elt Ideal) (ra V)) := by
  unfold Dat.before; rw [if_pos (fetch0_0 t)]; rfl

theorem before_1 (c : Dev nD) (t : Fin cfg0.N) (d) :
    (dat V c).before (1 : Fin 7) t d = win0_1.fill (grid0.coords t) d ((win0_1.blk t).view.read (Elt Ideal) (ia V)) := by
  unfold Dat.before; rw [if_pos (fetch0_1 t)]; rfl

theorem whole_2 (t : Fin cfg0.N) (X : S5000x28.Idx → EReal) : (win0_2.blk t).view.read (Elt Ideal) X = X := by
  have e : ∀ t : Fin cfg0.N, win0_2.index t = ![0, 0] := by decide +kernel
  funext y
  show X ((win0_2.blk t).view.emb y) = X y
  refine congrArg X (funext fun a => Fin.ext ?_)
  fin_cases a <;> blk_simp [e] <;> simp

theorem whole_3 (t : Fin cfg0.N) (X : S5000x28.Idx → EReal) : (win0_3.blk t).view.read (Elt Ideal) X = X := by
  have e : ∀ t : Fin cfg0.N, win0_3.index t = ![0, 0] := by decide +kernel
  funext y
  show X ((win0_3.blk t).view.emb y) = X y
  refine congrArg X (funext fun a => Fin.ext ?_)
  fin_cases a <;> blk_simp [e] <;> simp

theorem before_2 (c : Dev nD) (t : Fin cfg0.N) (d) : (dat V c).before (2 : Fin 7) t d = rb V := by
  rw [(dat V c).before_in_eq_fetched (2 : Fin 7) rfl (fun _ => rfl) (fun _ _ _ => rfl) (fun t => (whole_2 t _).symm) t d]
  exact whole_2 t _

theorem before_3 (c : Dev nD) (t : Fin cfg0.N) (d) : (dat V c).before (3 : Fin 7) t d = ib V := by
  rw [(dat V c).before_in_eq_fetched (3 : Fin 7) rfl (fun _ => rfl) (fun _ _ _ => rfl) (fun t => (whole_3 t _).symm) t d]
  exact whole_3 t _

theorem before_4 (c : Dev nD) (t : Fin cfg0.N) (d) : (dat V c).before (4 : Fin 7) t d = d :=
  (dat V c).before_out_reset (4 : Fin 7) rfl t (by
    by_cases h : t.val = 0
    · exact .inl h
    · exact .inr ⟨h, flush0_4 _⟩) d

theorem before_5 (c : Dev nD) (t : Fin cfg0.N) (d) : (dat V c).before (5 : Fin 7) t d = d :=
  (dat V c).before_out_reset (5 : Fin 7) rfl t (by
    by_cases h : t.val = 0
    · exact .inl h
    · exact .inr ⟨h, flush0_5 _⟩) d

theorem before_6 (c : Dev nD) (t : Fin cfg0.N) (d) : (dat V c).before (6 : Fin 7) t d = d :=
  (dat V c).before_out_reset (6 : Fin 7) rfl t (by
    by_cases h : t.val = 0
    · exact .inl h
    · exact .inr ⟨h, flush0_6 _⟩) d

set_option maxHeartbeats 2000000 in
/-- The body on the staging buffers of one parity. -/
theorem body (c : Dev nD) (E : Set ℕ) (i : grid0.Coords) (s0 s1 : Fin 2) (s2 s3 : Fin 1) (s4 s5 s6 : Fin 2)
    (e1 : s1 = s0) (e4 : s4 = s0) (e5 : s5 = s0) (e6 : s6 = s0)
    (X0 X1 : S512x28.Idx → EReal) (X2 X3 : S5000x28.Idx → EReal) (X4 : S512x5000.Idx → EReal) (X5 : S512x1.Idx → EReal)
    (X6 : S512x1.Idx → BitVec 32) (Q : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (k0_pay1 (F := Ideal) X0 X1 X2 X3)
            ∗ owns (c : Thread nD τ) (stage0_5 s5) fullShare (k0_pay2 (F := Ideal) X0 X1 X2 X3)
            ∗ owns (c : Thread nD τ) (stage0_6 s6) fullShare (k0_pay3 (F := Ideal) X0 X1 X2 X3)) -∗ Q ⟨⟩))
      ⊢ wp frame (wpE (defs₀ (F := Ideal)) 𝒱₀ c none) E
          (cc0__sim_body i (stage0_0 s0) (hstage0_0 s0) (stage0_1 s1) (hstage0_1 s1) (stage0_2 s2) (hstage0_2 s2) (stage0_3 s3) (hstage0_3 s3)
            (stage0_4 s4) (hstage0_4 s4) (stage0_5 s5) (hstage0_5 s5) (stage0_6 s6) (hstage0_6 s6)) Q := by
  have hz : (![0, 0] : Fin 2 → Nat) = fun _ => 0 := funext fun a => by fin_cases a <;> rfl
  have r00 : (Memref.whole cc0_stg0_0 : Memref sig .tc _ _ _).view.readAt (Elt Ideal) (Rect.unit (s := S512x28) ![0, 0] S512x28.size
      inb_S512x28_S512x28_0_0).toLoadRect = id := funext (Memref.readAt_unit_zero (Elt Ideal) cc0_stg0_0 hz _)
  have r01 : (Memref.whole cc0_stg0_1 : Memref sig .tc _ _ _).view.readAt (Elt Ideal) (Rect.unit (s := S512x28) ![0, 0] S512x28.size
      inb_S512x28_S512x28_0_0).toLoadRect = id := funext (Memref.readAt_unit_zero (Elt Ideal) cc0_stg0_1 hz _)
  have r10 : (Memref.whole cc0_stg1_0 : Memref sig .tc _ _ _).view.readAt (Elt Ideal) (Rect.unit (s := S512x28) ![0, 0] S512x28.size
      inb_S512x28_S512x28_0_0).toLoadRect = id := funext (Memref.readAt_unit_zero (Elt Ideal) cc0_stg1_0 hz _)
  have r11 : (Memref.whole cc0_stg1_1 : Memref sig .tc _ _ _).view.readAt (Elt Ideal) (Rect.unit (s := S512x28) ![0, 0] S512x28.size
      inb_S512x28_S512x28_0_0).toLoadRect = id := funext (Memref.readAt_unit_zero (Elt Ideal) cc0_stg1_1 hz _)
  have r20 : (Memref.whole cc0_stg2_0 : Memref sig .tc _ _ _).view.readAt (Elt Ideal) (Rect.unit (s := S5000x28) ![0, 0] S5000x28.size
      inb_S5000x28_S5000x28_0_0).toLoadRect = id := funext (Memref.readAt_unit_zero (Elt Ideal) cc0_stg2_0 hz _)
  have r30 : (Memref.whole cc0_stg3_0 : Memref sig .tc _ _ _).view.readAt (Elt Ideal) (Rect.unit (s := S5000x28) ![0, 0] S5000x28.size
      inb_S5000x28_S5000x28_0_0).toLoadRect = id := funext (Memref.readAt_unit_zero (Elt Ideal) cc0_stg3_0 hz _)
  have w40 : ∀ f w, (((Memref.whole cc0_stg4_0).access (Rect.unit (s := S512x5000) ![0, 0] S512x5000.size inb_S512x5000_S512x5000_0_0)) :
      View sig .tc _ _ _).write (Elt Ideal) f w Finset.univ = w := Memref.write_access_unit_zero_univ (Elt Ideal) cc0_stg4_0 hz _
  have w41 : ∀ f w, (((Memref.whole cc0_stg4_1).access (Rect.unit (s := S512x5000) ![0, 0] S512x5000.size inb_S512x5000_S512x5000_0_0)) :
      View sig .tc _ _ _).write (Elt Ideal) f w Finset.univ = w := Memref.write_access_unit_zero_univ (Elt Ideal) cc0_stg4_1 hz _
  have w50 : ∀ f w, (((Memref.whole cc0_stg5_0).access (Rect.unit (s := S512x1) ![0, 0] S512x1.size inb_S512x1_S512x1_0_0)) :
      View sig .tc _ _ _).write (Elt Ideal) f w Finset.univ = w := Memref.write_access_unit_zero_univ (Elt Ideal) cc0_stg5_0 hz _
  have w51 : ∀ f w, (((Memref.whole cc0_stg5_1).access (Rect.unit (s := S512x1) ![0, 0] S512x1.size inb_S512x1_S512x1_0_0)) :
      View sig .tc _ _ _).write (Elt Ideal) f w Finset.univ = w := Memref.write_access_unit_zero_univ (Elt Ideal) cc0_stg5_1 hz _
  have w60 : ∀ f w, (((Memref.whole cc0_stg6_0).access (Rect.unit (s := S512x1) ![0, 0] S512x1.size inb_S512x1_S512x1_0_0)) :
      View sig .tc _ _ _).write (Elt Ideal) f w Finset.univ = w := Memref.write_access_unit_zero_univ (Elt Ideal) cc0_stg6_0 hz _
  have w61 : ∀ f w, (((Memref.whole cc0_stg6_1).access (Rect.unit (s := S512x1) ![0, 0] S512x1.size inb_S512x1_S512x1_0_0)) :
      View sig .tc _ _ _).write (Elt Ideal) f w Finset.univ = w := Memref.write_access_unit_zero_univ (Elt Ideal) cc0_stg6_1 hz _
  subst e1; subst e4; subst e5; subst e6
  fin_cases s2
  fin_cases s3
  fin_cases s6
  · simp only [owns_whole_eq, cc0__sim_body_eq_skeleton]; unfold cc0__sim_body_skel
    simp only [Prog.lift, Prog.bind_op, Prog.bind_ret]
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩, Hk⟩
    sl_steps
    iapply Hk
    rw [r00, r10, r20, r30, w40, w50, w60]
    subst h0; subst h1; subst h2; subst h3
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists k0_pay1 (F := Ideal) f0 f1 f2 f3; isplitr; · ipureintro; rfl
      iexact H4
    isplitl [H5]
    · iexists k0_pay2 (F := Ideal) f0 f1 f2 f3; isplitr; · ipureintro; rfl
      iexact H5
    · iexists k0_pay3 (F := Ideal) f0 f1 f2 f3; isplitr; · ipureintro; rfl
      iexact H6
  · simp only [owns_whole_eq, cc0__sim_body_eq_skeleton]; unfold cc0__sim_body_skel
    simp only [Prog.lift, Prog.bind_op, Prog.bind_ret]
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩, Hk⟩
    sl_steps
    iapply Hk
    rw [r01, r11, r20, r30, w41, w51, w61]
    subst h0; subst h1; subst h2; subst h3
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists k0_pay1 (F := Ideal) f0 f1 f2 f3; isplitr; · ipureintro; rfl
      iexact H4
    isplitl [H5]
    · iexists k0_pay2 (F := Ideal) f0 f1 f2 f3; isplitr; · ipureintro; rfl
      iexact H5
    · iexists k0_pay3 (F := Ideal) f0 f1 f2 f3; isplitr; · ipureintro; rfl
      iexact H6

/-- Every double-buffered window is on the same of its two buffers. -/
theorem slots_eq : ∀ t : Fin cfg0.N, (cfg0.slots t 1 : Fin 2) = (cfg0.slots t 0 : Fin 2) ∧ (cfg0.slots t 4 : Fin 2) = (cfg0.slots t 0 : Fin 2)
    ∧ (cfg0.slots t 5 : Fin 2) = (cfg0.slots t 0 : Fin 2) ∧ (cfg0.slots t 6 : Fin 2) = (cfg0.slots t 0 : Fin 2) := by
  decide +kernel

theorem coord : ∀ t : Fin cfg0.N, win0_0.index t = ![(grid0.coords t 0).val, 0] ∧ win0_1.index t = ![(grid0.coords t 0).val, 0]
    ∧ win0_4.index t = ![(grid0.coords t 0).val, 0] ∧ win0_5.index t = ![(grid0.coords t 0).val, 0]
    ∧ win0_6.index t = ![(grid0.coords t 0).val, 0] := by decide +kernel

set_option maxHeartbeats 2000000

/-- How much of a block lies in the array. -/
theorem cuts : ∀ t : Fin cfg0.N,
    (win0_0.xsize (grid0.coords t) 0 = min 512 (5000 - 512 * (grid0.coords t 0).val) ∧ win0_0.xsize (grid0.coords t) 1 = 28)
    ∧ (win0_1.xsize (grid0.coords t) 0 = min 512 (5000 - 512 * (grid0.coords t 0).val) ∧ win0_1.xsize (grid0.coords t) 1 = 28) := by
  decide +kernel

theorem emb_0 (t : Fin cfg0.N) (y : (win0_0.xblock (grid0.coords t)).Idx) :
    ((win0_0.blk t).view.emb y 0).val = 512 * (grid0.coords t 0).val + (y 0).val ∧ ((win0_0.blk t).view.emb y 1).val = (y 1).val := by
  have i := (coord t).1
  constructor
  · blk_simp [i]
    show (grid0.coords t 0).val * 512 + (y 0).val = _
    omega
  · blk_simp [i]
    try show 0 * 28 + (y 1).val = _
    try omega

theorem emb_1 (t : Fin cfg0.N) (y : (win0_1.xblock (grid0.coords t)).Idx) :
    ((win0_1.blk t).view.emb y 0).val = 512 * (grid0.coords t 0).val + (y 0).val ∧ ((win0_1.blk t).view.emb y 1).val = (y 1).val := by
  have i := (coord t).2.1
  constructor
  · blk_simp [i]
    show (grid0.coords t 0).val * 512 + (y 0).val = _
    omega
  · blk_simp [i]
    try show 0 * 28 + (y 1).val = _
    try omega

theorem emb_4 (t : Fin cfg0.N) (y : (win0_4.xblock (grid0.coords t)).Idx) :
    ((win0_4.blk t).view.emb y 0).val = 512 * (grid0.coords t 0).val + (y 0).val ∧ ((win0_4.blk t).view.emb y 1).val = (y 1).val := by
  have i := (coord t).2.2.1
  constructor
  · blk_simp [i]
    show (grid0.coords t 0).val * 512 + (y 0).val = _
    omega
  · refine (ValueKit.view_emb_slice_whole_unit_val main_v92_0 _ _ _ y 1).trans ?_
    show win0_4.index t 1 * 5000 + (y 1).val = _
    rw [i]
    show 0 * 5000 + (y 1).val = _
    omega

theorem emb_5 (t : Fin cfg0.N) (y : (win0_5.xblock (grid0.coords t)).Idx) :
    ((win0_5.blk t).view.emb y 0).val = 512 * (grid0.coords t 0).val + (y 0).val := by
  have i := (coord t).2.2.2.1
  blk_simp [i]
  show (grid0.coords t 0).val * 512 + (y 0).val = _
  omega

theorem emb_6 (t : Fin cfg0.N) (y : (win0_6.xblock (grid0.coords t)).Idx) :
    ((win0_6.blk t).view.emb y 0).val = 512 * (grid0.coords t 0).val + (y 0).val := by
  have i := (coord t).2.2.2.2
  blk_simp [i]
  show (grid0.coords t 0).val * 512 + (y 0).val = _
  omega

/-- On the rows inside the array the body computes the similarities, the maxima and the columns. -/
theorem pay_cut (t : Fin cfg0.N) (d0 d1 : S512x28.Idx → EReal) :
    win0_4.cut (grid0.coords t) (k0_pay1 (F := Ideal) (win0_0.fill (grid0.coords t) d0 ((win0_0.blk t).view.read (Elt Ideal) (ra V)))
          (win0_1.fill (grid0.coords t) d1 ((win0_1.blk t).view.read (Elt Ideal) (ia V))) (rb V) (ib V))
        = (win0_4.blk t).view.read (Elt Ideal) (sims V)
      ∧ win0_5.cut (grid0.coords t) (k0_pay2 (F := Ideal) (win0_0.fill (grid0.coords t) d0 ((win0_0.blk t).view.read (Elt Ideal) (ra V)))
          (win0_1.fill (grid0.coords t) d1 ((win0_1.blk t).view.read (Elt Ideal) (ia V))) (rb V) (ib V))
        = (win0_5.blk t).view.read (Elt Ideal) (tops V)
      ∧ win0_6.cut (grid0.coords t) (k0_pay3 (F := Ideal) (win0_0.fill (grid0.coords t) d0 ((win0_0.blk t).view.read (Elt Ideal) (ra V)))
          (win0_1.fill (grid0.coords t) d1 ((win0_1.blk t).view.read (Elt Ideal) (ia V))) (rb V) (ib V))
        = (win0_6.blk t).view.read (Elt Ideal) (cols V) := by
  -- a block's row that lies in the array reads the array's row
  have x0 : ∀ (n : Nat) (h : n < 512) (R : Fin 5000) (hR : R.val = 512 * (grid0.coords t 0).val + n) (k : Fin 28),
      win0_0.fill (grid0.coords t) d0 ((win0_0.blk t).view.read (Elt Ideal) (ra V)) (ValueIdx.ix2 (⟨n, h⟩ : Fin 512) k) = ra V (ValueIdx.ix2 R k) := by
    intro n h R hR k
    have l0 : n < win0_0.xsize (grid0.coords t) 0 := by rw [(cuts t).1.1]; have := R.isLt; omega
    have l1 : k.val < win0_0.xsize (grid0.coords t) 1 := by rw [(cuts t).1.2]; exact k.isLt
    refine (win0_0.fill_xinj (grid0.coords t) d0 ((win0_0.blk t).view.read (Elt Ideal) (ra V))
      (fun a => match a with | ⟨0, _⟩ => ⟨n, l0⟩ | ⟨1, _⟩ => ⟨k.val, l1⟩) |> Eq.trans (congrArg _ (funext fun a => ?_))).trans
      (congrArg (ra V) (funext fun a => Fin.ext ?_))
    · fin_cases a <;> rfl
    · fin_cases a
      · exact (emb_0 t _).1.trans hR.symm
      · exact (emb_0 t _).2
  have x1 : ∀ (n : Nat) (h : n < 512) (R : Fin 5000) (hR : R.val = 512 * (grid0.coords t 0).val + n) (k : Fin 28),
      win0_1.fill (grid0.coords t) d1 ((win0_1.blk t).view.read (Elt Ideal) (ia V)) (ValueIdx.ix2 (⟨n, h⟩ : Fin 512) k) = ia V (ValueIdx.ix2 R k) := by
    intro n h R hR k
    have l0 : n < win0_1.xsize (grid0.coords t) 0 := by rw [(cuts t).2.1]; have := R.isLt; omega
    have l1 : k.val < win0_1.xsize (grid0.coords t) 1 := by rw [(cuts t).2.2]; exact k.isLt
    refine (win0_1.fill_xinj (grid0.coords t) d1 ((win0_1.blk t).view.read (Elt Ideal) (ia V))
      (fun a => match a with | ⟨0, _⟩ => ⟨n, l0⟩ | ⟨1, _⟩ => ⟨k.val, l1⟩) |> Eq.trans (congrArg _ (funext fun a => ?_))).trans
      (congrArg (ia V) (funext fun a => Fin.ext ?_))
    · fin_cases a <;> rfl
    · fin_cases a
      · exact (emb_1 t _).1.trans hR.symm
      · exact (emb_1 t _).2
  have rows : ∀ (n : Nat) (h : n < 512) (R : Fin 5000) (hR : R.val = 512 * (grid0.coords t 0).val + n),
      simRow (win0_0.fill (grid0.coords t) d0 ((win0_0.blk t).view.read (Elt Ideal) (ra V)))
        (win0_1.fill (grid0.coords t) d1 ((win0_1.blk t).view.read (Elt Ideal) (ia V))) (rb V) (ib V) ⟨n, h⟩
        = simF (ra V) (ia V) (rb V) (ib V) R := fun n h R hR => by
    funext c
    unfold simRow simF
    congr 1
    · funext k; exact x0 n h R hR k
    · funext k; exact x1 n h R hR k
  refine ⟨funext fun y => ?_, funext fun y => ?_, funext fun y => ?_⟩
  · have en : ((win0_4.blk t).view.emb y 0).val = 512 * (grid0.coords t 0).val + (y 0).val := (emb_4 t y).1
    have ec : ((win0_4.blk t).view.emb y 1).val = (y 1).val := (emb_4 t y).2
    refine (sim_at _ _ _ _ (win0_4.xinj (grid0.coords t) y)).trans ?_
    refine (congrFun (rows _ (win0_4.xinj (grid0.coords t) y 0).isLt ((win0_4.blk t).view.emb y 0) en) _).trans ?_
    exact congrArg (simF (ra V) (ia V) (rb V) (ib V) ((win0_4.blk t).view.emb y 0)) (Fin.ext ec.symm)
  · have en : ((win0_5.blk t).view.emb y 0).val = 512 * (grid0.coords t 0).val + (y 0).val := emb_5 t y
    have er := rows _ (win0_5.xinj (grid0.coords t) y 0).isLt ((win0_5.blk t).view.emb y 0) en
    refine (top_at _ _ _ _ (win0_5.xinj (grid0.coords t) y)).trans ?_
    exact (congrArg top er).trans (tops_at V ((win0_5.blk t).view.emb y)).symm
  · have en : ((win0_6.blk t).view.emb y 0).val = 512 * (grid0.coords t 0).val + (y 0).val := emb_6 t y
    have er := rows _ (win0_6.xinj (grid0.coords t) y 0).isLt ((win0_6.blk t).view.emb y 0) en
    refine (first_at _ _ _ _ (win0_6.xinj (grid0.coords t) y)).trans ?_
    show BitVec.ofNat 32 (first _).val = BitVec.ofNat 32 (first (simF (ra V) (ia V) (rb V) (ib V) ((win0_6.blk t).view.emb y 0))).val
    exact congrArg (fun s => BitVec.ofNat 32 (first s).val) er

theorem obligation (c : Dev nD) : BodyObligationLoose (dat V c) (defs₀ (F := Ideal)) 𝒱₀ none Set.univ := fun t => by
  rw [bigSep_W0, bigSep_W0]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 V c t d0, before_1 V c t d1, before_2 V c t d2, before_3 V c t d3, before_4 V c t d4, before_5 V c t d5, before_6 V c t d6]
  obtain ⟨e1, e4, e5, e6⟩ := slots_eq t
  obtain ⟨p4, p5, p6⟩ := pay_cut V t d0 d1
  iapply (body c Set.univ (grid0.coords t) (cfg0.slots t 0) (cfg0.slots t 1) (cfg0.slots t 2) (cfg0.slots t 3) (cfg0.slots t 4)
    (cfg0.slots t 5) (cfg0.slots t 6) e1 e4 e5 e6
    (win0_0.fill (grid0.coords t) d0 ((win0_0.blk t).view.read (Elt Ideal) (ra V)))
    (win0_1.fill (grid0.coords t) d1 ((win0_1.blk t).view.read (Elt Ideal) (ia V))) (rb V) (ib V) d4 d5 d6 _)
  isplitl [H0 H1 H2 H3 H4 H5 H6]
  · isplitl [H0]
    · iexact H0
    isplitl [H1]
    · iexact H1
    isplitl [H2]
    · iexact H2
    isplitl [H3]
    · iexact H3
    isplitl [H4]
    · iexact H4
    isplitl [H5]
    · iexact H5
    · iexact H6
  iintro ⟨H0, H1, H2, H3, H4, H5, H6⟩
  isplitl [HΦ]; · iexact HΦ
  isplitl [Ho]; · iexact Ho
  have a0 : win0_0.fill (grid0.coords t) d0 (win0_0.cut (grid0.coords t) ((dat V c).after (0 : Fin 7) t))
      = win0_0.fill (grid0.coords t) d0 ((win0_0.blk t).view.read (Elt Ideal) (ra V)) :=
    congrArg (win0_0.fill (grid0.coords t) d0) (win0_0.cut_fill _ _ _)
  have a1 : win0_1.fill (grid0.coords t) d1 (win0_1.cut (grid0.coords t) ((dat V c).after (1 : Fin 7) t))
      = win0_1.fill (grid0.coords t) d1 ((win0_1.blk t).view.read (Elt Ideal) (ia V)) :=
    congrArg (win0_1.fill (grid0.coords t) d1) (win0_1.cut_fill _ _ _)
  have a4 : win0_4.fill (grid0.coords t) (k0_pay1 (F := Ideal) (win0_0.fill (grid0.coords t) d0 ((win0_0.blk t).view.read (Elt Ideal) (ra V)))
          (win0_1.fill (grid0.coords t) d1 ((win0_1.blk t).view.read (Elt Ideal) (ia V))) (rb V) (ib V))
        (win0_4.cut (grid0.coords t) ((dat V c).after (4 : Fin 7) t))
      = k0_pay1 (F := Ideal) (win0_0.fill (grid0.coords t) d0 ((win0_0.blk t).view.read (Elt Ideal) (ra V)))
          (win0_1.fill (grid0.coords t) d1 ((win0_1.blk t).view.read (Elt Ideal) (ia V))) (rb V) (ib V) :=
    win0_4.fill_congr_cut (grid0.coords t) (p4.trans (win0_4.cut_fill (grid0.coords t) (fun _ => (0 : EReal)) ((win0_4.blk t).view.read (Elt Ideal) (sims V))).symm)
  have a5 : win0_5.fill (grid0.coords t) (k0_pay2 (F := Ideal) (win0_0.fill (grid0.coords t) d0 ((win0_0.blk t).view.read (Elt Ideal) (ra V)))
          (win0_1.fill (grid0.coords t) d1 ((win0_1.blk t).view.read (Elt Ideal) (ia V))) (rb V) (ib V))
        (win0_5.cut (grid0.coords t) ((dat V c).after (5 : Fin 7) t))
      = k0_pay2 (F := Ideal) (win0_0.fill (grid0.coords t) d0 ((win0_0.blk t).view.read (Elt Ideal) (ra V)))
          (win0_1.fill (grid0.coords t) d1 ((win0_1.blk t).view.read (Elt Ideal) (ia V))) (rb V) (ib V) :=
    win0_5.fill_congr_cut (grid0.coords t) (p5.trans (win0_5.cut_fill (grid0.coords t) (fun _ => (0 : EReal)) ((win0_5.blk t).view.read (Elt Ideal) (tops V))).symm)
  have a6 : win0_6.fill (grid0.coords t) (k0_pay3 (F := Ideal) (win0_0.fill (grid0.coords t) d0 ((win0_0.blk t).view.read (Elt Ideal) (ra V)))
          (win0_1.fill (grid0.coords t) d1 ((win0_1.blk t).view.read (Elt Ideal) (ia V))) (rb V) (ib V))
        (win0_6.cut (grid0.coords t) ((dat V c).after (6 : Fin 7) t))
      = k0_pay3 (F := Ideal) (win0_0.fill (grid0.coords t) d0 ((win0_0.blk t).view.read (Elt Ideal) (ra V)))
          (win0_1.fill (grid0.coords t) d1 ((win0_1.blk t).view.read (Elt Ideal) (ia V))) (rb V) (ib V) :=
    win0_6.fill_congr_cut (grid0.coords t) (p6.trans (win0_6.cut_fill (grid0.coords t) (fun _ => (0 : BitVec 32)) ((win0_6.blk t).view.read (Elt Ideal) (cols V))).symm)
  isplitl [H0]
  · iexists d0
    change _ ⊢ owns (c : Thread nD τ) (stage0_0 (cfg0.slots t 0)) fullShare (win0_0.fill (grid0.coords t) d0 (win0_0.cut (grid0.coords t) ((dat V c).after (0 : Fin 7) t)))
    rw [a0]; try iexact H0
  isplitl [H1]
  · iexists d1
    change _ ⊢ owns (c : Thread nD τ) (stage0_1 (cfg0.slots t 1)) fullShare (win0_1.fill (grid0.coords t) d1 (win0_1.cut (grid0.coords t) ((dat V c).after (1 : Fin 7) t)))
    rw [a1]; try iexact H1
  isplitl [H2]
  · iexact H2
  isplitl [H3]
  · iexact H3
  isplitl [H4]
  · iexists k0_pay1 (F := Ideal) (win0_0.fill (grid0.coords t) d0 ((win0_0.blk t).view.read (Elt Ideal) (ra V)))
          (win0_1.fill (grid0.coords t) d1 ((win0_1.blk t).view.read (Elt Ideal) (ia V))) (rb V) (ib V)
    change _ ⊢ owns (c : Thread nD τ) (stage0_4 (cfg0.slots t 4)) fullShare (win0_4.fill (grid0.coords t) _ (win0_4.cut (grid0.coords t) ((dat V c).after (4 : Fin 7) t)))
    rw [a4]; try iexact H4
  isplitl [H5]
  · iexists k0_pay2 (F := Ideal) (win0_0.fill (grid0.coords t) d0 ((win0_0.blk t).view.read (Elt Ideal) (ra V)))
          (win0_1.fill (grid0.coords t) d1 ((win0_1.blk t).view.read (Elt Ideal) (ia V))) (rb V) (ib V)
    change _ ⊢ owns (c : Thread nD τ) (stage0_5 (cfg0.slots t 5)) fullShare (win0_5.fill (grid0.coords t) _ (win0_5.cut (grid0.coords t) ((dat V c).after (5 : Fin 7) t)))
    rw [a5]; try iexact H5
  · iexists k0_pay3 (F := Ideal) (win0_0.fill (grid0.coords t) d0 ((win0_0.blk t).view.read (Elt Ideal) (ra V)))
          (win0_1.fill (grid0.coords t) d1 ((win0_1.blk t).view.read (Elt Ideal) (ia V))) (rb V) (ib V)
    change _ ⊢ owns (c : Thread nD τ) (stage0_6 (cfg0.slots t 6)) fullShare (win0_6.fill (grid0.coords t) _ (win0_6.cut (grid0.coords t) ((dat V c).after (6 : Fin 7) t)))
    rw [a6]; try iexact H6

set_option maxRecDepth 100000

/-- The arrays it leaves. -/
theorem final_sims (c : Dev nD) : (dat V c).arrAt (4 : Fin 7) cfg0.N = sims V := by
  refine (dat V c).arrAt_eq_of_covers (4 : Fin 7) (sims V) (by decide +kernel) fun t hf y => ?_
  exact (win0_4.fill_xinj (grid0.coords t) (fun _ => (0 : EReal)) ((win0_4.blk t).view.read (Elt Ideal) (sims V)) y :)

theorem final_tops (c : Dev nD) : (dat V c).arrAt (5 : Fin 7) cfg0.N = tops V := by
  refine (dat V c).arrAt_eq_of_covers (5 : Fin 7) (tops V) (by decide +kernel) fun t hf y => ?_
  exact (win0_5.fill_xinj (grid0.coords t) (fun _ => (0 : EReal)) ((win0_5.blk t).view.read (Elt Ideal) (tops V)) y :)

theorem final_cols (c : Dev nD) : (dat V c).arrAt (6 : Fin 7) cfg0.N = cols V := by
  refine (dat V c).arrAt_eq_of_covers (6 : Fin 7) (cols V) (by decide +kernel) fun t hf y => ?_
  exact (win0_6.fill_xinj (grid0.coords t) (fun _ => (0 : BitVec 32)) ((win0_6.blk t).view.read (Elt Ideal) (cols V)) y :)

end Cert.Proof.Sim

end
-- ==== Proof.RefEntry.lean ====
/-
  What the reference holds when its loop starts, by the similarities of the unit vectors that it has made.
-/
module

public import proofs.«01_k».proof.Proof.RefHead
public import proofs.«01_k».proof.Proof.RefRun
public import proofs.«01_k».proof.Proof.Sim

@[expose] public section

noncomputable section

namespace Cert.Proof.RefEntry

open Cert.ReferenceIdeal Cert.ReferenceIdeal.Gen Cert.ReferenceIdeal.Value
open Idealize.ShloMosaic Idealize.ShloMosaic.StableHlo
open Cert.Proof.Pay (top first)
open Cert.Proof.RefLoop (Inv word)
open Cert.Proof.Sim (simF)
open Cert.Proof.RefHead

attribute [local irreducible] top first

/-- The operations of the stretch that makes the unit vectors, and those after them: products, similarities, maxima. -/
abbrev unitOps : List (HloOp τ sig (Elt Ideal)) := hostOps0_26.take 32
abbrev simOps : List (HloOp τ sig (Elt Ideal)) := hostOps0_26.drop 32

theorem stretch_eq (V : Valuation τ sig (Elt Ideal)) : after hostOps0_26 V = after simOps (after unitOps V) := rfl

variable (V : Valuation τ sig (Elt Ideal))

/-- The similarities of the unit vectors held. -/
def simR (r c : Fin 5000) : EReal :=
  simF (V (Proc.devRef .tc main_v95)) (V (Proc.devRef .tc main_v97)) (V (Proc.devRef .tc main_v109)) (V (Proc.devRef .tc main_v111)) r c

theorem v116_at (r c : Fin 5000) : (after simOps V (Proc.devRef .tc main_v116) : S5000x5000.Idx → EReal) (ValueIdx.ix2 r c) = simR V r c := by
  have h : (after simOps V (Proc.devRef .tc main_v116) : S5000x5000.Idx → EReal)
      = addf (F := Ideal) (φ := .f32)
        (Host.dotGeneral (F := Ideal) (φ₁ := .f32) (φ₂ := .f32) dot_S5000x28_S28x5000_S5000x5000_1_0_0_1_n_n none (V (Proc.devRef .tc main_v95) : FVec Ideal S5000x28 .f32)
          (transpose (α := EReal) S28x5000 [1, 0] (V (Proc.devRef .tc main_v109) : FVec Ideal S5000x28 .f32) transposes_S5000x28_S28x5000_1_0))
        (Host.dotGeneral (F := Ideal) (φ₁ := .f32) (φ₂ := .f32) dot_S5000x28_S28x5000_S5000x5000_1_0_0_1_n_n none (V (Proc.devRef .tc main_v97) : FVec Ideal S5000x28 .f32)
          (transpose (α := EReal) S28x5000 [1, 0] (V (Proc.devRef .tc main_v111) : FVec Ideal S5000x28 .f32) transposes_S5000x28_S28x5000_1_0)) := by
    simp only [simOps, hostOps0_26, List.drop_succ_cons, List.drop_zero]
    after_reads_simp
  exact (congrFun h _).trans (congrArg₂ (fun x y : EReal => x + y) (dot_eq _ _ r c) (dot_eq _ _ r c))

theorem v116_row (r : Fin 5000) : (fun c => (after simOps V (Proc.devRef .tc main_v116) : S5000x5000.Idx → EReal) (ValueIdx.ix2 r c)) = simR V r :=
  funext fun c => v116_at V r c

theorem v117_eq (r : Fin 5000) : (after simOps V (Proc.devRef .tc main_v117) : S5000.Idx → EReal) (ValueIdx.ix1 r) = top (simR V r) := by
  have h : (after simOps V (Proc.devRef .tc main_v117) : S5000.Idx → EReal)
      = Host.reduce (FloatOps.maximumf (F := Ideal) (φ := .f32)) (after simOps V (Proc.devRef .tc main_v116)) (constant (F := Ideal) S_ .f32 0xFF800000#32) reducesTo_S5000x5000_S5000_d1 h_S_ := by
    simp only [simOps, hostOps0_26, List.drop_succ_cons, List.drop_zero]
    after_reads_simp
  exact ((congrFun h _).trans (max_eq _ r)).trans (congrArg (fun f : Fin 5000 → EReal => top f) (v116_row V r))

/-- From the unit vectors to the loop. -/
def tail (V : Valuation τ sig (Elt Ideal)) : Valuation τ sig (Elt Ideal) :=
  after hostOps0_30 (after hostOps0_29 (after hostOps0_28 (after hostOps0_27 (after simOps V))))

theorem tail_v116 : (tail V (Proc.devRef .tc main_v116) : S5000x5000.Idx → EReal) = fun i => simR V (i 0) (i 1) := by
  have h : tail V (Proc.devRef .tc main_v116) = after simOps V (Proc.devRef .tc main_v116) := by
    unfold tail
    rw [after_of_writes_sub _ _ hostOps0_30_writes (by decide), after_of_writes_sub _ _ hostOps0_29_writes (by decide),
      after_of_writes_sub _ _ hostOps0_28_writes (by decide), after_of_writes_sub _ _ hostOps0_27_writes (by decide)]
  funext i
  obtain ⟨r, c, rfl⟩ : ∃ (r c : Fin 5000), i = ValueIdx.ix2 r c := ⟨_, _, ValueIdx.eq_ix2 i⟩
  exact (congrFun h _).trans (v116_at V r c)

theorem tail_col (r : Fin 5000) : (tail V (Proc.devRef .tc main_v123_1) : S5000.Idx → BitVec 32) (ValueIdx.ix1 r) = BitVec.ofNat 32 (first (simR V r)).val := by
  have h : (tail V (Proc.devRef .tc main_v123_1) : S5000.Idx → BitVec 32)
      = fun j => (Host.argReduce (reducer_argmax_f32_i32 (F := Ideal)) (after simOps V (Proc.devRef .tc main_v116)) (iotaInDim S5000x5000 32 1)
          (constant (F := Ideal) S_ .f32 0xFF800000#32) (constantI S_ 32 0#32) reducesTo_S5000x5000_S5000_d1 h_S_ j).2 := by
    unfold tail
    generalize after simOps V = W
    after_reads_simp
    rfl
  exact ((congrFun h _).trans (argmax_eq _ r)).trans (congrArg (fun f : Fin 5000 → EReal => BitVec.ofNat 32 (first f).val) (v116_row V r))

theorem tail_top (r : Fin 5000) : (tail V (Proc.devRef .tc main_v123_2) : S5000.Idx → EReal) (ValueIdx.ix1 r) = top (simR V r) := by
  have h : tail V (Proc.devRef .tc main_v123_2) = after simOps V (Proc.devRef .tc main_v117) := by
    unfold tail
    generalize after simOps V = W
    after_reads_simp
    rfl
  exact (congrFun h _).trans (v117_eq V r)

/-- The sort's second array, of the negated maxima and the row numbers. -/
def sortedRows (x : S5000.Idx → EReal) : S5000.Idx → BitVec 32 := (Host.sort2 S5000 0 (comparator_f32_i32_d0 (F := Ideal)) x (iotaInDim S5000 32 0)).2

theorem sortedRows_at (s : Fin 5000 → Fin 5000 → EReal) (x : S5000.Idx → EReal) (hx : ∀ r, x (ValueIdx.ix1 r) = -top (s r)) (r : Fin 5000) :
    sortedRows x (ValueIdx.ix1 r) = BitVec.ofNat 32 (ord s r).val := order_eq s x hx r

theorem negf_at (x : S5000.Idx → EReal) (r : Fin 5000) : (Host.negf (F := Ideal) (φ := .f32) (s := S5000) x : S5000.Idx → EReal) (ValueIdx.ix1 r) = -x (ValueIdx.ix1 r) := rfl

theorem neg_congr {x y : EReal} (h : x = y) : -x = -y := congrArg Neg.neg h

theorem toBuf_v120 (h1 h2 h3) (v : S5000.Idx → BitVec 32) : (TRef.of (T := ⟨S5000, .i32⟩) main_v120 h1 h2 h3).toBuf (Val := Elt Ideal) v = v := rfl

theorem ofBuf_v119 (h1 h2 h3) (v : S5000.Idx → EReal) : (TRef.of (T := ⟨S5000, .f32⟩) main_v119 h1 h2 h3).ofBuf (Val := Elt Ideal) v = v := rfl

theorem sort_read (W : Valuation τ sig (Elt Ideal)) : after hostOps0_29 W (Proc.devRef .tc main_v120) = sortedRows (W (Proc.devRef .tc main_v119)) := by
  after_reads_simp
  rw [TRef.ofBuf_toBuf]
  exact (toBuf_v120 _ _ _ _).trans (congrArg sortedRows (ofBuf_v119 _ _ _ _))

theorem neg_read (W : Valuation τ sig (Elt Ideal)) :
    after hostOps0_28 (after hostOps0_27 W) (Proc.devRef .tc main_v119) = Host.negf (F := Ideal) (φ := .f32) (s := S5000) (W (Proc.devRef .tc main_v117)) := by
  after_reads_simp

theorem tail_ord (r : Fin 5000) : (tail V (Proc.devRef .tc main_v123_0) : S5000.Idx → BitVec 32) (ValueIdx.ix1 r) = BitVec.ofNat 32 (ord (simR V) r).val := by
  have h0 (W : Valuation τ sig (Elt Ideal)) : after hostOps0_30 W (Proc.devRef .tc main_v123_0) = W (Proc.devRef .tc main_v120) := by
    after_reads_simp
    rfl
  have h : tail V (Proc.devRef .tc main_v123_0) = sortedRows (Host.negf (F := Ideal) (φ := .f32) (s := S5000) (after simOps V (Proc.devRef .tc main_v117))) :=
    (h0 _).trans ((sort_read _).trans (congrArg sortedRows (neg_read _)))
  have hx : ∀ r : Fin 5000, (Host.negf (F := Ideal) (φ := .f32) (s := S5000) (after simOps V (Proc.devRef .tc main_v117)) : S5000.Idx → EReal) (ValueIdx.ix1 r) = -top (simR V r) := fun r =>
    (negf_at _ r).trans (neg_congr (v117_eq V r))
  exact (congrFun h (ValueIdx.ix1 r)).trans (sortedRows_at _ _ hx r)

/-- The loop starts with no row placed. -/
theorem tail_inv : Inv (simR V) (ord (simR V)) 0 (tail V) where
  ord := tail_ord V
  col := tail_col V
  top := tail_top V
  ctr := by
    unfold tail
    after_reads_simp
    rfl
  mt r := by
    rw [if_neg (by omega)]
    unfold tail
    after_reads_simp
    rfl
  used c := by
    rw [if_neg (fun h => by obtain ⟨r, hr, -⟩ := h; omega)]
    unfold tail
    after_reads_simp
    rfl

end Cert.Proof.RefEntry

end
-- ==== Proof.Encode.lean ====
/-
  The encoding of the detections by plain functions, and that both programs' stretches compute them: a hidden layer with its
  ramp, a second layer, the remainder by a full turn, the advance of the phases, the parts of the unit vectors.
-/
module

public import proofs.«01_k».proof.Proof.Host
public import proofs.«01_k».proof.Proof.RefEntry

@[expose] public section

noncomputable section

namespace Cert.Proof.Encode

open Idealize.ShloMosaic Idealize.ShloMosaic.StableHlo
open Idealize.ShloMosaic.TcCoe

section Functions

open Cert.KernelIdeal Cert.KernelIdeal.Gen

/-- The first layer of some detections, before its ramp. -/
def hidden (d : FVec Ideal S5000x4 .f32) (w : FVec Ideal S4x64 .f32) (b : FVec Ideal S64 .f32) : FVec Ideal S5000x64 .f32 :=
  addf (Host.dotGeneral (F := Ideal) (φ₁ := .f32) (φ₂ := .f32) dot_S5000x4_S4x64_S5000x64_1_0_0_1_n_n none d w)
    (broadcastInDim S5000x64 ![0, 1] bcast_S1x64_S5000x64_0_1 (broadcastInDim S1x64 ![1] bcast_S64_S1x64_1 b))

/-- The larger of each entry and zero. -/
def ramp (x : FVec Ideal S5000x64 .f32) : FVec Ideal S5000x64 .f32 :=
  maximumf x (broadcastInDim S5000x64 ![] bcast_S_S5000x64 (constant (F := Ideal) S_ .f32 0x00000000#32))

/-- The second layer. -/
def layer (h : FVec Ideal S5000x64 .f32) (w : FVec Ideal S64x28 .f32) (b : FVec Ideal S28 .f32) : FVec Ideal S5000x28 .f32 :=
  addf (Host.dotGeneral (F := Ideal) (φ₁ := .f32) (φ₂ := .f32) dot_S5000x64_S64x28_S5000x28_1_0_0_1_n_n none h w)
    (broadcastInDim S5000x28 ![0, 1] bcast_S1x28_S5000x28_0_1 (broadcastInDim S1x28 ![1] bcast_S28_S1x28_1 b))

/-- A full turn. -/
def turn : FVec Ideal S_ .f32 := constant (F := Ideal) S_ .f32 0x40C90FDB#32

/-- The remainder by a number, of that number's sign. -/
def remainder (x : FVec Ideal S5000x28 .f32) (c : FVec Ideal S_ .f32) : FVec Ideal S5000x28 .f32 :=
  let q : FVec Ideal S5000x28 .f32 := Host.remf x (broadcastInDim S5000x28 ![] bcast_S_S5000x28 c)
  let z : FVec Ideal S_ .f32 := constant (F := Ideal) S_ .f32 0x00000000#32
  select (andi (cmpi .ne (cmpf .olt q (broadcastInDim S5000x28 ![] bcast_S_S5000x28 z))
      (broadcastInDim S5000x28 ![] bcast_S_S5000x28 (cmpf .olt c z)))
    (cmpf .une q (broadcastInDim S5000x28 ![] bcast_S_S5000x28 z)))
    (addf q (broadcastInDim S5000x28 ![] bcast_S_S5000x28 c)) q

/-- The oscillators' speeds: four, eight and sixteen of them. -/
def speeds : FVec Ideal S28 .f32 :=
  concatenate S28 0 [⟨S4, broadcastInDim S4 ![] bcast_S_S4 (constant (F := Ideal) S_ .f32 0x40000000#32)⟩,
    ⟨S8, broadcastInDim S8 ![] bcast_S_S8 (constant (F := Ideal) S_ .f32 0x40C00000#32)⟩,
    ⟨S16, broadcastInDim S16 ![] bcast_S_S16 (constant (F := Ideal) S_ .f32 0x42200000#32)⟩] concatenates_S4_S8_S16_S28_d0

/-- The phases after one step of time. -/
def advance (p : FVec Ideal S5000x28 .f32) (f : FVec Ideal S28 .f32) : FVec Ideal S5000x28 .f32 :=
  addf p (broadcastInDim S5000x28 ![0, 1] bcast_S1x28_S5000x28_0_1 (broadcastInDim S1x28 ![1] bcast_S28_S1x28_1
    (mulf (mulf (broadcastInDim S28 ![] bcast_S_S28 turn) f)
      (broadcastInDim S28 ![] bcast_S_S28 (constant (F := Ideal) S_ .f32 0x3C23D70A#32)))))

/-- The lengths of the rows of cosines and sines, with the small number that keeps them from zero. -/
def lengths (p : FVec Ideal S5000x28 .f32) : FVec Ideal S5000x28 .f32 :=
  broadcastInDim S5000x28 ![0, 1] bcast_S5000x1_S5000x28_0_1
    (addf (Host.sqrt (broadcastInDim S5000x1 ![0] bcast_S5000_S5000x1_0
        (Host.reduceAdd (addf (mulf (Host.cos p) (Host.cos p)) (mulf (Host.sin p) (Host.sin p)))
          (constant (F := Ideal) S_ .f32 0x00000000#32) reducesTo_S5000x28_S5000_d1 h_S_)))
      (broadcastInDim S5000x1 ![] bcast_S_S5000x1 (constant (F := Ideal) S_ .f32 0x358637BD#32)))

/-- The parts of the unit vectors. -/
def unitRe (p : FVec Ideal S5000x28 .f32) : FVec Ideal S5000x28 .f32 := Host.divf (Host.cos p) (lengths p)
def unitIm (p : FVec Ideal S5000x28 .f32) : FVec Ideal S5000x28 .f32 := Host.divf (Host.sin p) (lengths p)

/-- The phases that some detections give, and one advance of them. -/
def phases (d : FVec Ideal S5000x4 .f32) (w : FVec Ideal S4x64 .f32) (b : FVec Ideal S64 .f32) (w' : FVec Ideal S64x28 .f32)
    (b' : FVec Ideal S28 .f32) : FVec Ideal S5000x28 .f32 := remainder (layer (ramp (hidden d w b)) w' b') turn
def step (p : FVec Ideal S5000x28 .f32) : FVec Ideal S5000x28 .f32 := remainder (advance p speeds) turn

end Functions

/-! ## The kernel's stretches -/

namespace K

open Cert.KernelIdeal Cert.KernelIdeal.Gen Cert.Proof.Host

variable (V : Valuation τ sig (Elt Ideal))

theorem speeds_eq : after speedsA V (Proc.devRef .tc main_v3) = speeds := by
  after_reads_simp
  rfl

theorem phasesA : after (remainderOps (.of main_v12) (.of main_cst_2) main_call1) (after layerA (after (reluOps (.of main_v7) main_call0) (after speedsA V)))
      (Proc.devRef .tc main_v13)
    = phases (V (Proc.devRef .tc main_arg0)) (V (Proc.devRef .tc main_arg2)) (V (Proc.devRef .tc main_arg3)) (V (Proc.devRef .tc main_arg4))
      (V (Proc.devRef .tc main_arg5)) := by
  after_reads_simp
  rfl

theorem phasesB : after (remainderOps (.of main_v22) (.of main_cst_3) main_call3) (after layerB (after (reluOps (.of main_v17) main_call2) (after hiddenB V)))
      (Proc.devRef .tc main_v23)
    = phases (V (Proc.devRef .tc main_arg1)) (V (Proc.devRef .tc main_arg2)) (V (Proc.devRef .tc main_arg3)) (V (Proc.devRef .tc main_arg4))
      (V (Proc.devRef .tc main_arg5)) := by
  after_reads_simp
  rfl

theorem step1 : after (remainderOps (.of main_v30) (.of main_cst_6) main_call4) (after advance1 V) (Proc.devRef .tc main_v31)
    = remainder (advance (V (Proc.devRef .tc main_v13)) (V (Proc.devRef .tc main_v3))) turn := by
  after_reads_simp
  rfl

theorem step2 : after (remainderOps (.of main_v38) (.of main_cst_9) main_call5) (after advance2 V) (Proc.devRef .tc main_v39)
    = remainder (advance (V (Proc.devRef .tc main_v31)) (V (Proc.devRef .tc main_v3))) turn := by
  after_reads_simp
  rfl

theorem step3 : after (remainderOps (.of main_v46) (.of main_cst_12) main_call6) (after advance3 V) (Proc.devRef .tc main_v47)
    = remainder (advance (V (Proc.devRef .tc main_v39)) (V (Proc.devRef .tc main_v3))) turn := by
  after_reads_simp
  rfl

theorem step4 : after (remainderOps (.of main_v54) (.of main_cst_15) main_call7) (after advance4 V) (Proc.devRef .tc main_v55)
    = remainder (advance (V (Proc.devRef .tc main_v47)) (V (Proc.devRef .tc main_v3))) turn := by
  after_reads_simp
  rfl

theorem step5 : after (remainderOps (.of main_v62) (.of main_cst_18) main_call8) (after advance5 V) (Proc.devRef .tc main_v63)
    = remainder (advance (V (Proc.devRef .tc main_v55)) (V (Proc.devRef .tc main_v3))) turn := by
  after_reads_simp
  rfl

theorem units_ra : after units V (Proc.devRef .tc main_v75) = unitRe (V (Proc.devRef .tc main_v63)) := by
  after_reads_simp
  rfl

theorem units_ia : after units V (Proc.devRef .tc main_v77) = unitIm (V (Proc.devRef .tc main_v63)) := by
  after_reads_simp
  rfl

theorem units_rb : after units V (Proc.devRef .tc main_v89) = unitRe (V (Proc.devRef .tc main_v23)) := by
  after_reads_simp
  rfl

theorem units_ib : after units V (Proc.devRef .tc main_v91) = unitIm (V (Proc.devRef .tc main_v23)) := by
  after_reads_simp
  rfl

end K

/-! ## The reference's stretches -/

namespace R

open Cert.ReferenceIdeal Cert.ReferenceIdeal.Gen Cert.ReferenceIdeal.Value Cert.Proof.RefEntry

variable (V : Valuation τ sig (Elt Ideal))

theorem speeds_eq : after hostOps0 V (Proc.devRef .tc main_v3) = speeds := by
  after_reads_simp
  rfl

theorem phasesA : after hostOps0_3 (after hostOps0_2 (after hostOps0_1 (after hostOps0 V))) (Proc.devRef .tc main_v13)
    = phases (V (Proc.devRef .tc main_arg0)) (V (Proc.devRef .tc main_arg2)) (V (Proc.devRef .tc main_arg3)) (V (Proc.devRef .tc main_arg4))
      (V (Proc.devRef .tc main_arg5)) := by
  after_reads_simp
  rfl

theorem phasesB : after hostOps0_11 (after hostOps0_10 (after hostOps0_9 (after hostOps0_8 V))) (Proc.devRef .tc main_v33)
    = phases (V (Proc.devRef .tc main_arg1)) (V (Proc.devRef .tc main_arg2)) (V (Proc.devRef .tc main_arg3)) (V (Proc.devRef .tc main_arg4))
      (V (Proc.devRef .tc main_arg5)) := by
  after_reads_simp
  rfl

theorem step1 : after hostOps0_17 (after hostOps0_16 V) (Proc.devRef .tc main_v51)
    = remainder (advance (V (Proc.devRef .tc main_v13)) (V (Proc.devRef .tc main_v3))) turn := by
  after_reads_simp
  rfl

theorem step2 : after hostOps0_19 (after hostOps0_18 V) (Proc.devRef .tc main_v59)
    = remainder (advance (V (Proc.devRef .tc main_v51)) (V (Proc.devRef .tc main_v3))) turn := by
  after_reads_simp
  rfl

theorem step3 : after hostOps0_21 (after hostOps0_20 V) (Proc.devRef .tc main_v67)
    = remainder (advance (V (Proc.devRef .tc main_v59)) (V (Proc.devRef .tc main_v3))) turn := by
  after_reads_simp
  rfl

theorem step4 : after hostOps0_23 (after hostOps0_22 V) (Proc.devRef .tc main_v75)
    = remainder (advance (V (Proc.devRef .tc main_v67)) (V (Proc.devRef .tc main_v3))) turn := by
  after_reads_simp
  rfl

theorem step5 : after hostOps0_25 (after hostOps0_24 V) (Proc.devRef .tc main_v83)
    = remainder (advance (V (Proc.devRef .tc main_v75)) (V (Proc.devRef .tc main_v3))) turn := by
  after_reads_simp
  rfl

theorem units_ra : after unitOps V (Proc.devRef .tc main_v95) = unitRe (V (Proc.devRef .tc main_v83)) := by
  simp only [unitOps, hostOps0_26, List.take_succ_cons, List.take_zero]
  after_reads_simp
  rfl

theorem units_ia : after unitOps V (Proc.devRef .tc main_v97) = unitIm (V (Proc.devRef .tc main_v83)) := by
  simp only [unitOps, hostOps0_26, List.take_succ_cons, List.take_zero]
  after_reads_simp
  rfl

theorem units_rb : after unitOps V (Proc.devRef .tc main_v109) = unitRe (V (Proc.devRef .tc main_v33)) := by
  simp only [unitOps, hostOps0_26, List.take_succ_cons, List.take_zero]
  after_reads_simp
  rfl

theorem units_ib : after unitOps V (Proc.devRef .tc main_v111) = unitIm (V (Proc.devRef .tc main_v33)) := by
  simp only [unitOps, hostOps0_26, List.take_succ_cons, List.take_zero]
  after_reads_simp
  rfl

end R

end Cert.Proof.Encode

end
-- ==== Proof.Tile.lean ====
/-
  The working tile's body: three fetches, the loop that inverts the ranks and clears the used words, the loop that walks the
  rows in rank order, and the write-out, with the loops' words carried in their invariants.
-/
module

public import proofs.«01_k».proof.Proof.Launch

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scatter Cert.Proof.Greedy Cert.Proof.Launch

variable {F : FTy → Type}

local notation "𝕄" => MT nD τ sig (HIx 1) (Elt F) ℕ UU ℕ

-- the kernel's memrefs, as the body table passes them
local notation "rW" => (Memref.whole Cert.KernelIdeal.main_v99_scv : Memref Cert.KernelIdeal.sig Kind.scVector Space.hbm Cert.KernelIdeal.S5120 EltTy.i32)
local notation "mW" => (Memref.whole Cert.KernelIdeal.main_v102_scv : Memref Cert.KernelIdeal.sig Kind.scVector Space.hbm Cert.KernelIdeal.S5120 EltTy.i32)
local notation "hW" => (Memref.whole Cert.KernelIdeal.main_v105_scv : Memref Cert.KernelIdeal.sig Kind.scVector Space.hbm Cert.KernelIdeal.S5120 EltTy.i32)
local notation "oW" => (Memref.whole Cert.KernelIdeal.main_v106_scv : Memref Cert.KernelIdeal.sig Kind.scVector Space.hbm Cert.KernelIdeal.S5120 EltTy.i32)
local notation "s0" => (Memref.whole Cert.KernelIdeal.cc2_scratch0 : Memref Cert.KernelIdeal.sig Kind.scVector Space.vmem Cert.KernelIdeal.S5120 EltTy.i32)
local notation "s1" => (Memref.whole Cert.KernelIdeal.cc2_scratch1 : Memref Cert.KernelIdeal.sig Kind.scVector Space.vmem Cert.KernelIdeal.S5120 EltTy.i32)
local notation "s2" => (Memref.whole Cert.KernelIdeal.cc2_scratch2 : Memref Cert.KernelIdeal.sig Kind.scVector Space.vmem Cert.KernelIdeal.S5120 EltTy.i32)
local notation "s3" => (Memref.whole Cert.KernelIdeal.cc2_scratch3 : Memref Cert.KernelIdeal.sig Kind.scVector Space.vmem Cert.KernelIdeal.S5120 EltTy.i32)
local notation "s4" => (Memref.whole Cert.KernelIdeal.cc2_scratch4 : Memref Cert.KernelIdeal.sig Kind.scVector Space.vmem Cert.KernelIdeal.S5120 EltTy.i32)
local notation "s5" => (Memref.whole Cert.KernelIdeal.cc2_scratch5 : Memref Cert.KernelIdeal.sig Kind.scVector Space.vmem Cert.KernelIdeal.S5120 EltTy.i32)
local notation "s6" => (Memref.whole Cert.KernelIdeal.cc2_scratch6 : Memref Cert.KernelIdeal.sig Kind.scVector Space.vmem Cert.KernelIdeal.S16 EltTy.i32)

variable [FloatOps F]

/-! ## The windows' offsets and words -/

theorem trips1 : k2_t1_loop.trips = 320 := by decide
theorem trips2 : k2_t2_loop.trips = 320 := by decide
theorem lt1 (k : Fin k2_t1_loop.trips) : k.val < 320 := trips1 ▸ k.isLt
theorem lt2 (k : Fin k2_t2_loop.trips) : k.val < 320 := trips2 ▸ k.isLt

/-- Lane `x` of the window of sixteen at trip `k`. -/
theorem win_idx {off : Fin 1 → Nat} {inb} {k : Nat} (ho : off = ![16 * k]) (x : S16.Idx) :
    (((Rect.unit (s := S5120) off S16.size inb).toLoadRect.idx x) 0).val = 16 * k + (x 0).val := by
  subst ho
  rw [LoadRect.idx_apply]
  show 16 * k + 1 * (x 0).val = _
  rw [Nat.one_mul]

theorem pay2_apply (k : Fin k2_t1_loop.trips) (x : S16.Idx) : k2_pay2 k x = BitVec.ofNat 32 (16 * k.val + (x 0).val) := by
  have hk := lt1 k
  have h1 : k2_pay2 k x = BitVec.ofNat 32 (x 0).val + Scf.iv 0#32 1#32 k.val * 16#32 := by
    rw [← lanes_apply]; rfl
  rw [h1]
  apply BitVec.eq_of_toNat_eq
  rw [BitVec.toNat_add, BitVec.toNat_mul, iv_toNat _ hk, BitVec.toNat_ofNat, BitVec.toNat_ofNat]
  have : (x 0).val < 16 := (x 0).isLt
  simp only [BitVec.toNat_ofNat]
  omega

/-- A window of sixteen words cleared. -/
theorem zero_step {off : Fin 1 → Nat} {inb} {k : Nat} (ho : off = ![16 * k]) (v : View sig .scVector .vmem S5120 .i32) (u : v.ty.Contents (Elt F))
    (hu : ZeroTo k (v.read (Elt F) u)) (w : IVec S16 32) (hw : ∀ x, w x = 0#32) :
    ZeroTo (k + 1) (v.read (Elt F) ((v.slice (Rect.unit (s := S5120) off S16.size inb)).write (Elt F) u w Finset.univ)) := by
  intro j hj
  by_cases hjk : (j 0).val < 16 * k
  · rw [View.read_slice_write_of_not_mem]
    · exact hu j hjk
    · intro hm
      obtain ⟨x, -, hx⟩ := Finset.mem_map.mp hm
      have := win_idx (inb := inb) ho x
      rw [show (Rect.unit (s := S5120) off S16.size inb).toLoadRect.idx x = (Rect.unit (s := S5120) off S16.size inb).emb x from rfl, hx] at this
      omega
  · have hl : (j 0).val - 16 * k < 16 := by omega
    have e : (Rect.unit (s := S5120) off S16.size inb).emb (ln ((j 0).val - 16 * k) hl) = j := by
      apply idx_ext
      have := win_idx (inb := inb) ho (ln ((j 0).val - 16 * k) hl)
      rw [show (Rect.unit (s := S5120) off S16.size inb).toLoadRect.idx (ln ((j 0).val - 16 * k) hl)
        = (Rect.unit (s := S5120) off S16.size inb).emb (ln ((j 0).val - 16 * k) hl) from rfl] at this
      rw [this]
      show 16 * k + ((j 0).val - 16 * k) = _
      omega
    have hw' := View.read_slice_write_emb (v := v) (Val := Elt F) (Rect.unit (s := S5120) off S16.size inb) u w (M := Finset.univ)
      (x := ln ((j 0).val - 16 * k) hl) (Finset.mem_univ _)
    rw [e] at hw'
    exact hw'.trans (hw _)

/-! ## The first loop's trip -/

section Body

variable (d : Dev nD) (L : grid2.Coords)

abbrev cV : Fin τ.nSC := (L 0).castLE hcore2
abbrev jV : Fin τ.nSub := (L 1).castLE hsub2
abbrev thr : Thread nD τ := V d (cV L) (jV L)

variable {rank mi th : Words}

/-- The words of a scratch. -/
abbrev at0 (f : Words) : sProp 𝕄 := (s0).view.loc (thr d L) ↦{fullShare} (f : Buf (Elt F) ((s0).view.loc (thr d L)))
abbrev at1 (f : Words) : sProp 𝕄 := (s1).view.loc (thr d L) ↦{fullShare} (f : Buf (Elt F) ((s1).view.loc (thr d L)))
abbrev at2 (f : Words) : sProp 𝕄 := (s2).view.loc (thr d L) ↦{fullShare} (f : Buf (Elt F) ((s2).view.loc (thr d L)))
abbrev at3 (f : Words) : sProp 𝕄 := (s3).view.loc (thr d L) ↦{fullShare} (f : Buf (Elt F) ((s3).view.loc (thr d L)))
abbrev at4 (f : Words) : sProp 𝕄 := (s4).view.loc (thr d L) ↦{fullShare} (f : Buf (Elt F) ((s4).view.loc (thr d L)))
abbrev at5 (f : Words) : sProp 𝕄 := (s5).view.loc (thr d L) ↦{fullShare} (f : Buf (Elt F) ((s5).view.loc (thr d L)))
abbrev at6 (f : IVec S16 32) : sProp 𝕄 := (s6).view.loc (thr d L) ↦{fullShare} (f : Buf (Elt F) ((s6).view.loc (thr d L)))

/-- A gather from a scratch whose words are `g`. -/
theorem wp_gather {s t : Shape} {m : Memref sig .scVector .vmem s .i32} {idxs : Fin s.rank → IVec t 32}
    {h : ∀ a x, (idxs a x).toNat < s.size a} {hl : m.view.Loads} {α : Type}
    {k : Vec F t .i32 → Prog (TpuEff nD τ sig (Elt F) Λ₀ (Proc.scVector (cV L) (jV L))) α} {Q : α → sProp 𝕄}
    {f : Buf (Elt F) (m.view.loc (thr d L))} {g : Vec F s .i32} (hg : (m.access (.whole s)).read (Elt F) f = g) :
    (m.view.loc (thr d L) ↦{fullShare} f : sProp 𝕄)
      ⊢ iprop(((m.view.loc (thr d L) ↦{fullShare} f) -∗ wp frame (wpE (defs₀ (F := F)) 𝒱₀ (thr d L) none) Set.univ (k (loadIdx g idxs h)) Q)
        -∗ wp frame (wpE (defs₀ (F := F)) 𝒱₀ (thr d L) none) Set.univ (SparseCore.vectorLoadIdx m idxs h hl >>= k) Q) := by
  subst hg
  exact SparseCore.wp_vectorLoadIdx 𝒱₀ (thr d L) none Set.univ (base := m) (S := Finset.univ) (Finset.subset_univ _)

/-- A scatter into a scratch whose words are `g`. -/
theorem wp_scatter {s : Shape} {n : Fin 1 → Nat} {m : Memref sig .scVector .vmem s .i32} {idxs : Fin s.rank → IVec ⟨1, n⟩ 32}
    {v : Vec F ⟨1, n⟩ .i32} {mask : IVec ⟨1, n⟩ 1} {add : Bool} {h : ∀ a x, (idxs a x).toNat < s.size a}
    {hs : (m.access (.whole s)).Stores Finset.univ} {α : Type}
    {k : PUnit → Prog (TpuEff nD τ sig (Elt F) Λ₀ (Proc.scVector (cV L) (jV L))) α} {Q : α → sProp 𝕄}
    {f f' : Buf (Elt F) (m.view.loc (thr d L))} {g : Vec F s .i32} (hset : (m.access (.whole s)).set = Finset.univ)
    (hg : (m.access (.whole s)).read (Elt F) f = g)
    (hw : (m.access (.whole s)).write (Elt F) f (storeIdx g idxs v mask add h) Finset.univ = f') :
    (m.view.loc (thr d L) ↦{fullShare} f : sProp 𝕄)
      ⊢ iprop(((m.view.loc (thr d L) ↦{fullShare} f') -∗ wp frame (wpE (defs₀ (F := F)) 𝒱₀ (thr d L) none) Set.univ (k ⟨⟩) Q)
        -∗ wp frame (wpE (defs₀ (F := F)) 𝒱₀ (thr d L) none) Set.univ (SparseCore.vectorStoreIdx m idxs v mask add h hs >>= k) Q) := by
  subst hg; subst hw
  have := SparseCore.wp_vectorStoreIdx (defs := defs₀ (F := F)) 𝒱₀ (thr d L) none Set.univ (base := m) (idxs := idxs) (v := v) (mask := mask) (add := add)
    (h := h) (hs := hs) (k := k) (Q := Q) (f := f)
  rw [hset] at this
  exact this

/-- The first loop's invariant. -/
def inv1 (rank : Words) (k : Nat) (_ : PUnit) : sProp 𝕄 :=
  iprop(at0 d L rank ∗ ∃ o u, at3 d L o ∗ at4 d L u ∗ ⌜OrderTo rank k o ∧ ZeroTo k u⌝)

theorem trip1 (hok : Ok rank mi th) (k2_h1 : k2_cond1 L = 1#1) (k : Fin k2_t1_loop.trips) :
    inv1 d L rank k.val ⟨⟩ ⊢ wp frame (wpE (defs₀ (F := F)) 𝒱₀ (thr d L) none) Set.univ
      (k2_t1_body L rW (Memref.isWhole_whole _) mW (Memref.isWhole_whole _) hW (Memref.isWhole_whole _) oW (Memref.isWhole_whole _)
        s0 (Memref.isWhole_whole _) s1 (Memref.isWhole_whole _) s2 (Memref.isWhole_whole _) s3 (Memref.isWhole_whole _)
        s4 (Memref.isWhole_whole _) s5 (Memref.isWhole_whole _) s6 (Memref.isWhole_whole _) cc2_scoped0 cc2_scoped1 cc2_scoped2 cc2_scoped3 k2_h1 k ⟨⟩)
      (fun _ => inv1 d L rank (k.val + 1) ⟨⟩) := by
  unfold inv1 k2_t1_body
  simp only [Prog.lift, Prog.bind_op, Prog.bind_ret, Prog.pure_eq_ret]
  iintro ⟨H0, %o, %u, H3, H4, %hou⟩
  obtain ⟨ho, hu⟩ := hou
  iapply (wp_load 𝒱₀ (thr d L) none Set.univ (m := s0) (S := Finset.univ) (Finset.subset_univ _)) $$ H0; iintro H0
  have hv : ∀ (x : S16.Idx) (i : S5120.Idx), (i 0).val = 16 * k.val + (x 0).val →
      ((s0).view.readAt (Elt F) (Rect.unit (s := S5120) (k2_off1 k) S16.size (k2_off1_inb L k k2_h1)).toLoadRect (rank : Buf (Elt F) ((s0).view.loc (thr d L)))) x = rank i := by
    intro x i hi
    refine congrArg rank (idx_ext ?_)
    rw [hi]; exact win_idx (k2_off1_eq k) x
  have hb : ∀ a x, ((![(s0).view.readAt (Elt F) (Rect.unit (s := S5120) (k2_off1 k) S16.size (k2_off1_inb L k k2_h1)).toLoadRect (rank : Buf (Elt F) ((s0).view.loc (thr d L)))] : Fin 1 → IVec S16 32) a x).toNat < S5120.size a := by
    intro a x
    obtain rfl : a = 0 := Subsingleton.elim _ _
    have hl := lt1 k
    have hx : (x 0).val < 16 := (x 0).isLt
    have e := hv x (ix (16 * k.val + (x 0).val) (by omega)) rfl
    show (((s0).view.readAt (Elt F) (Rect.unit (s := S5120) (k2_off1 k) S16.size (k2_off1_inb L k k2_h1)).toLoadRect (rank : Buf (Elt F) ((s0).view.loc (thr d L)))) x).toNat < 5120
    rw [e]; exact hok.lt _
  rw [wp_assume_of _ _ _ _ (show k2_chk1 L _ from fun _ => hb)]
  iapply (wp_scatter d L (m := s3) (g := o) (Memref.set_access_whole cc2_scratch3) (Memref.read_access_whole (Elt F) cc2_scratch3 _)
    (Memref.write_access_whole_univ (Elt F) cc2_scratch3 _ _)) $$ H3; iintro H3
  iapply (wp_load 𝒱₀ (thr d L) none Set.univ (m := s4) (S := Finset.univ) (Finset.subset_univ _)) $$ H4; iintro H4
  iapply (wp_store 𝒱₀ (thr d L) none Set.univ (m := s4) (r := Rect.unit (s := S5120) (k2_off2 k) S16.size (k2_off2_inb L k k2_h1)) (Mk := Finset.univ) (S := Finset.univ) (Finset.subset_univ _)) $$ H4; iintro H4
  rw [wp_ret]
  imodintro
  isplitl [H0]; · iexact H0
  iexists _; iexists _
  isplitl [H3]; · iexact H3
  isplitl [H4]; · iexact H4
  ipureintro
  exact ⟨order_step (F := F) hok (lt1 k) ho hv (pay2_apply k) hb, zero_step (F := F) (k2_off2_eq k) (s4).view u hu _ (fun _ => rfl)⟩

/-! ## The second loop's trip -/

/-- A window's columns read around the window. -/
theorem wp_roll {p : IVec S16 32} {h : ∀ a x, ((![p] : Fin 1 → IVec S16 32) a x).toNat < S16.size a} {hl : (s6).view.Loads} {α : Type}
    {k : Vec F S16 .i32 → Prog (TpuEff nD τ sig (Elt F) Λ₀ (Proc.scVector (cV L) (jV L))) α} {Q : α → sProp 𝕄} {f : IVec S16 32}
    (n : Nat) (hn : n < 16) (hp : p = perm (BitVec.ofNat 32 n)) :
    (at6 d L f : sProp 𝕄)
      ⊢ iprop((at6 d L f -∗ wp frame (wpE (defs₀ (F := F)) 𝒱₀ (thr d L) none) Set.univ (k (roll f n)) Q)
        -∗ wp frame (wpE (defs₀ (F := F)) 𝒱₀ (thr d L) none) Set.univ (SparseCore.vectorLoadIdx s6 ![p] h hl >>= k) Q) := by
  subst hp
  have ht : (BitVec.ofNat 32 n).toNat = n := by rw [BitVec.toNat_ofNat]; omega
  have := wp_gather (F := F) d L (m := s6) (idxs := ![perm (BitVec.ofNat 32 n)]) (h := h) (hl := hl) (k := k) (Q := Q) (f := f)
    (Memref.read_access_whole (Elt F) cc2_scratch6 _)
  rw [loadIdx_perm (F := F) f (BitVec.ofNat 32 n) (by omega) h, ht] at this
  exact this

/-- The columns' scratch stored whole. -/
theorem wp_put6 {v : Vec F S16 .i32} {hx hm} {α : Type}
    {k : PUnit → Prog (TpuEff nD τ sig (Elt F) Λ₀ (Proc.scVector (cV L) (jV L))) α} {Q : α → sProp 𝕄} {f : IVec S16 32} :
    (at6 d L f : sProp 𝕄)
      ⊢ iprop((at6 d L v -∗ wp frame (wpE (defs₀ (F := F)) 𝒱₀ (thr d L) none) Set.univ (k ⟨⟩) Q)
        -∗ wp frame (wpE (defs₀ (F := F)) 𝒱₀ (thr d L) none) Set.univ
          (.op (.store (s6) (Rect.unit (s := S16) ![0] S16.size inb_S16_S16_0) v Finset.univ hx hm) k) Q) := by
  have := wp_store (defs := defs₀ (F := F)) 𝒱₀ (thr d L) none (Γ := .empty) Set.univ (m := s6) (r := Rect.unit (s := S16) ![0] S16.size inb_S16_S16_0)
    (Mk := Finset.univ) (w := v) (hx := hx) (hm := hm) (k := k) (Q := Q) (S := Finset.univ) (f := f) (Finset.subset_univ _)
  have e : ((s6).access (Rect.unit (s := S16) ![0] S16.size inb_S16_S16_0)).write (Elt F) f v Finset.univ = v :=
    Memref.write_access_unit_zero_univ (Elt F) cc2_scratch6 (off := ![0]) (by funext a; obtain rfl : a = 0 := Subsingleton.elim _ _; rfl) inb_S16_S16_0 f v
  rw [e] at this
  exact this

/-- The second loop's invariant. -/
def inv2 (rank mi th : Words) (k : Nat) (_ : PUnit) : sProp 𝕄 :=
  iprop(at1 d L mi ∗ at2 d L th ∗ ∃ o u t j, at3 d L o ∗ at4 d L u ∗ at5 d L t ∗ at6 d L j
    ∗ ⌜OrderTo rank 320 o ∧ UsedAt rank mi th k u ∧ MatchAt rank mi th k t⌝)

theorem perm_ok (n : Nat) (hn : n < 16) {p : IVec S16 32} (hp : p = perm (BitVec.ofNat 32 n)) (a : Fin 1) (x : S16.Idx) :
    ((![p] : Fin 1 → IVec S16 32) a x).toNat < S16.size a := by
  subst hp
  exact perm_lt _ (by rw [BitVec.toNat_ofNat]; omega) a x

theorem trip2 (hok : Ok rank mi th) (k2_h1 : k2_cond1 L = 1#1) (k : Fin k2_t2_loop.trips) :
    inv2 d L rank mi th k.val ⟨⟩ ⊢ wp frame (wpE (defs₀ (F := F)) 𝒱₀ (thr d L) none) Set.univ
      (k2_t2_body L rW (Memref.isWhole_whole _) mW (Memref.isWhole_whole _) hW (Memref.isWhole_whole _) oW (Memref.isWhole_whole _)
        s0 (Memref.isWhole_whole _) s1 (Memref.isWhole_whole _) s2 (Memref.isWhole_whole _) s3 (Memref.isWhole_whole _)
        s4 (Memref.isWhole_whole _) s5 (Memref.isWhole_whole _) s6 (Memref.isWhole_whole _) cc2_scoped0 cc2_scoped1 cc2_scoped2 cc2_scoped3 k2_h1 lanes k ⟨⟩)
      (fun _ => inv2 d L rank mi th (k.val + 1) ⟨⟩) := by
  unfold inv2 k2_t2_body
  rw [k2_part1_eq_skeleton, k2_part2_eq_skeleton, k2_part3_eq_skeleton, k2_part4_eq_skeleton]
  unfold k2_part1_skel k2_part2_skel k2_part3_skel k2_part4_skel
  simp only [Prog.lift, Prog.bind_op, Prog.bind_ret, Prog.pure_eq_ret, bind_assoc]
  iintro ⟨H1, H2, %o, %u, %t, %j, H3, H4, H5, H6, %hou⟩
  obtain ⟨ho, hu, hm⟩ := hou
  iapply (wp_load 𝒱₀ (thr d L) none Set.univ (m := s3) (S := Finset.univ) (Finset.subset_univ _)) $$ H3; iintro H3
  have hv : ∀ (x : S16.Idx) (i : S5120.Idx), (i 0).val = 16 * k.val + (x 0).val →
      ((s3).view.readAt (Elt F) (Rect.unit (s := S5120) (k2_off3 k) S16.size (k2_off3_inb L k k2_h1)).toLoadRect (o : Buf (Elt F) ((s3).view.loc (thr d L)))) x = o i := by
    intro x i hi
    refine congrArg o (idx_ext ?_)
    rw [hi]; exact win_idx (k2_off3_eq k) x
  have hb := rows_lt hok (lt2 k) ho hv
  generalize ((s3).view.readAt (Elt F) (Rect.unit (s := S5120) (k2_off3 k) S16.size (k2_off3_inb L k k2_h1)).toLoadRect (o : Buf (Elt F) ((s3).view.loc (thr d L)))) = v11 at hv hb ⊢
  have h2 : k2_chk2 L v11 := ⟨fun _ => hb, fun _ => hb, fun _ => hb⟩
  rw [wp_assume_of _ _ _ _ h2]
  iapply (wp_gather d L (m := s1) (g := mi) (Memref.read_access_whole (Elt F) cc2_scratch1 _)) $$ H1; iintro H1
  have hc := cols_lt (F := F) (mi := mi) hok hb
  have h3 : k2_chk3 L _ := ⟨fun _ => hc, fun _ => hc⟩
  rw [wp_assume_of _ _ _ _ h3]
  iapply (wp_gather d L (m := s2) (g := th) (Memref.read_access_whole (Elt F) cc2_scratch2 _)) $$ H2; iintro H2
  iapply (wp_gather d L (m := s4) (g := u) (Memref.read_access_whole (Elt F) cc2_scratch4 _)) $$ H4; iintro H4
  iapply (wp_load 𝒱₀ (thr d L) none Set.univ (m := s6) (S := Finset.univ) (Finset.subset_univ _)) $$ H6; iintro H6
  iapply (wp_put6 d L) $$ H6; iintro H6
  have h4 : k2_chk4 L (k2_pay4 lanes) := fun _ => perm_ok 15 (by decide) rfl
  rw [wp_assume_of _ _ _ _ h4]
  iapply (wp_roll d L 15 (by decide) rfl) $$ H6; iintro H6
  have h5 : k2_chk5 L (k2_pay5 lanes) := fun _ => perm_ok 14 (by decide) rfl
  rw [wp_assume_of _ _ _ _ h5]
  iapply (wp_roll d L 14 (by decide) rfl) $$ H6; iintro H6
  have h6 : k2_chk6 L (k2_pay6 lanes) := fun _ => perm_ok 13 (by decide) rfl
  rw [wp_assume_of _ _ _ _ h6]
  iapply (wp_roll d L 13 (by decide) rfl) $$ H6; iintro H6
  have h7 : k2_chk7 L (k2_pay9 (k2_pay8 lanes)) := fun _ => perm_ok 12 (by decide) rfl
  rw [wp_assume_of _ _ _ _ h7]
  iapply (wp_roll d L 12 (by decide) rfl) $$ H6; iintro H6
  have h8 : k2_chk8 L (k2_pay10 lanes) := fun _ => perm_ok 11 (by decide) rfl
  rw [wp_assume_of _ _ _ _ h8]
  iapply (wp_roll d L 11 (by decide) rfl) $$ H6; iintro H6
  have h9 : k2_chk9 L (k2_pay11 lanes) := fun _ => perm_ok 10 (by decide) rfl
  rw [wp_assume_of _ _ _ _ h9]
  iapply (wp_roll d L 10 (by decide) rfl) $$ H6; iintro H6
  have h10 : k2_chk10 L (k2_pay12 lanes) := fun _ => perm_ok 9 (by decide) rfl
  rw [wp_assume_of _ _ _ _ h10]
  iapply (wp_roll d L 9 (by decide) rfl) $$ H6; iintro H6
  have h11 : k2_chk11 L (k2_pay14 lanes) := fun _ => perm_ok 8 (by decide) rfl
  rw [wp_assume_of _ _ _ _ h11]
  iapply (wp_roll d L 8 (by decide) rfl) $$ H6; iintro H6
  have h12 : k2_chk12 L (k2_pay15 lanes) := fun _ => perm_ok 7 (by decide) rfl
  rw [wp_assume_of _ _ _ _ h12]
  iapply (wp_roll d L 7 (by decide) rfl) $$ H6; iintro H6
  have h13 : k2_chk13 L (k2_pay16 lanes) := fun _ => perm_ok 6 (by decide) rfl
  rw [wp_assume_of _ _ _ _ h13]
  iapply (wp_roll d L 6 (by decide) rfl) $$ H6; iintro H6
  have h14 : k2_chk14 L (k2_pay17 lanes) := fun _ => perm_ok 5 (by decide) rfl
  rw [wp_assume_of _ _ _ _ h14]
  iapply (wp_roll d L 5 (by decide) rfl) $$ H6; iintro H6
  have h15 : k2_chk15 L (k2_pay19 lanes) := fun _ => perm_ok 4 (by decide) rfl
  rw [wp_assume_of _ _ _ _ h15]
  iapply (wp_roll d L 4 (by decide) rfl) $$ H6; iintro H6
  have h16 : k2_chk16 L (k2_pay22 lanes) := fun _ => perm_ok 3 (by decide) rfl
  rw [wp_assume_of _ _ _ _ h16]
  iapply (wp_roll d L 3 (by decide) rfl) $$ H6; iintro H6
  have h17 : k2_chk17 L (k2_pay23 lanes) := fun _ => perm_ok 2 (by decide) rfl
  rw [wp_assume_of _ _ _ _ h17]
  iapply (wp_roll d L 2 (by decide) rfl) $$ H6; iintro H6
  have h18 : k2_chk18 L (k2_pay24 lanes) := fun _ => perm_ok 1 (by decide) rfl
  rw [wp_assume_of _ _ _ _ h18]
  iapply (wp_roll d L 1 (by decide) rfl) $$ H6; iintro H6
  iapply (wp_scatter d L (m := s4) (g := u) (Memref.set_access_whole cc2_scratch4) (Memref.read_access_whole (Elt F) cc2_scratch4 _)
    (Memref.write_access_whole_univ (Elt F) cc2_scratch4 _ _)) $$ H4; iintro H4
  iapply (wp_scatter d L (m := s5) (g := t) (Memref.set_access_whole cc2_scratch5) (Memref.read_access_whole (Elt F) cc2_scratch5 _)
    (Memref.write_access_whole_univ (Elt F) cc2_scratch5 _ _)) $$ H5; iintro H5
  rw [wp_ret]
  imodintro
  isplitl [H1]; · iexact H1
  isplitl [H2]; · iexact H2
  iexists _; iexists _; iexists _; iexists _
  isplitl [H3]; · iexact H3
  isplitl [H4]; · iexact H4
  isplitl [H5]; · iexact H5
  isplitl [H6]; · iexact H6
  ipureintro
  exact ⟨ho, used_step (F := F) hok (lt2 k) ho hv hb hc hu _ (fun _ => rfl), match_step (F := F) hok (lt2 k) ho hv hb hc hu hm _ (fun _ => rfl)⟩

end Body

end Cert.Proof.Tile

end
-- ==== Proof.TileBody.lean ====
/-
  The tiles' task: tile (0, 0) fetches the ranks, the columns and the threshold words, runs the two loops and writes the
  matches out; every other tile does nothing.
-/
module

public import proofs.«01_k».proof.Proof.Tile

@[expose] public section

noncomputable section

namespace Cert.Proof.TileBody

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scatter Cert.Proof.Greedy Cert.Proof.Launch Cert.Proof.Tile

variable {F : FTy → Type}

local notation "𝕄" => MT nD τ sig (HIx 1) (Elt F) ℕ UU ℕ

local notation "rW" => (Memref.whole Cert.KernelIdeal.main_v99_scv : Memref Cert.KernelIdeal.sig Kind.scVector Space.hbm Cert.KernelIdeal.S5120 EltTy.i32)
local notation "mW" => (Memref.whole Cert.KernelIdeal.main_v102_scv : Memref Cert.KernelIdeal.sig Kind.scVector Space.hbm Cert.KernelIdeal.S5120 EltTy.i32)
local notation "hW" => (Memref.whole Cert.KernelIdeal.main_v105_scv : Memref Cert.KernelIdeal.sig Kind.scVector Space.hbm Cert.KernelIdeal.S5120 EltTy.i32)
local notation "oW" => (Memref.whole Cert.KernelIdeal.main_v106_scv : Memref Cert.KernelIdeal.sig Kind.scVector Space.hbm Cert.KernelIdeal.S5120 EltTy.i32)
local notation "s0" => (Memref.whole Cert.KernelIdeal.cc2_scratch0 : Memref Cert.KernelIdeal.sig Kind.scVector Space.vmem Cert.KernelIdeal.S5120 EltTy.i32)
local notation "s1" => (Memref.whole Cert.KernelIdeal.cc2_scratch1 : Memref Cert.KernelIdeal.sig Kind.scVector Space.vmem Cert.KernelIdeal.S5120 EltTy.i32)
local notation "s2" => (Memref.whole Cert.KernelIdeal.cc2_scratch2 : Memref Cert.KernelIdeal.sig Kind.scVector Space.vmem Cert.KernelIdeal.S5120 EltTy.i32)
local notation "s3" => (Memref.whole Cert.KernelIdeal.cc2_scratch3 : Memref Cert.KernelIdeal.sig Kind.scVector Space.vmem Cert.KernelIdeal.S5120 EltTy.i32)
local notation "s4" => (Memref.whole Cert.KernelIdeal.cc2_scratch4 : Memref Cert.KernelIdeal.sig Kind.scVector Space.vmem Cert.KernelIdeal.S5120 EltTy.i32)
local notation "s5" => (Memref.whole Cert.KernelIdeal.cc2_scratch5 : Memref Cert.KernelIdeal.sig Kind.scVector Space.vmem Cert.KernelIdeal.S5120 EltTy.i32)
local notation "s6" => (Memref.whole Cert.KernelIdeal.cc2_scratch6 : Memref Cert.KernelIdeal.sig Kind.scVector Space.vmem Cert.KernelIdeal.S16 EltTy.i32)

variable [FloatOps F]

/-! ## What a tile owns -/

section Own

variable (d : Dev nD) (c : Fin τ.nSC) (i : Fin τ.nSub)

/-- The tile's four transfer counters. -/
abbrev cell0 : GSem nD τ sig := (V d c i, .dma cc2_scoped0.sem)
abbrev cell1 : GSem nD τ sig := (V d c i, .dma cc2_scoped1.sem)
abbrev cell2 : GSem nD τ sig := (V d c i, .dma cc2_scoped2.sem)
abbrev cell3 : GSem nD τ sig := (V d c i, .dma cc2_scoped3.sem)

theorem own_cell {s : SemLoc sig} (h : s.isScoped .scVector = true) : ((V d c i, s) : GSem nD τ sig) ∈ ownCells (V d c i) :=
  mem_ownCells.mpr ⟨rfl, h⟩

theorem cell_ne {s t : SemLoc sig} (h : s ≠ t) : ((V d c i, s) : GSem nD τ sig) ≠ (V d c i, t) := fun e => h (congrArg Prod.snd e)

theorem own_sems :
    (ownSems0 (V d c i) : sProp 𝕄)
      = iprop(semVal (cell0 d c i) 0 ∗ semVal (cell1 d c i) 0 ∗ semVal (cell2 d c i) 0 ∗ semVal (cell3 d c i) 0
          ∗ bigSep (((((ownCells (V d c i)).erase (cell0 d c i)).erase (cell1 d c i)).erase (cell2 d c i)).erase (cell3 d c i)) fun g => semVal g 0) := by
  have h0 : cell0 d c i ∈ ownCells (V d c i) := own_cell d c i (by decide)
  have h1 : cell1 d c i ∈ ownCells (V d c i) := own_cell d c i (by decide)
  have h2 : cell2 d c i ∈ ownCells (V d c i) := own_cell d c i (by decide)
  have h3 : cell3 d c i ∈ ownCells (V d c i) := own_cell d c i (by decide)
  have n10 : cell1 d c i ≠ cell0 d c i := cell_ne d c i (by decide)
  have n20 : cell2 d c i ≠ cell0 d c i := cell_ne d c i (by decide)
  have n21 : cell2 d c i ≠ cell1 d c i := cell_ne d c i (by decide)
  have n30 : cell3 d c i ≠ cell0 d c i := cell_ne d c i (by decide)
  have n31 : cell3 d c i ≠ cell1 d c i := cell_ne d c i (by decide)
  have n32 : cell3 d c i ≠ cell2 d c i := cell_ne d c i (by decide)
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-- The device's name of a scratch of the tile. -/
abbrev nm (b : Ref sig .scVector) : DevRef τ sig := (Proc.scVector c i).devRef b

theorem own_ref (b : Ref sig .scVector) (h : (nm c i b).owner = .proc (.scVector c i)) : nm c i b ∈ ownRefs (τ := τ) (.scVector c i) :=
  SparseCore.Cfg.mem_ownRefs_of_owner (p := Proc.scVector c i) (b := nm c i b) h

/-- Some words in a scratch. -/
abbrev someIn (b : Ref sig .scVector) : sProp 𝕄 := iprop(∃ f, (V d c i).loc b ↦{fullShare} f)

/-- A scratch not yet taken is still among the rest. -/
theorem mem_rest {s : Finset (DevRef τ sig)} {b b' : Ref sig .scVector} (h : nm c i b ∈ s) (hn : b ≠ b') : nm c i b ∈ s.erase (nm c i b') :=
  Finset.mem_erase.mpr ⟨fun e => hn (Proc.devRef_injective _ e), h⟩

/-- The tile's other buffers. -/
abbrev restRefs : Finset (DevRef τ sig) :=
  (((((((ownRefs (τ := τ) (.scVector c i)).erase (nm c i cc2_scratch0)).erase (nm c i cc2_scratch1)).erase (nm c i cc2_scratch2)).erase (nm c i cc2_scratch3)).erase
    (nm c i cc2_scratch4)).erase (nm c i cc2_scratch5)).erase (nm c i cc2_scratch6)

theorem own_bufs :
    (ownBufs (V d c i) : sProp 𝕄)
      = iprop(someIn d c i cc2_scratch0 ∗ someIn d c i cc2_scratch1 ∗ someIn d c i cc2_scratch2 ∗ someIn d c i cc2_scratch3 ∗ someIn d c i cc2_scratch4
          ∗ someIn d c i cc2_scratch5 ∗ someIn d c i cc2_scratch6
          ∗ bigSep (restRefs c i) fun b => iprop(∃ f, ((d, b) : Loc nD τ sig) ↦{fullShare} f)) := by
  have m0 := own_ref c i cc2_scratch0 rfl
  have m1 := mem_rest c i (own_ref c i cc2_scratch1 rfl) (b' := cc2_scratch0) (by decide)
  have m2 := mem_rest c i (mem_rest c i (own_ref c i cc2_scratch2 rfl) (b' := cc2_scratch0) (by decide)) (b' := cc2_scratch1) (by decide)
  have m3 := mem_rest c i (mem_rest c i (mem_rest c i (own_ref c i cc2_scratch3 rfl) (b' := cc2_scratch0) (by decide)) (b' := cc2_scratch1) (by decide))
    (b' := cc2_scratch2) (by decide)
  have m4 := mem_rest c i (mem_rest c i (mem_rest c i (mem_rest c i (own_ref c i cc2_scratch4 rfl) (b' := cc2_scratch0) (by decide)) (b' := cc2_scratch1) (by decide))
    (b' := cc2_scratch2) (by decide)) (b' := cc2_scratch3) (by decide)
  have m5 := mem_rest c i (mem_rest c i (mem_rest c i (mem_rest c i (mem_rest c i (own_ref c i cc2_scratch5 rfl) (b' := cc2_scratch0) (by decide))
    (b' := cc2_scratch1) (by decide)) (b' := cc2_scratch2) (by decide)) (b' := cc2_scratch3) (by decide)) (b' := cc2_scratch4) (by decide)
  have m6 := mem_rest c i (mem_rest c i (mem_rest c i (mem_rest c i (mem_rest c i (mem_rest c i (own_ref c i cc2_scratch6 rfl) (b' := cc2_scratch0) (by decide))
    (b' := cc2_scratch1) (by decide)) (b' := cc2_scratch2) (by decide)) (b' := cc2_scratch3) (by decide)) (b' := cc2_scratch4) (by decide)) (b' := cc2_scratch5) (by decide)
  unfold SparseCore.Cfg.ownBufs
  refine (SparseCore.bigSep_erase' m0).trans ?_
  rw [SparseCore.bigSep_erase' m1, SparseCore.bigSep_erase' m2, SparseCore.bigSep_erase' m3, SparseCore.bigSep_erase' m4, SparseCore.bigSep_erase' m5,
    SparseCore.bigSep_erase' m6]

end Own

/-! ## The working tile -/

section Body

variable (R M H : Dev nD → Words) (d : Dev nD) (L : grid2.Coords)

theorem body_work (hok : Ok (R d) (M d) (H d)) (k2_h1 : k2_cond1 L = 1#1) (O : CellTallies nD τ sig (HIx 1)) (W : Waits sig (HIx 1)) (hO : ∀ g, O g none = 0) :
    iprop(levAts (K (F := F)).L (K (F := F)).lev ∗ emp ∗ take R M H d
        ∗ scopedBufs (thr d L) ∗ scopedSems0 (thr d L) ∗ owes (thr d L) O W)
      ⊢ wp frame (wpE (defs₀ (F := F)) 𝒱₀ (thr d L) none) Set.univ
          (cc2__greedy_body L rW (Memref.isWhole_whole _) mW (Memref.isWhole_whole _) hW (Memref.isWhole_whole _) oW (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) cc2_scoped0 cc2_scoped1 cc2_scoped2 cc2_scoped3)
          fun _ => iprop(bring R M H d ∗ scopedBufs (thr d L) ∗ scopedSems0 (thr d L) ∗ ∃ W', ⌜∀ p ∈ W', p ∈ W ∨ p.2 = none⌝ ∗ owes (thr d L) O W') := by
  simp only [cc2__greedy_body_eq_skeleton]; unfold cc2__greedy_body_skel
  rw [(K (F := F)).scopedBufs_V facts d (cV L) (jV L), SparseCore.Cfg.scopedSems0_V (Val := Elt F) d (cV L) (jV L), own_sems, own_bufs]
  iintro ⟨#Hlv, -, ⟨⟨Hr, Hm, Hh⟩, %fo, Ho⟩, ⟨⟨%f0, H0⟩, ⟨%f1, H1⟩, ⟨%f2, H2⟩, ⟨%f3, H3⟩, ⟨%f4, H4⟩, ⟨%f5, H5⟩, ⟨%f6, H6⟩, Hbufs⟩, ⟨Hc0, Hc1, Hc2, Hc3, Hsems⟩, HO⟩
  ihave Hmw := ((K (F := F)).mayWaits_none (thr := thr d L) hO) $$ Hlv
  ihave Hr := (Entails.of_eq (show (rLoc d ↦{fullShare} (R d : Buf (Elt F) (rLoc d)) : sProp 𝕄) = ((rW).view.loc (thr d L) ↦{fullShare} (R d : Buf (Elt F) ((rW).view.loc (thr d L)))) from rfl)) $$ Hr
  ihave Hm := (Entails.of_eq (show (mLoc d ↦{fullShare} (M d : Buf (Elt F) (mLoc d)) : sProp 𝕄) = ((mW).view.loc (thr d L) ↦{fullShare} (M d : Buf (Elt F) ((mW).view.loc (thr d L)))) from rfl)) $$ Hm
  ihave Hh := (Entails.of_eq (show (hLoc d ↦{fullShare} (H d : Buf (Elt F) (hLoc d)) : sProp 𝕄) = ((hW).view.loc (thr d L) ↦{fullShare} (H d : Buf (Elt F) ((hW).view.loc (thr d L)))) from rfl)) $$ Hh
  ihave Ho := (Entails.of_eq (show (oLoc d ↦{fullShare} (fo : Buf (Elt F) (oLoc d)) : sProp 𝕄) = ((oW).view.loc (thr d L) ↦{fullShare} (fo : Buf (Elt F) ((oW).view.loc (thr d L)))) from rfl)) $$ Ho
  ihave H0 := (Entails.of_eq (show ((V d (cV L) (jV L)).loc cc2_scratch0 ↦{fullShare} f0 : sProp 𝕄) = ((s0).view.loc (thr d L) ↦{fullShare} f0) from rfl)) $$ H0
  ihave H1 := (Entails.of_eq (show ((V d (cV L) (jV L)).loc cc2_scratch1 ↦{fullShare} f1 : sProp 𝕄) = ((s1).view.loc (thr d L) ↦{fullShare} f1) from rfl)) $$ H1
  ihave H2 := (Entails.of_eq (show ((V d (cV L) (jV L)).loc cc2_scratch2 ↦{fullShare} f2 : sProp 𝕄) = ((s2).view.loc (thr d L) ↦{fullShare} f2) from rfl)) $$ H2
  sl_exec
  have e0 : (s0).view.write (Elt F) f0 (body_work.sl.dma0 R d) Finset.univ = R d := View.write_whole_univ _ _ _
  have e1 : (s1).view.write (Elt F) f1 (body_work.sl.dma0_1 M d) Finset.univ = M d := View.write_whole_univ _ _ _
  have e2 : (s2).view.write (Elt F) f2 (body_work.sl.dma0_2 H d) Finset.univ = H d := View.write_whole_univ _ _ _
  ihave H0 := (Entails.of_eq (congrArg (fun f => ((s0).view.loc (thr d L) ↦{fullShare} f : sProp 𝕄)) e0)) $$ H0
  ihave H1 := (Entails.of_eq (congrArg (fun f => ((s1).view.loc (thr d L) ↦{fullShare} f : sProp 𝕄)) e1)) $$ H1
  ihave H2 := (Entails.of_eq (congrArg (fun f => ((s2).view.loc (thr d L) ↦{fullShare} f : sProp 𝕄)) e2)) $$ H2
  sl_for (inv1 d L (R d)) $$ [H0 H3 H4]
  case region =>
    intro k _
    exact trip1 d L hok k2_h1 k
  · unfold inv1
    isplitl [H0]; · iexact H0
    iexists _; iexists _
    isplitl [H3]; · iexact H3
    isplitl [H4]; · iexact H4
    ipureintro
    exact ⟨fun i _ h => absurd h (by omega), fun j h => absurd h (by omega)⟩
  iintro %_ HI
  unfold inv1
  icases HI with ⟨H0, %o, %u, H3, H4, %hou⟩
  replace hou : OrderTo (R d) 320 o ∧ ZeroTo 320 u := by rw [← trips1]; exact hou
  sl_exec
  sl_for (inv2 d L (R d) (M d) (H d)) $$ [H1 H2 H3 H4 H5 H6]
  case region =>
    intro k _
    exact trip2 d L hok k2_h1 k
  · unfold inv2
    isplitl [H1]; · iexact H1
    isplitl [H2]; · iexact H2
    iexists _; iexists _; iexists _; iexists _
    isplitl [H3]; · iexact H3
    isplitl [H4]; · iexact H4
    isplitl [H5]; · iexact H5
    isplitl [H6]; · iexact H6
    ipureintro
    exact ⟨hou.1, usedAt_zero hou.2, matchAt_zero _⟩
  iintro %_ HI
  unfold inv2
  icases HI with ⟨H1, H2, %o', %u', %t, %j, H3, H4, H5, H6, %hm⟩
  replace hm : OrderTo (R d) 320 o' ∧ UsedAt (R d) (M d) (H d) 320 u' ∧ MatchAt (R d) (M d) (H d) 320 t := ⟨hm.1, by rw [← trips2]; exact hm.2⟩
  have hmt : t = matched (R d) (M d) (H d) := funext fun i => hm.2.2 i (by have := hok.lt i; omega)
  subst hmt
  sl_exec
  sl_step
  have e3 : (oW).view.write (Elt F) fo (body_work.sl.dma0_3 R M H d) Finset.univ = matched (R d) (M d) (H d) := View.write_whole_univ _ _ _
  isplitl [Hr Hm Hh Ho]
  · isplitl [Hr Hm Hh]
    · isplitl [Hr]; · iexact Hr
      isplitl [Hm]; · iexact Hm
      iexact Hh
    · iapply (Entails.of_eq (congrArg (fun f => ((oW).view.loc (thr d L) ↦{fullShare} f : sProp 𝕄)) e3)); iexact Ho
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists (insert (SemLoc.dma cc2_scoped3.sem, (default : HIx 1)) (insert (SemLoc.dma cc2_scoped2.sem, (default : HIx 1))
    (insert (SemLoc.dma cc2_scoped1.sem, (default : HIx 1)) (insert (SemLoc.dma cc2_scoped0.sem, (default : HIx 1)) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

theorem body_idle (k2_h1 : ¬ k2_cond1 L = 1#1) (O : CellTallies nD τ sig (HIx 1)) (W : Waits sig (HIx 1)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc2__greedy_body L rW (Memref.isWhole_whole _) mW (Memref.isWhole_whole _) hW (Memref.isWhole_whole _) oW (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) cc2_scoped0 cc2_scoped1 cc2_scoped2 cc2_scoped3)
          fun _ => iprop(emp ∗ scopedBufs (thr d L) ∗ scopedSems0 (thr d L) ∗ ∃ W', ⌜∀ p ∈ W', p ∈ W ∨ p.2 = none⌝ ∗ owes (thr d L) O W') := by
  simp only [cc2__greedy_body_eq_skeleton]; unfold cc2__greedy_body_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

end Body

/-! ## The launch theorem's obligation -/

/-- A tile's coordinates. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__greedy_body (coordsV c s)
          rW (Memref.isWhole_whole _) mW (Memref.isWhole_whole _) hW (Memref.isWhole_whole _) oW (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) cc2_scoped0 cc2_scoped1 cc2_scoped2 cc2_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Tile (0, 0) alone takes the branch. -/
theorem cond_iff (c : Fin (grid2.bound 0)) (s : Fin (grid2.bound 1)) : k2_cond1 (coordsV c s) = 1#1 ↔ s.val = 0 ∧ c.val = 0 := by
  revert c s; decide

variable (R M H : Dev nD → Words)

theorem tileObl (hok : ∀ d, Ok (R d) (M d) (H d)) : (K (F := F)).TileObl (D (F := F)) 𝒱 (P R M H) v₀ 0 := by
  intro d c i O W hO _ _
  simp only [show (P (F := F) R M H).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  by_cases h : i.val = 0 ∧ c.val = 0
  · have e1 : (P (F := F) R M H).go 0 d c i = take R M H d := by
      show only i.val (only c.val _) = _
      rw [h.1, h.2, only_zero, only_zero]
    have e2 : (P (F := F) R M H).td 0 d c i = bring R M H d := by
      show only i.val (only c.val _) = _
      rw [h.1, h.2, only_zero, only_zero]
    rw [e1, e2]
    exact (body_work R M H d (coordsV ⟨_, hc.1⟩ ⟨_, hc.2⟩) (hok d) ((cond_iff _ _).mpr h) O W hO).trans (wp_mono frame _ _ fun _ => obl_post)
  · have hn (X : sProp 𝕄) : only i.val (only c.val X) = iprop(emp) := by
      by_cases hi : i.val = 0
      · rw [hi, only_zero, only_pos (fun hc => h ⟨hi, hc⟩)]
      · exact only_pos hi _
    have e1 : (P (F := F) R M H).go 0 d c i = iprop(emp) := hn _
    have e2 : (P (F := F) R M H).td 0 d c i = iprop(emp) := hn _
    rw [e1, e2]
    exact (body_idle d (coordsV ⟨_, hc.1⟩ ⟨_, hc.2⟩) (fun hh => h ((cond_iff _ _).mp hh)) O W).trans (wp_mono frame _ _ fun _ => obl_post)

end Cert.Proof.TileBody

end
-- ==== Proof.Rank.lean ====
/-
  The rank kernel: ten blocks of 512 rows, the last cut at row 5000. From the maxima (a column, and the same numbers as a row)
  it leaves each row's rank and threshold word.
-/
module

public import proofs.«01_k».proof.Proof.Region
public import proofs.«01_k».proof.Proof.Pay
public import proofs.«01_k».proof.Proof.Gen.KernelIdeal.Points
public import Idealize.ShloMosaic.Lib.Pipeline.ValueKit
public import Idealize.ShloMosaic.Lib.Tactic

@[expose] public section

noncomputable section

namespace Cert.Proof.Rank

open Cert.KernelIdeal Cert.KernelIdeal.Gen
open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Proof.Launch Cert.Proof.Region Cert.Proof.Pay

local notation "𝕄" => MT nD τ sig (HIx 1) (Elt Ideal) ℕ UU ℕ

variable (V : Valuation τ sig (Elt Ideal))

/-- The maxima, as the column and as the row. -/
def msC : S5000x1.Idx → EReal := V (Proc.devRef .tc main_v92_1)
def msR : S1x5000.Idx → EReal := V (Proc.devRef .tc main_v93)

/-- What the kernel leaves: the ranks and the threshold words. -/
def ranks : S5000x1.Idx → BitVec 32 := fun i => BitVec.ofNat 32 (before (msC V i) (fun k => msR V (ValueIdx.ix2 0 k)) (i 0).val)
def words : S5000x1.Idx → BitVec 32 := fun i => above (msC V i)

def dat (c : Dev nD) : Dat τ (Elt Ideal) (HIx 1) ℕ UU ℕ cfg1 c where
  A w := V (Proc.devRef .tc (arrRef spec1 w))
  after w t := match w with
    | ⟨0, _⟩ => win1_0.fill (grid1.coords t) (fun _ => (0 : EReal)) ((win1_0.blk t).view.read (Elt Ideal) (msC V))
    | ⟨1, _⟩ => msR V
    | ⟨2, _⟩ => win1_2.fill (grid1.coords t) (fun _ => 0#32) ((win1_2.blk t).view.read (Elt Ideal) (ranks V))
    | ⟨3, _⟩ => win1_3.fill (grid1.coords t) (fun _ => 0#32) ((win1_3.blk t).view.read (Elt Ideal) (words V))
  Φ _ := scopedRest spec1 c
  q _ := fullShare
  owed _ := (K (F := Ideal)).Otc c 0
  recorded _ := low (F := Ideal) c

theorem before_0 (c : Dev nD) (t : Fin cfg1.N) (d) :
    (dat V c).before (0 : Fin 4) t d = win1_0.fill (grid1.coords t) d ((win1_0.blk t).view.read (Elt Ideal) (msC V)) := by
  unfold Dat.before; rw [if_pos (fetch1_0 t)]; rfl

theorem before_1 (c : Dev nD) (t : Fin cfg1.N) (d) : (dat V c).before (1 : Fin 4) t d = msR V := by
  have hr : ∀ t : Fin cfg1.N, ∀ X : S1x5000.Idx → EReal, (win1_1.blk t).view.read (Elt Ideal) X = X := fun t X => by
    have e : ∀ t : Fin cfg1.N, win1_1.index t = ![0, 0] := by decide +kernel
    funext y
    show X ((win1_1.blk t).view.emb y) = X y
    refine congrArg X (funext fun a => Fin.ext ?_)
    fin_cases a <;> blk_simp [e] <;> simp
  rw [(dat V c).before_in_eq_fetched (1 : Fin 4) rfl (fun _ => rfl) (fun _ _ _ => rfl) (fun t => (hr t _).symm) t d]
  exact hr t _

theorem before_2 (c : Dev nD) (t : Fin cfg1.N) (d) : (dat V c).before (2 : Fin 4) t d = d :=
  (dat V c).before_out_reset (2 : Fin 4) rfl t (by
    by_cases h : t.val = 0
    · exact .inl h
    · exact .inr ⟨h, flush1_2 _⟩) d

theorem before_3 (c : Dev nD) (t : Fin cfg1.N) (d) : (dat V c).before (3 : Fin 4) t d = d :=
  (dat V c).before_out_reset (3 : Fin 4) rfl t (by
    by_cases h : t.val = 0
    · exact .inl h
    · exact .inr ⟨h, flush1_3 _⟩) d

/-- The body on the staging buffers of one parity. -/
theorem body (c : Dev nD) (E : Set ℕ) (i : grid1.Coords) (s0 : Fin 2) (s1 : Fin 1) (s2 s3 : Fin 2) (e2 : s2 = s0) (e3 : s3 = s0)
    (X0 : S512x1.Idx → EReal) (X1 : S1x5000.Idx → EReal) (X2 X3 : S512x1.Idx → BitVec 32) (Q : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
              ∗ owns (c : Thread nD τ) (stage1_2 s2) fullShare (k1_pay2 (F := Ideal) i X0 X1)
              ∗ owns (c : Thread nD τ) (stage1_3 s3) fullShare (k1_pay3 (F := Ideal) X0)) -∗ Q ⟨⟩))
      ⊢ wp frame (wpE (defs₀ (F := Ideal)) 𝒱₀ c none) E
          (cc1__rank_body i (stage1_0 s0) (hstage1_0 s0) (stage1_1 s1) (hstage1_1 s1) (stage1_2 s2) (hstage1_2 s2) (stage1_3 s3) (hstage1_3 s3)) Q := by
  have hz : (![0, 0] : Fin 2 → Nat) = fun _ => 0 := funext fun a => by fin_cases a <;> rfl
  have r00 : (Memref.whole cc1_stg0_0 : Memref sig .tc _ _ _).view.readAt (Elt Ideal) (Rect.unit (s := S512x1) ![0, 0] S512x1.size
      inb_S512x1_S512x1_0_0).toLoadRect = id := funext (Memref.readAt_unit_zero (Elt Ideal) cc1_stg0_0 hz _)
  have r01 : (Memref.whole cc1_stg0_1 : Memref sig .tc _ _ _).view.readAt (Elt Ideal) (Rect.unit (s := S512x1) ![0, 0] S512x1.size
      inb_S512x1_S512x1_0_0).toLoadRect = id := funext (Memref.readAt_unit_zero (Elt Ideal) cc1_stg0_1 hz _)
  have r1 : (Memref.whole cc1_stg1_0 : Memref sig .tc _ _ _).view.readAt (Elt Ideal) (Rect.unit (s := S1x5000) ![0, 0] S1x5000.size
      inb_S1x5000_S1x5000_0_0).toLoadRect = id := funext (Memref.readAt_unit_zero (Elt Ideal) cc1_stg1_0 hz _)
  have w20 : ∀ f w, (((Memref.whole cc1_stg2_0).access (Rect.unit (s := S512x1) ![0, 0] S512x1.size inb_S512x1_S512x1_0_0)) :
      View sig .tc _ _ _).write (Elt Ideal) f w Finset.univ = w := Memref.write_access_unit_zero_univ (Elt Ideal) cc1_stg2_0 hz _
  have w21 : ∀ f w, (((Memref.whole cc1_stg2_1).access (Rect.unit (s := S512x1) ![0, 0] S512x1.size inb_S512x1_S512x1_0_0)) :
      View sig .tc _ _ _).write (Elt Ideal) f w Finset.univ = w := Memref.write_access_unit_zero_univ (Elt Ideal) cc1_stg2_1 hz _
  have w30 : ∀ f w, (((Memref.whole cc1_stg3_0).access (Rect.unit (s := S512x1) ![0, 0] S512x1.size inb_S512x1_S512x1_0_0)) :
      View sig .tc _ _ _).write (Elt Ideal) f w Finset.univ = w := Memref.write_access_unit_zero_univ (Elt Ideal) cc1_stg3_0 hz _
  have w31 : ∀ f w, (((Memref.whole cc1_stg3_1).access (Rect.unit (s := S512x1) ![0, 0] S512x1.size inb_S512x1_S512x1_0_0)) :
      View sig .tc _ _ _).write (Elt Ideal) f w Finset.univ = w := Memref.write_access_unit_zero_univ (Elt Ideal) cc1_stg3_1 hz _
  subst e2; subst e3
  fin_cases s1
  fin_cases s3
  · simp only [owns_whole_eq, cc1__rank_body_eq_skeleton]; unfold cc1__rank_body_skel
    simp only [Prog.lift, Prog.bind_op, Prog.bind_ret]
    iintro ⟨⟨⟨%f0, %h0, H0⟩, ⟨%f1, %h1, H1⟩, ⟨%f2, %h2, H2⟩, ⟨%f3, %h3, H3⟩⟩, Hk⟩
    sl_steps
    iapply Hk
    rw [r00, r1, w20, w30]
    subst h0; subst h1
    isplitl [H0]
    · iexists f0; isplitr; · ipureintro; rfl
      iexact H0
    isplitl [H1]
    · iexists f1; isplitr; · ipureintro; rfl
      iexact H1
    isplitl [H2]
    · iexists _; isplitr; · ipureintro; rfl
      iexact H2
    · iexists _; isplitr; · ipureintro; rfl
      iexact H3
  · simp only [owns_whole_eq, cc1__rank_body_eq_skeleton]; unfold cc1__rank_body_skel
    simp only [Prog.lift, Prog.bind_op, Prog.bind_ret]
    iintro ⟨⟨⟨%f0, %h0, H0⟩, ⟨%f1, %h1, H1⟩, ⟨%f2, %h2, H2⟩, ⟨%f3, %h3, H3⟩⟩, Hk⟩
    sl_steps
    iapply Hk
    rw [r01, r1, w21, w31]
    subst h0; subst h1
    isplitl [H0]
    · iexists f0; isplitr; · ipureintro; rfl
      iexact H0
    isplitl [H1]
    · iexists f1; isplitr; · ipureintro; rfl
      iexact H1
    isplitl [H2]
    · iexists _; isplitr; · ipureintro; rfl
      iexact H2
    · iexists _; isplitr; · ipureintro; rfl
      iexact H3

/-- Every double-buffered window is on the same of its two buffers. -/
theorem slots_eq : ∀ t : Fin cfg1.N, (cfg1.slots t 2 : Fin 2) = (cfg1.slots t 0 : Fin 2) ∧ (cfg1.slots t 3 : Fin 2) = (cfg1.slots t 0 : Fin 2) := by
  decide +kernel

theorem coord : ∀ t : Fin cfg1.N, win1_0.index t = ![(grid1.coords t 0).val, 0] ∧ win1_2.index t = ![(grid1.coords t 0).val, 0]
    ∧ win1_3.index t = ![(grid1.coords t 0).val, 0] := by decide +kernel

/-- On the rows inside the array the body computes the ranks and the words. -/
theorem pay_cut (t : Fin cfg1.N) (d : S512x1.Idx → EReal) :
    win1_2.cut (grid1.coords t) (k1_pay2 (F := Ideal) (grid1.coords t) (win1_0.fill (grid1.coords t) d ((win1_0.blk t).view.read (Elt Ideal) (msC V))) (msR V))
        = (win1_2.blk t).view.read (Elt Ideal) (ranks V)
      ∧ win1_3.cut (grid1.coords t) (k1_pay3 (F := Ideal) (win1_0.fill (grid1.coords t) d ((win1_0.blk t).view.read (Elt Ideal) (msC V))))
        = (win1_3.blk t).view.read (Elt Ideal) (words V) := by
  have hc : (grid1.coords t 0).val < 10 := (grid1.coords t 0).isLt
  obtain ⟨i0, i2, i3⟩ := coord t
  have val : ∀ y : (win1_0.xblock (grid1.coords t)).Idx,
      win1_0.fill (grid1.coords t) d ((win1_0.blk t).view.read (Elt Ideal) (msC V)) (win1_0.xinj (grid1.coords t) y) = msC V ((win1_0.blk t).view.emb y) :=
    fun y => win1_0.fill_xinj _ _ _ y
  constructor
  · funext y
    have en : ((win1_2.blk t).view.emb y 0).val = 512 * (grid1.coords t 0).val + (win1_2.xinj (grid1.coords t) y 0).val := by
      blk_simp [i2]; simp; omega
    refine (rank_at _ _ _ (win1_2.xinj (grid1.coords t) y)).trans (congrArg (BitVec.ofNat 32) ?_)
    exact congrArg₂ (fun x n => before x (fun k => msR V (ValueIdx.ix2 0 k)) n) (val y) en.symm
  · funext y
    exact (word_at _ (win1_3.xinj (grid1.coords t) y)).trans (congrArg above (val y))

theorem obligation (c : Dev nD) : BodyObligationLoose (dat V c) (defs₀ (F := Ideal)) 𝒱₀ none Set.univ := fun t => by
  rw [bigSep_W1, bigSep_W1]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩⟩
  rw [before_0 V c t d0, before_1 V c t d1, before_2 V c t d2, before_3 V c t d3]
  obtain ⟨e2, e3⟩ := slots_eq t
  obtain ⟨p2, p3⟩ := pay_cut V t d0
  iapply (body c Set.univ (grid1.coords t) (cfg1.slots t 0) (cfg1.slots t 1) (cfg1.slots t 2) (cfg1.slots t 3) e2 e3
    (win1_0.fill (grid1.coords t) d0 ((win1_0.blk t).view.read (Elt Ideal) (msC V))) (msR V) d2 d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have a0 : win1_0.fill (grid1.coords t) d0 (win1_0.cut (grid1.coords t) ((dat V c).after (0 : Fin 4) t))
      = win1_0.fill (grid1.coords t) d0 ((win1_0.blk t).view.read (Elt Ideal) (msC V)) :=
    congrArg (win1_0.fill (grid1.coords t) d0) (win1_0.cut_fill _ _ _)
  have a2 : win1_2.fill (grid1.coords t) (k1_pay2 (F := Ideal) (grid1.coords t) (win1_0.fill (grid1.coords t) d0 ((win1_0.blk t).view.read (Elt Ideal) (msC V))) (msR V))
        (win1_2.cut (grid1.coords t) ((dat V c).after (2 : Fin 4) t))
      = k1_pay2 (F := Ideal) (grid1.coords t) (win1_0.fill (grid1.coords t) d0 ((win1_0.blk t).view.read (Elt Ideal) (msC V))) (msR V) :=
    win1_2.fill_congr_cut _ (p2.trans (win1_2.cut_fill _ _ _).symm)
  have a3 : win1_3.fill (grid1.coords t) (k1_pay3 (F := Ideal) (win1_0.fill (grid1.coords t) d0 ((win1_0.blk t).view.read (Elt Ideal) (msC V))))
        (win1_3.cut (grid1.coords t) ((dat V c).after (3 : Fin 4) t))
      = k1_pay3 (F := Ideal) (win1_0.fill (grid1.coords t) d0 ((win1_0.blk t).view.read (Elt Ideal) (msC V))) :=
    win1_3.fill_congr_cut _ (p3.trans (win1_3.cut_fill _ _ _).symm)
  isplitl [H0]
  · iexists d0
    change _ ⊢ owns (c : Thread nD τ) (stage1_0 (cfg1.slots t 0)) fullShare (win1_0.fill (grid1.coords t) d0 (win1_0.cut (grid1.coords t) ((dat V c).after (0 : Fin 4) t)))
    rw [a0]; try iexact H0
  isplitl [H1]
  · iexact H1
  isplitl [H2]
  · iexists k1_pay2 (F := Ideal) (grid1.coords t) (win1_0.fill (grid1.coords t) d0 ((win1_0.blk t).view.read (Elt Ideal) (msC V))) (msR V)
    change _ ⊢ owns (c : Thread nD τ) (stage1_2 (cfg1.slots t 2)) fullShare (win1_2.fill (grid1.coords t) _ (win1_2.cut (grid1.coords t) ((dat V c).after (2 : Fin 4) t)))
    rw [a2]; try iexact H2
  · iexists k1_pay3 (F := Ideal) (win1_0.fill (grid1.coords t) d0 ((win1_0.blk t).view.read (Elt Ideal) (msC V)))
    change _ ⊢ owns (c : Thread nD τ) (stage1_3 (cfg1.slots t 3)) fullShare (win1_3.fill (grid1.coords t) _ (win1_3.cut (grid1.coords t) ((dat V c).after (3 : Fin 4) t)))
    rw [a3]; try iexact H3

/-- The arrays it leaves. -/
theorem final_ranks (c : Dev nD) : (dat V c).arrAt (2 : Fin 4) cfg1.N = ranks V := by
  refine (dat V c).arrAt_eq_of_covers (2 : Fin 4) (ranks V) (by decide +kernel) fun t hf y => ?_
  exact (win1_2.fill_xinj (grid1.coords t) (fun _ => (0#32 : BitVec 32)) ((win1_2.blk t).view.read (Elt Ideal) (ranks V)) y :)

theorem final_words (c : Dev nD) : (dat V c).arrAt (3 : Fin 4) cfg1.N = words V := by
  refine (dat V c).arrAt_eq_of_covers (3 : Fin 4) (words V) (by decide +kernel) fun t hf y => ?_
  exact (win1_3.fill_xinj (grid1.coords t) (fun _ => (0#32 : BitVec 32)) ((win1_3.blk t).view.read (Elt Ideal) (words V)) y :)

end Cert.Proof.Rank

end
-- ==== Proof.Main.lean ====
/-
  The kernel's run: @main's host operations, the two grid kernels, the SparseCore call, the cut. `run_main` gives every unscoped
  array of the TensorCore its contents at the end, `V7`.
-/
module

public import proofs.«01_k».proof.Proof.Host
public import proofs.«01_k».proof.Proof.TileBody
public import proofs.«01_k».proof.Proof.Sim
public import proofs.«01_k».proof.Proof.Rank

@[expose] public section

noncomputable section

namespace Cert.Proof.Main

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Proof.Launch Cert.Proof.Region Cert.Proof.Greedy

local notation "𝕄" => MT nD τ sig (HIx 1) (Elt Ideal) ℕ UU ℕ
local notation "ℙ" => pin (pcfgs (F := Ideal)) adm

variable (m : (ℓ : Loc nD τ sig) → Buf (Elt Ideal) ℓ) (ρ : Dev nD → PrngReg)

/-! ## The contents, stage by stage -/

def V0 (d : Dev nD) : Valuation τ sig (Elt Ideal) := fun b => m (d, b)
def V1 (d : Dev nD) : Valuation τ sig (Elt Ideal) := StableHlo.after (Host.before (F := Ideal)) (V0 m d)
def V2 (d : Dev nD) : Valuation τ sig (Elt Ideal) := afterRegion (Sim.dat (V1 m d) d) (V1 m d)
def V3 (d : Dev nD) : Valuation τ sig (Elt Ideal) := StableHlo.after (Host.column (F := Ideal)) (V2 m d)
def V4 (d : Dev nD) : Valuation τ sig (Elt Ideal) := afterRegion (Rank.dat (V3 m d) d) (V3 m d)
def V5 (d : Dev nD) : Valuation τ sig (Elt Ideal) := StableHlo.after (Host.pads (F := Ideal)) (V4 m d)

/-- The SparseCores' operands. -/
def R (d : Dev nD) : Words := V5 m d (Proc.devRef .tc main_v99)
def M (d : Dev nD) : Words := V5 m d (Proc.devRef .tc main_v102)
def H (d : Dev nD) : Words := V5 m d (Proc.devRef .tc main_v105)

def V6 (d : Dev nD) : Valuation τ sig (Elt Ideal) := Function.update (V5 m d) (Proc.devRef .tc main_v106) (matched (R m d) (M m d) (H m d))
def V7 (d : Dev nD) : Valuation τ sig (Elt Ideal) := StableHlo.after (Host.result (F := Ideal)) (V6 m d)

/-- The two grid kernels' data. -/
def pdats : (p : Fin 2) → (c : Dev nD) → Dat τ (Elt Ideal) (HIx 1) ℕ UU ℕ (ℙ p) c := fun p c =>
  match p with
  | ⟨0, _⟩ => Sim.dat (V1 m c) c
  | ⟨1, _⟩ => Rank.dat (V3 m c) c

theorem call0 (c : Dev nD) {α : Type} (k : PUnit → Prog (TpuEff nD τ sig (Elt Ideal) (SparseCore.Sig (ΛP (F := Ideal)) 1) .tc) α) (Q : α → sProp 𝕄) :
    iprop((iprop(boundary (T c) ∗ StableHlo.held (T c) (ucRefs τ sig) (V2 m c) ∗ debt (F := Ideal) c)
          -∗ wp frame (wpE ((K (F := Ideal)).defs (D (F := Ideal))) 𝒱 (T c) none) Set.univ (k ⟨⟩) Q)
        ∗ boundary (T c) ∗ StableHlo.held (T c) (ucRefs τ sig) (V1 m c) ∗ debt (F := Ideal) c ∗ levAts (K (F := Ideal)).L (K (F := Ideal)).lev
        ∗ cellsGhost ℙ EP 0 c ∗ toksInit ℙ EP 0 c)
      ⊢ wp frame (wpE ((K (F := Ideal)).defs (D (F := Ideal))) 𝒱 (T c) none) Set.univ
          (Prog.lift (.customCall (SparseCore.inner (Pipeline.entry 0)) ()) >>= k) Q :=
  wp_region (pdats m) 0 launch0.toP (fun c => Sim.obligation (V1 m c) c) (fun _ _ => rfl) (fun _ _ => rfl)
    (fun c => (Sim.dat (V1 m c) c).share_full fun _ => rfl) (fun _ _ => rfl)
    (arrRefs_sub_ucRefs spec0 winFacts0.arr_unscoped) (V1 m) (fun _ _ => rfl) rfl c k Q

theorem call1 (c : Dev nD) {α : Type} (k : PUnit → Prog (TpuEff nD τ sig (Elt Ideal) (SparseCore.Sig (ΛP (F := Ideal)) 1) .tc) α) (Q : α → sProp 𝕄) :
    iprop((iprop(boundary (T c) ∗ StableHlo.held (T c) (ucRefs τ sig) (V4 m c) ∗ debt (F := Ideal) c)
          -∗ wp frame (wpE ((K (F := Ideal)).defs (D (F := Ideal))) 𝒱 (T c) none) Set.univ (k ⟨⟩) Q)
        ∗ boundary (T c) ∗ StableHlo.held (T c) (ucRefs τ sig) (V3 m c) ∗ debt (F := Ideal) c ∗ levAts (K (F := Ideal)).L (K (F := Ideal)).lev
        ∗ cellsGhost ℙ EP 1 c ∗ toksInit ℙ EP 1 c)
      ⊢ wp frame (wpE ((K (F := Ideal)).defs (D (F := Ideal))) 𝒱 (T c) none) Set.univ
          (Prog.lift (.customCall (SparseCore.inner (Pipeline.entry 1)) ()) >>= k) Q :=
  wp_region (pdats m) 1 launch1.toP (fun c => Rank.obligation (V3 m c) c) (fun _ _ => rfl) (fun _ _ => rfl)
    (fun c => (Rank.dat (V3 m c) c).share_full fun _ => rfl) (fun _ _ => rfl)
    (arrRefs_sub_ucRefs spec1 winFacts1.arr_unscoped) (V3 m) (fun _ _ => rfl) rfl c k Q

/-! ## The launch element: the handshakes' rounds and the pipelines' -/

def u₀ : UU := (initOf (K (F := Ideal)).hsCells (K (F := Ideal)).hsToks,
  (initOf (Pipeline.cells (nD := nD) (τ := τ) ℙ cellOf_inj) (Pipeline.launchToks (nD := nD) (τ := τ) ℙ cellOf_inj), 1))

/-- What @main has for its two pipelines. -/
def G (d : Dev nD) : sProp 𝕄 := iprop((bigSep Finset.univ fun p : Fin 2 => cellsGhost ℙ EP p d) ∗ bigSep Finset.univ fun p : Fin 2 => toksInit ℙ EP p d)

theorem hu₀ : (ownU (u₀) : sProp 𝕄)
    ⊢ |={Set.univ}=> iprop(BI.own (EH (initOf (K (F := Ideal)).hsCells (K (F := Ideal)).hsToks)) ∗ (bigSep Finset.univ fun d : Dev nD => G d)
        ∗ bigSep Finset.univ fun thr : Thread nD τ => bigSep Finset.univ fun q : Fin 1 => (P (F := Ideal) (R m) (M m) (H m)).x q thr) := by
  unfold u₀
  iintro Hu
  ihave H := (ownU_pair _ _) $$ Hu
  icases H with ⟨HH, HB⟩
  ihave H2 := (own_pair_emb embR _ _) $$ HB
  icases H2 with ⟨HP, -⟩
  imod (fund_ghost (nD := nD) (τ := τ) ℙ EP cellOf_inj) $$ [HP] with ⟨Hg, Ht⟩
  · iexact HP
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore call -/

abbrev r' : DevRef τ sig := Proc.devRef .tc (main_v99 : Ref sig .tc)
abbrev m' : DevRef τ sig := Proc.devRef .tc (main_v102 : Ref sig .tc)
abbrev h' : DevRef τ sig := Proc.devRef .tc (main_v105 : Ref sig .tc)
abbrev o' : DevRef τ sig := Proc.devRef .tc (main_v106 : Ref sig .tc)

/-- The call's four arrays. -/
abbrev S4 : Finset (DevRef τ sig) := {r', m', h', o'}

theorem S4_sub : S4 ⊆ ucRefs τ sig := by
  intro b hb
  simp only [S4, Finset.mem_insert, Finset.mem_singleton] at hb
  rcases hb with rfl | rfl | rfl | rfl <;> exact Finset.mem_filter.mpr ⟨StableHlo.devRef_mem_tcRefs _, by decide⟩

theorem held_S4 (d : Dev nD) (W : Valuation τ sig (Elt Ideal)) :
    (StableHlo.held (T d) S4 W : sProp 𝕄) = iprop((rLoc d ↦{fullShare} W r') ∗ (mLoc d ↦{fullShare} W m') ∗ (hLoc d ↦{fullShare} W h') ∗ oLoc d ↦{fullShare} W o') := by
  unfold StableHlo.held S4
  rw [SparseCore.bigSep_insert' (by decide), SparseCore.bigSep_insert' (by decide), SparseCore.bigSep_insert' (by decide), bigSep_singleton]

theorem V6_of_ne (d : Dev nD) {b : DevRef τ sig} (h : b ≠ o') : V6 m d b = V5 m d b := Function.update_of_ne h _ _
theorem V6_o (d : Dev nD) : V6 m d o' = matched (R m d) (M m d) (H m d) := Function.update_self _ _ _

theorem give (d : Dev nD) : (StableHlo.held (T d) S4 (V5 m d) : sProp 𝕄) ⊢ take (F := Ideal) (R m) (M m) (H m) d := by
  rw [held_S4]
  iintro ⟨Hr, Hm, Hh, Ho⟩
  isplitl [Hr Hm Hh]
  · isplitl [Hr]; · iexact Hr
    isplitl [Hm]; · iexact Hm
    iexact Hh
  iexists _; iexact Ho

theorem get (d : Dev nD) : (bring (F := Ideal) (R m) (M m) (H m) d : sProp 𝕄) ⊢ StableHlo.held (T d) S4 (V6 m d) := by
  rw [held_S4, V6_o, V6_of_ne m d (b := r') (by decide), V6_of_ne m d (b := m') (by decide), V6_of_ne m d (b := h') (by decide)]
  iintro ⟨⟨Hr, Hm, Hh⟩, Ho⟩
  isplitl [Hr]; · iexact Hr
  isplitl [Hm]; · iexact Hm
  isplitl [Hh]; · iexact Hh
  iexact Ho

theorem rest_eq (d : Dev nD) : (StableHlo.held (T d) (ucRefs τ sig \ S4) (V5 m d) : sProp 𝕄) = StableHlo.held (T d) (ucRefs τ sig \ S4) (V6 m d) :=
  StableHlo.held_congr _ fun b hb => (V6_of_ne m d (fun h => (Finset.mem_sdiff.mp hb).2 (by rw [h]; simp [S4]))).symm

theorem scCall (κ : GSem nD τ sig → ℕ) (d : Dev nD) (Φ : PUnit → sProp 𝕄) :
    iprop((K (F := Ideal)).ctx EH (P (R m) (M m) (H m)) κ ∗ (K (F := Ideal)).tcSt EH d 0 ∗ StableHlo.held (T d) (ucRefs τ sig) (V5 m d)
        ∗ (iprop((K (F := Ideal)).tcSt EH d 1 ∗ StableHlo.held (T d) (ucRefs τ sig) (V6 m d)) -∗ Φ ⟨⟩))
      ⊢ wp frame (wpE ((K (F := Ideal)).defs (D (F := Ideal))) 𝒱 (T d) none) Set.univ ((K (F := Ideal)).run d 0) Φ := by
  rw [StableHlo.held_sub_split _ S4_sub (V5 m d), StableHlo.held_sub_split _ S4_sub (V6 m d), ← rest_eq m d]
  iintro ⟨Hctx, Hst, ⟨H4, Hr⟩, Hk⟩
  iapply ((K (F := Ideal)).wp_run (D (F := Ideal)) 𝒱 (EH := EH) (P := P (R m) (M m) (H m)) κ d 0) $$ [Hctx Hst H4 Hr Hk]
  isplitl [Hctx]; · iexact Hctx
  isplitl [Hst]; · iexact Hst
  isplitl [H4]
  · rw [st_eq]; iapply (give m d); iexact H4
  iintro ⟨Hst, Hdn⟩
  iapply Hk
  isplitl [Hst]; · iexact Hst
  isplitl [Hdn]
  · ihave Hdn := (Entails.of_eq (dn_eq (F := Ideal) (R m) (M m) (H m) d)) $$ Hdn
    iapply (get m d); iexact Hdn
  iexact Hr

/-! ## @main -/

/-- What @main leaves the claim: the unscoped arrays at their contents. -/
abbrev FIN (d : Dev nD) : sProp 𝕄 := StableHlo.held (T d) (ucRefs τ sig) (V7 m d)

/-- The TensorCore's state before the call: what it owes, and the rest. -/
theorem tcSt_split (d : Dev nD) : ∃ X : sProp 𝕄, (K (F := Ideal)).tcSt EH d 0 = iprop(debt (F := Ideal) d ∗ X) := ⟨_, rfl⟩

theorem G_eq (d : Dev nD) : G d = iprop((cellsGhost ℙ EP 0 d ∗ cellsGhost ℙ EP 1 d) ∗ (toksInit ℙ EP 0 d ∗ toksInit ℙ EP 1 d)) := by
  unfold G
  rw [show (Finset.univ : Finset (Fin 2)) = {0, 1} by decide, SparseCore.bigSep_insert' (by decide), bigSep_singleton, SparseCore.bigSep_insert' (by decide), bigSep_singleton]

theorem sub_of {l : List (HloOp τ sig (Elt Ideal))} (h : ∀ op ∈ l, Host.Plain op) : ∀ op ∈ l, op.bufs ⊆ ucRefs τ sig :=
  fun op ho => sub_ucRefs op (h op ho).1

theorem hmain (κ : GSem nD τ sig → ℕ) (d : Dev nD) :
    iprop((K (F := Ideal)).ctx EH (P (R m) (M m) (H m)) κ ∗ (K (F := Ideal)).tcSt EH d 0 ∗ (K (F := Ideal)).tcRes m ρ d ∗ G d)
      ⊢ wp frame (wpE ((K (F := Ideal)).defs (D (F := Ideal))) 𝒱 (T d) none) Set.univ (main d)
          fun _ => iprop((K (F := Ideal)).tcSt EH d 1 ∗ FIN m d ∗ (K (F := Ideal)).tcEnd d) := by
  obtain ⟨X, tcSt_eq⟩ := tcSt_split d
  unfold SparseCore.Cfg.tcRes SparseCore.Cfg.tcEnd
  rw [show unscopedBufs d (fun b => m ((SparseCore.T d).loc b)) = (StableHlo.held d.tc (ucRefs τ sig) (V0 m d) : sProp 𝕄) from unscopedBufs_held d (V0 m d),
    Host.main_eq, tcSt_eq, G_eq]
  iintro ⟨#Hctx, ⟨Hd, Hst⟩, ⟨Hb, Hh, Hts, -⟩, ⟨⟨Hc0, Hc1⟩, Ht0, Ht1⟩⟩
  iapply (StableHlo.wp_seq 𝒱 none Set.univ d (ucRefs τ sig) _ Host.before (sub_of Host.plain_before) (fun op ho => (Host.plain_before op ho).2) (V0 m d)) $$ [Hb Hh]
  · isplitl [Hb] <;> iassumption
  iintro ⟨Hb, Hh⟩
  ihave #Hlev := ((K (F := Ideal)).ctx_levAts κ) $$ Hctx
  iapply (call0 m d) $$ [Hctx Hd Hst Hb Hh Hts Hc0 Hc1 Ht0 Ht1]
  isplitr [Hb Hh Hd Hc0 Ht0]
  swap
  · isplitl [Hb]; · iexact Hb
    isplitl [Hh]; · iexact Hh
    isplitl [Hd]; · iexact Hd
    isplitr; · iexact Hlev
    isplitl [Hc0] <;> iassumption
  iintro ⟨Hb, Hh, Hd⟩
  iapply (StableHlo.wp_seq 𝒱 none Set.univ d (ucRefs τ sig) _ Host.column (sub_of (List.forall_iff_forall_mem.mp Host.plain_column)) (fun op ho => (List.forall_iff_forall_mem.mp Host.plain_column op ho).2) (V2 m d)) $$ [Hb Hh]
  · isplitl [Hb] <;> iassumption
  iintro ⟨Hb, Hh⟩
  iapply (call1 m d) $$ [Hctx Hd Hst Hb Hh Hts Hc1 Ht1]
  isplitr [Hb Hh Hd Hc1 Ht1]
  swap
  · isplitl [Hb]; · iexact Hb
    isplitl [Hh]; · iexact Hh
    isplitl [Hd]; · iexact Hd
    isplitr; · iexact Hlev
    isplitl [Hc1] <;> iassumption
  iintro ⟨Hb, Hh, Hd⟩
  iapply (StableHlo.wp_seq 𝒱 none Set.univ d (ucRefs τ sig) _ Host.pads (sub_of (List.forall_iff_forall_mem.mp Host.plain_pads)) (fun op ho => (List.forall_iff_forall_mem.mp Host.plain_pads op ho).2) (V4 m d)) $$ [Hb Hh]
  · isplitl [Hb] <;> iassumption
  iintro ⟨Hb, Hh⟩
  rw [wp_bind]
  iapply (scCall m κ d) $$ [Hctx Hd Hst Hb Hh Hts]
  isplitr; · iexact Hctx
  isplitl [Hd Hst]
  · rw [tcSt_eq]; isplitl [Hd] <;> iassumption
  isplitl [Hh]; · iexact Hh
  iintro ⟨Hst, Hh⟩
  rw [← bind_pure (StableHlo.seq Host.result)]
  iapply (StableHlo.wp_seq 𝒱 none Set.univ d (ucRefs τ sig) _ Host.result (sub_of (List.forall_iff_forall_mem.mp Host.plain_result)) (fun op ho => (List.forall_iff_forall_mem.mp Host.plain_result op ho).2) (V6 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

def fq (d : Dev nD) (s' : Phys nD τ sig (Elt Ideal)) : Prop := ∀ b ∈ ucRefs τ sig, s'.mem.mem (d, b) = V7 m d b

theorem hfin (d : Dev nD) (s' : Phys nD τ sig (Elt Ideal)) : iprop(FIN m d ∗ SI s') ⊢ (⌜fq m d s'⌝ : sProp 𝕄) :=
  (pointsTo_read_all (ucRefs τ sig) (fun b : DevRef τ sig => ((d, b) : Loc nD τ sig)) (fun b => V7 m d b) s').trans sep_elim_left

/-- The run, from any memory whose ranks, columns and threshold words come out in order. -/
theorem run_main (hok : ∀ d, Ok (R m d) (M m d) (H m d)) :
    θ_run (defs (F := Ideal)) (threads (F := Ideal)) ⟨m, fun _ => 0, ρ⟩
      (fun r => (∀ c : Dev nD, ∀ b ∈ ucRefs τ sig, r.2.mem (c, b) = V7 m c b) ∧ r.2.sem = fun _ => 0) :=
  SparseCore.Cfg.θ_run_sc_quiescent (K := K (F := Ideal)) (D := D (F := Ideal)) (𝒱 := 𝒱) (EH := EH) (P := P (R m) (M m) (H m)) (A := ∅) facts v₀
    (fun q hq => match q with | 0 => nomatch hq)
    (fun q _ => match q with | 0 => TileBody.tileObl (R m) (M m) (H m) hok)
    (fun q _ => match q with | 0 => SparseCore.Cfg.VecSplit.of_plain (vecSplit (R m) (M m) (H m)))
    m ρ main G (FIN m) u₀ (sep_elim_left.trans (hu₀ m)) (hmain m ρ) (fq m) (hfin m) _ (fun _ h hz => ⟨h, hz⟩)

end Cert.Proof.Main

end
-- ==== Proof.Value.lean ====
/-
  What the kernel's run leaves in its results, by the similarities of the encoded vectors.
-/
module

public import proofs.«01_k».proof.Proof.Main
public import proofs.«01_k».proof.Proof.Order
public import Idealize.ShloMosaic.Lib.StableHlo.RunRead

@[expose] public section

noncomputable section

namespace Cert.Proof.Value

open Cert.KernelIdeal Cert.KernelIdeal.Gen
open Idealize.ShloMosaic Idealize.ShloMosaic.ValueIdx
open Idealize.ShloMosaic.Pipeline
open Cert.Proof.Main Cert.Proof.Order Cert.Proof.Pay Cert.Proof.Greedy

variable (m : (ℓ : Loc nD τ sig) → Buf (Elt Ideal) ℓ) (d : Dev nD)

/-- The similarities. -/
def sim : Fin 5000 → Fin 5000 → EReal := Sim.simF (Sim.ra (V1 m d)) (Sim.ia (V1 m d)) (Sim.rb (V1 m d)) (Sim.ib (V1 m d))

theorem V2_sims : V2 m d (Proc.devRef .tc main_v92_0) = Sim.sims (V1 m d) :=
  (afterRegion_arr (Sim.dat (V1 m d) d) (V1 m d) winFacts0.arr_inj (4 : Fin 7)).trans (Sim.final_sims (V1 m d) d)
theorem V2_tops : V2 m d (Proc.devRef .tc main_v92_1) = Sim.tops (V1 m d) :=
  (afterRegion_arr (Sim.dat (V1 m d) d) (V1 m d) winFacts0.arr_inj (5 : Fin 7)).trans (Sim.final_tops (V1 m d) d)
theorem V2_cols : V2 m d (Proc.devRef .tc main_v92_2) = Sim.cols (V1 m d) :=
  (afterRegion_arr (Sim.dat (V1 m d) d) (V1 m d) winFacts0.arr_inj (6 : Fin 7)).trans (Sim.final_cols (V1 m d) d)

theorem V3_keeps {b : Ref sig .tc} (h : b ≠ main_v93) : V3 m d (Proc.devRef .tc b) = V2 m d (Proc.devRef .tc b) :=
  StableHlo.after_unwritten [main_v93] rfl (by simpa using h) _

theorem V3_row : V3 m d (Proc.devRef .tc main_v93) = shapeCast S1x5000 (Sim.tops (V1 m d)) shapeCasts_S5000x1_S1x5000 := by
  unfold V3
  after_reads_simp
  rw [V2_tops]
  rfl

theorem V4_ranks : V4 m d (Proc.devRef .tc main_v94_0) = Rank.ranks (V3 m d) :=
  (afterRegion_arr (Rank.dat (V3 m d) d) (V3 m d) winFacts1.arr_inj (2 : Fin 4)).trans (Rank.final_ranks (V3 m d) d)
theorem V4_words : V4 m d (Proc.devRef .tc main_v94_1) = Rank.words (V3 m d) :=
  (afterRegion_arr (Rank.dat (V3 m d) d) (V3 m d) winFacts1.arr_inj (3 : Fin 4)).trans (Rank.final_words (V3 m d) d)
theorem V4_keeps {b : Ref sig .tc} (h : ∀ w, b ≠ arrRef spec1 w) : V4 m d (Proc.devRef .tc b) = V3 m d (Proc.devRef .tc b) :=
  afterRegion_of_not_arr (Rank.dat (V3 m d) d) (V3 m d) h

theorem msC_at (i : S5000x1.Idx) : Rank.msC (V3 m d) i = top (sim m d (i 0)) := by
  unfold Rank.msC
  rw [V3_keeps m d (by decide), V2_tops]
  exact Sim.tops_at _ i

theorem msR_at (k : Fin 5000) : Rank.msR (V3 m d) (ValueIdx.ix2 0 k) = top (sim m d k) := by
  unfold Rank.msR
  rw [V3_row]
  refine (shapeCast_apply _ _ _ (ValueIdx.ix2 k 0) (by rw [Shape.rowMajor_val_two, Shape.rowMajor_val_two]; simp)).trans ?_
  exact Sim.tops_at _ _

theorem ranks_at (i : S5000x1.Idx) : Rank.ranks (V3 m d) i = BitVec.ofNat 32 (rk (sim m d) (i 0)) := by
  unfold Rank.ranks rk
  rw [msC_at, show (fun k => Rank.msR (V3 m d) (ValueIdx.ix2 0 k)) = fun k => top (sim m d k) from funext (msR_at m d)]

theorem words_at (i : S5000x1.Idx) : Rank.words (V3 m d) i = above (top (sim m d (i 0))) := by
  unfold Rank.words
  rw [msC_at]

/-! ## The padded words -/

theorem flat {α : Type} (x : S5000x1.Idx → α) (k : Fin 5000) : shapeCast S5000 x shapeCasts_S5000x1_S5000 (ValueIdx.ix1 k) = x (ValueIdx.ix2 k 0) :=
  shapeCast_apply _ _ _ _ (by rw [Shape.rowMajor_val_one, Shape.rowMajor_val_two]; simp)

theorem padded (x : S5000.Idx → BitVec 32) (y : S120.Idx → BitVec 32) (i : S5120.Idx) :
    Host.padWith x y i
      = if h : (i 0).val < 5000 then x (ValueIdx.ix1 ⟨(i 0).val, h⟩) else y (ValueIdx.ix1 ⟨(i 0).val - 5000, by have := idx_lt i; omega⟩) := by
  have hi := idx_lt i
  unfold Host.padWith
  split
  · exact concatenate_pair_apply_left 0 x y _ i rfl _ fun b => by obtain rfl : b = 0 := Subsingleton.elim _ _; rfl
  · refine concatenate_pair_apply_right 0 x y _ i rfl rfl _ (fun b hb => absurd (Subsingleton.elim _ _) hb) ?_
    show (i 0).val - 5000 + 5000 = (i 0).val
    omega

theorem R_eq : R m d = pRank (sim m d) := by
  have h : R m d = Host.padWith (shapeCast S5000 (Rank.ranks (V3 m d)) shapeCasts_S5000x1_S5000)
      (addi (broadcastInDim S120 ![] bcast_S_S120 (constantI S_ 32 5000#32)) (iotaInDim S120 32 0)) := by
    unfold R V5
    after_reads_simp
    rw [V4_ranks]
    rfl
  funext i
  have hi := idx_lt i
  rw [h, padded]
  unfold pRank
  by_cases hl : (i 0).val < 5000
  · rw [dif_pos hl, dif_pos hl, flat, ranks_at]
  · rw [dif_neg hl, dif_neg hl]
    show 5000#32 + BitVec.ofNat 32 ((i 0).val - 5000) = BitVec.ofNat 32 (i 0).val
    apply BitVec.eq_of_toNat_eq
    simp only [BitVec.toNat_add, BitVec.toNat_ofNat]
    omega

theorem M_eq : Main.M m d = pCol (sim m d) := by
  have h : Main.M m d = Host.padWith (shapeCast S5000 (Sim.cols (V1 m d)) shapeCasts_S5000x1_S5000)
      (broadcastInDim S120 ![] bcast_S_S120 (constantI S_ 32 0#32)) := by
    unfold Main.M V5
    after_reads_simp
    rw [V4_keeps m d (by decide), V3_keeps m d (by decide), V2_cols]
    rfl
  funext i
  rw [h, padded]
  unfold pCol
  by_cases hl : (i 0).val < 5000
  · rw [dif_pos hl, dif_pos hl, flat]; rfl
  · rw [dif_neg hl, dif_neg hl]; rfl

theorem H_eq : H m d = pThr (sim m d) := by
  have h : H m d = Host.padWith (shapeCast S5000 (Rank.words (V3 m d)) shapeCasts_S5000x1_S5000)
      (broadcastInDim S120 ![] bcast_S_S120 (constantI S_ 32 0#32)) := by
    unfold H V5
    after_reads_simp
    rw [V4_words]
    rfl
  funext i
  rw [h, padded]
  unfold pThr
  by_cases hl : (i 0).val < 5000
  · rw [dif_pos hl, dif_pos hl, flat, words_at]
  · rw [dif_neg hl, dif_neg hl]; rfl

theorem hok (d : Dev nD) : Ok (R m d) (Main.M m d) (H m d) := by
  rw [R_eq, M_eq, H_eq]; exact ok _

/-! ## The results -/

theorem matches_eq : V7 m d (Proc.devRef .tc main_v107) = (fun i : S5000.Idx => match' (sim m d) (i 0)) := by
  have h : V7 m d (Proc.devRef .tc main_v107) = extractStridedSlice S5000 ![0] (matched (R m d) (Main.M m d) (H m d)) slices_S5120_S5000_0 := by
    unfold V7
    after_reads_simp
    rw [V6_o]
  rw [h, R_eq, M_eq, H_eq]
  funext i
  refine Eq.trans ?_ (matched_row (sim m d) (i 0))
  exact congrArg (matched _ _ _) (idx_ext (by simp [ix]))

/-- What the padding operations write. -/
abbrev padsW : List (Ref sig .tc) :=
  [main_v95, main_v96, main_c, main_v97, main_v98, main_v99, main_v100, main_c_23, main_v101, main_v102, main_v103, main_c_24, main_v104, main_v105]

theorem V7_keeps {b : Ref sig .tc} (h : b ∉ padsW) (h1 : b ≠ main_v106) (h2 : b ≠ main_v107)
    (h3 : ∀ w, b ≠ arrRef spec1 w) (h4 : b ≠ main_v93) : V7 m d (Proc.devRef .tc b) = V2 m d (Proc.devRef .tc b) := by
  unfold V7
  rw [StableHlo.after_unwritten [main_v107] rfl (by simpa using h2), V6_of_ne m d (fun e => h1 (Proc.devRef_injective _ e))]
  unfold V5
  rw [StableHlo.after_unwritten padsW rfl h, V4_keeps m d h3, V3_keeps m d h4]

end Cert.Proof.Value

end
-- ==== Proof.Frames.lean ====
/-
  Both programs leave the arguments as they found them and every semaphore at zero.
-/
module

public import proofs.«01_k».proof.Proof.Value
public import proofs.«01_k».proof.Proof.RefRun
public import proofs.«01_k».proof.Defs

@[expose] public section

noncomputable section

namespace Cert.Proof.Frames

open Cert.KernelIdeal Cert.KernelIdeal.Gen
open Idealize.ShloMosaic Idealize.ShloMosaic.StableHlo
open Idealize.ShloMosaic.TcCoe
open Cert.Proof.Main Cert.Proof.Value

/-- The kernel's arguments. -/
def args : List (Ref sig .tc) := [main_arg0, main_arg1, main_arg2, main_arg3, main_arg4, main_arg5, main_arg6, main_arg7, main_arg8, main_arg9]

set_option maxRecDepth 100000 in
set_option maxHeartbeats 4000000 in
theorem before_keeps : ∀ l ∈ (Host.pieces (F := Ideal)), ∀ op ∈ l, ∀ a ∈ args, (Proc.devRef .tc a : DevRef τ sig) ∉ op.writes := by
  refine List.forall_iff_forall_mem.mp ?_
  refine ⟨?_, ?_, ?_, ?_, ?_, ?_, ?_, ?_, ?_, ?_, ?_, ?_, ?_, ?_, ?_, ?_, ?_, ?_, ?_⟩ <;> decide

variable (m : (ℓ : Loc nD τ sig) → Buf (Elt Ideal) ℓ) (ρ : Dev nD → PrngReg)

theorem kept {a : Ref sig .tc} (h : a ∈ args) (d : Dev nD) : V7 m d (Proc.devRef .tc a) = m ((d.tc : Thread nD τ).loc a) := by
  rw [V7_keeps m d ((by decide : ∀ a ∈ args, a ∉ padsW) a h) ((by decide : ∀ a ∈ args, a ≠ main_v106) a h) ((by decide : ∀ a ∈ args, a ≠ main_v107) a h)
    ((by decide : ∀ a ∈ args, ∀ w, a ≠ Pipeline.arrRef spec1 w) a h) ((by decide : ∀ a ∈ args, a ≠ main_v93) a h)]
  unfold V2
  rw [Pipeline.afterRegion_of_not_arr _ _ ((by decide : ∀ a ∈ args, ∀ w, a ≠ Pipeline.arrRef spec0 w) a h)]
  exact after_of_forall_not_mem _ _ fun op hop => by
    obtain ⟨l, hl, hop⟩ := List.mem_flatten.1 hop
    exact before_keeps l hl op hop a h

theorem held {b : Ref sig .tc} (h : ¬ (Proc.devRef .tc b : DevRef τ sig).isScoped = true) : (Proc.devRef .tc b : DevRef τ sig) ∈ Pipeline.ucRefs τ sig :=
  Finset.mem_filter.mpr ⟨devRef_mem_tcRefs _, h⟩

theorem run : θ_run (defs (F := Ideal)) (threads (F := Ideal)) ⟨m, fun _ => 0, ρ⟩
    (fun r => (∀ c : Dev nD, r.2.mem ((c.tc : Thread nD τ).loc main_v107) = V7 m c (Proc.devRef .tc main_v107)
      ∧ r.2.mem ((c.tc : Thread nD τ).loc main_v92_0) = V7 m c (Proc.devRef .tc main_v92_0)
      ∧ ∀ a ∈ args, r.2.mem ((c.tc : Thread nD τ).loc a) = m ((c.tc : Thread nD τ).loc a)) ∧ r.2.sem = fun _ => 0) := by
  refine θ_run_mono (run_main m ρ (hok m)) ?_
  intro r h
  refine ⟨fun c => ⟨h.1 c _ (held (b := main_v107) (by decide)), h.1 c _ (held (b := main_v92_0) (by decide)), fun a ha => ?_⟩, h.2⟩
  exact (h.1 c _ (held ((by decide : ∀ a ∈ args, ¬ (Proc.devRef .tc a : DevRef τ sig).isScoped = true) a ha))).trans (kept m ha c)

theorem quiescent_KernelIdeal : Cert.quiescent_KernelIdeal (hKernelIdeal := Cert.KernelIdeal.Gen.facts) := by
  intro m g _
  refine θ_run_mono (run m g) ?_
  intro r h
  refine ⟨fun c => ?_, h.2⟩
  have ha := (h.1 c).2.2
  exact ⟨ha _ (by decide), ha _ (by decide), ha _ (by decide), ha _ (by decide), ha _ (by decide), ha _ (by decide), ha _ (by decide), ha _ (by decide), ha _ (by decide), ha _ (by decide)⟩

theorem quiescent_ReferenceIdeal : Cert.quiescent_ReferenceIdeal (hReferenceIdeal := Cert.ReferenceIdeal.Gen.facts) := by
  intro m g _
  refine θ_run_mono (RefRun.run m g) ?_
  intro r h
  refine ⟨fun c => ?_, h.2⟩
  have ha := (h.1 c).2.2
  exact ⟨ha _ (by decide), ha _ (by decide), ha _ (by decide), ha _ (by decide), ha _ (by decide), ha _ (by decide), ha _ (by decide), ha _ (by decide), ha _ (by decide), ha _ (by decide)⟩

end Cert.Proof.Frames

end
-- ==== Proof.Agree.lean ====
/-
  The unit vectors of both programs by their arguments, stretch after stretch.
-/
module

public import proofs.«01_k».proof.Proof.Encode
public import proofs.«01_k».proof.Proof.Frames

@[expose] public section

noncomputable section

namespace Cert.Proof.Agree

open Idealize.ShloMosaic Idealize.ShloMosaic.StableHlo
open Idealize.ShloMosaic.TcCoe
open Cert.Proof.Encode

section Prefixes

variable {τ : Topo} {sig : RefSig} {F : FTy → Type}

/-- The contents after the first n stretches. -/
def upto (items : List (List (HloOp τ sig (Elt F)))) (V : Valuation τ sig (Elt F)) (n : ℕ) : Valuation τ sig (Elt F) := afterL (items.take n) V

theorem afterL_append' (a b : List (List (HloOp τ sig (Elt F)))) (V : Valuation τ sig (Elt F)) : afterL (a ++ b) V = afterL b (afterL a V) := by
  induction a generalizing V with
  | nil => rfl
  | cons o a ih => exact ih (after o V)

theorem afterL_kept {b : DevRef τ sig} : ∀ (items : List (List (HloOp τ sig (Elt F)))) (_ : ∀ l ∈ items, ∀ op ∈ l, b ∉ op.writes) (V : Valuation τ sig (Elt F)),
    afterL items V b = V b
  | [], _, _ => rfl
  | o :: items, h, V => (afterL_kept items (fun l hl => h l (List.mem_cons_of_mem _ hl)) (after o V)).trans
      (after_of_forall_not_mem o V (h o List.mem_cons_self))

/-- Between two stretches a buffer stays that none between them writes. -/
theorem upto_kept {b : DevRef τ sig} (items : List (List (HloOp τ sig (Elt F)))) (V : Valuation τ sig (Elt F)) (i n : ℕ)
    (h : ∀ l ∈ (items.drop i).take n, ∀ op ∈ l, b ∉ op.writes) : upto items V (i + n) b = upto items V i b := by
  unfold upto
  rw [List.take_add, afterL_append', afterL_kept _ h]

end Prefixes

theorem step_of {p x : FVec Ideal Cert.KernelIdeal.S5000x28 .f32} {f : FVec Ideal Cert.KernelIdeal.S28 .f32} (hp : p = x) (hf : f = speeds) :
    remainder (advance p f) turn = step x := by
  subst hp
  subst hf
  rfl

theorem phases_of {d d' w w' b b' v v' c c'} (hd : d = d') (hw : w = w') (hb : b = b') (hv : v = v') (hc : c = c') :
    phases d w b v c = phases d' w' b' v' c' := by
  subst hd hw hb hv hc
  rfl

/-- Five steps. -/
def moved (p : FVec Ideal Cert.KernelIdeal.S5000x28 .f32) : FVec Ideal Cert.KernelIdeal.S5000x28 .f32 := step (step (step (step (step p))))

namespace K

open Cert.KernelIdeal Cert.KernelIdeal.Gen Cert.Proof.Host

variable (V : Valuation τ sig (Elt Ideal))

abbrev at' (n : ℕ) : Valuation τ sig (Elt Ideal) := upto (pieces (F := Ideal)) V n

set_option maxRecDepth 100000 in
theorem keep_v3 : ∀ l ∈ ((pieces (F := Ideal)).drop 1).take 17, ∀ op ∈ l, (Proc.devRef .tc main_v3 : DevRef τ sig) ∉ op.writes := by
  refine List.forall_iff_forall_mem.mp ?_
  refine ⟨?_, ?_, ?_, ?_, ?_, ?_, ?_, ?_, ?_, ?_, ?_, ?_, ?_, ?_, ?_, ?_, ?_⟩ <;> decide

set_option maxRecDepth 100000 in
theorem keep_v13 : ∀ l ∈ ((pieces (F := Ideal)).drop 4).take 4, ∀ op ∈ l, (Proc.devRef .tc main_v13 : DevRef τ sig) ∉ op.writes := by
  refine List.forall_iff_forall_mem.mp ?_
  refine ⟨?_, ?_, ?_, ?_⟩ <;> decide

set_option maxRecDepth 100000 in
theorem keep_v23 : ∀ l ∈ ((pieces (F := Ideal)).drop 8).take 10, ∀ op ∈ l, (Proc.devRef .tc main_v23 : DevRef τ sig) ∉ op.writes := by
  refine List.forall_iff_forall_mem.mp ?_
  refine ⟨?_, ?_, ?_, ?_, ?_, ?_, ?_, ?_, ?_, ?_⟩ <;> decide

theorem v3 (n : ℕ) (hn : n ≤ 17) : at' V (1 + n) (Proc.devRef .tc main_v3) = speeds := by
  refine (upto_kept (pieces (F := Ideal)) V 1 n fun l hl => keep_v3 l ?_).trans (Encode.K.speeds_eq V)
  exact List.take_subset_take_left _ hn hl

theorem arg {a : Ref sig .tc} (h : a ∈ Frames.args) (n : ℕ) : at' V n (Proc.devRef .tc a) = V (Proc.devRef .tc a) :=
  afterL_kept _ (fun l hl op hop => Frames.before_keeps l (List.mem_of_mem_take hl) op hop a h) V

/-- The phases of the detections, the first ones' and the second ones'. -/
abbrev pa : FVec Ideal S5000x28 .f32 :=
  phases (V (Proc.devRef .tc main_arg0)) (V (Proc.devRef .tc main_arg2)) (V (Proc.devRef .tc main_arg3)) (V (Proc.devRef .tc main_arg4)) (V (Proc.devRef .tc main_arg5))
abbrev pb : FVec Ideal S5000x28 .f32 :=
  phases (V (Proc.devRef .tc main_arg1)) (V (Proc.devRef .tc main_arg2)) (V (Proc.devRef .tc main_arg3)) (V (Proc.devRef .tc main_arg4)) (V (Proc.devRef .tc main_arg5))

theorem v13 : at' V 8 (Proc.devRef .tc main_v13) = pa V :=
  (upto_kept (pieces (F := Ideal)) V 4 4 keep_v13).trans (Encode.K.phasesA V)

theorem v23 : at' V 18 (Proc.devRef .tc main_v23) = pb V :=
  (upto_kept (pieces (F := Ideal)) V 8 10 keep_v23).trans ((Encode.K.phasesB (at' V 4)).trans
    (phases_of (arg V (by decide) 4) (arg V (by decide) 4) (arg V (by decide) 4) (arg V (by decide) 4) (arg V (by decide) 4)))

theorem v31 : at' V 10 (Proc.devRef .tc main_v31) = step (pa V) := (Encode.K.step1 (at' V 8)).trans (step_of (v13 V) (v3 V 7 (by decide)))
theorem v39 : at' V 12 (Proc.devRef .tc main_v39) = step (step (pa V)) := (Encode.K.step2 (at' V 10)).trans (step_of (v31 V) (v3 V 9 (by decide)))
theorem v47 : at' V 14 (Proc.devRef .tc main_v47) = step (step (step (pa V))) := (Encode.K.step3 (at' V 12)).trans (step_of (v39 V) (v3 V 11 (by decide)))
theorem v55 : at' V 16 (Proc.devRef .tc main_v55) = step (step (step (step (pa V)))) := (Encode.K.step4 (at' V 14)).trans (step_of (v47 V) (v3 V 13 (by decide)))
theorem v63 : at' V 18 (Proc.devRef .tc main_v63) = moved (pa V) := (Encode.K.step5 (at' V 16)).trans (step_of (v55 V) (v3 V 15 (by decide)))

theorem before_eq : after (before (F := Ideal)) V = after (units (F := Ideal)) (at' V 18) := (afterL_eq_after_flatten (pieces (F := Ideal)) V).symm

theorem ra : after (before (F := Ideal)) V (Proc.devRef .tc main_v75) = unitRe (moved (pa V)) :=
  (congrFun (before_eq V) _).trans ((Encode.K.units_ra (at' V 18)).trans (congrArg unitRe (v63 V)))
theorem ia : after (before (F := Ideal)) V (Proc.devRef .tc main_v77) = unitIm (moved (pa V)) :=
  (congrFun (before_eq V) _).trans ((Encode.K.units_ia (at' V 18)).trans (congrArg unitIm (v63 V)))
theorem rb : after (before (F := Ideal)) V (Proc.devRef .tc main_v89) = unitRe (pb V) :=
  (congrFun (before_eq V) _).trans ((Encode.K.units_rb (at' V 18)).trans (congrArg unitRe (v23 V)))
theorem ib : after (before (F := Ideal)) V (Proc.devRef .tc main_v91) = unitIm (pb V) :=
  (congrFun (before_eq V) _).trans ((Encode.K.units_ib (at' V 18)).trans (congrArg unitIm (v23 V)))

end K

namespace R

open Cert.ReferenceIdeal Cert.ReferenceIdeal.Gen Cert.ReferenceIdeal.Value Cert.Proof.RefEntry

variable (V : Valuation τ sig (Elt Ideal))

abbrev at' (n : ℕ) : Valuation τ sig (Elt Ideal) := upto (preI (F := Ideal)) V n

set_option maxRecDepth 100000 in
theorem keep_v3 : ∀ l ∈ ((preI (F := Ideal)).drop 1).take 25, ∀ op ∈ l, (Proc.devRef .tc main_v3 : DevRef τ sig) ∉ op.writes := by
  refine List.forall_iff_forall_mem.mp ?_
  refine ⟨?_, ?_, ?_, ?_, ?_, ?_, ?_, ?_, ?_, ?_, ?_, ?_, ?_, ?_, ?_, ?_, ?_, ?_, ?_, ?_, ?_, ?_, ?_, ?_, ?_⟩ <;> decide

set_option maxRecDepth 100000 in
theorem keep_v13 : ∀ l ∈ ((preI (F := Ideal)).drop 4).take 12, ∀ op ∈ l, (Proc.devRef .tc main_v13 : DevRef τ sig) ∉ op.writes := by
  refine List.forall_iff_forall_mem.mp ?_
  refine ⟨?_, ?_, ?_, ?_, ?_, ?_, ?_, ?_, ?_, ?_, ?_, ?_⟩ <;> decide

set_option maxRecDepth 100000 in
theorem keep_v33 : ∀ l ∈ ((preI (F := Ideal)).drop 12).take 14, ∀ op ∈ l, (Proc.devRef .tc main_v33 : DevRef τ sig) ∉ op.writes := by
  refine List.forall_iff_forall_mem.mp ?_
  refine ⟨?_, ?_, ?_, ?_, ?_, ?_, ?_, ?_, ?_, ?_, ?_, ?_, ?_, ?_⟩ <;> decide

theorem v3 (n : ℕ) (hn : n ≤ 25) : at' V (1 + n) (Proc.devRef .tc main_v3) = speeds := by
  refine (upto_kept (preI (F := Ideal)) V 1 n fun l hl => keep_v3 l ?_).trans (Encode.R.speeds_eq V)
  exact List.take_subset_take_left _ hn hl

theorem arg {a : Ref sig .tc} (h : a ∈ RefRun.args) (n : ℕ) : at' V n (Proc.devRef .tc a) = V (Proc.devRef .tc a) :=
  RefRun.afterL_keeps (fun l hl => RefRun.pre_keeps h l (List.mem_of_mem_take hl)) V

abbrev pa : FVec Ideal S5000x28 .f32 :=
  phases (V (Proc.devRef .tc main_arg0)) (V (Proc.devRef .tc main_arg2)) (V (Proc.devRef .tc main_arg3)) (V (Proc.devRef .tc main_arg4)) (V (Proc.devRef .tc main_arg5))
abbrev pb : FVec Ideal S5000x28 .f32 :=
  phases (V (Proc.devRef .tc main_arg1)) (V (Proc.devRef .tc main_arg2)) (V (Proc.devRef .tc main_arg3)) (V (Proc.devRef .tc main_arg4)) (V (Proc.devRef .tc main_arg5))

theorem v13 : at' V 16 (Proc.devRef .tc main_v13) = pa V :=
  (upto_kept (preI (F := Ideal)) V 4 12 keep_v13).trans (Encode.R.phasesA V)

theorem v33 : at' V 26 (Proc.devRef .tc main_v33) = pb V :=
  (upto_kept (preI (F := Ideal)) V 12 14 keep_v33).trans ((Encode.R.phasesB (at' V 8)).trans
    (phases_of (arg V (by decide) 8) (arg V (by decide) 8) (arg V (by decide) 8) (arg V (by decide) 8) (arg V (by decide) 8)))

theorem v51 : at' V 18 (Proc.devRef .tc main_v51) = step (pa V) := (Encode.R.step1 (at' V 16)).trans (step_of (v13 V) (v3 V 15 (by decide)))
theorem v59 : at' V 20 (Proc.devRef .tc main_v59) = step (step (pa V)) := (Encode.R.step2 (at' V 18)).trans (step_of (v51 V) (v3 V 17 (by decide)))
theorem v67 : at' V 22 (Proc.devRef .tc main_v67) = step (step (step (pa V))) := (Encode.R.step3 (at' V 20)).trans (step_of (v59 V) (v3 V 19 (by decide)))
theorem v75 : at' V 24 (Proc.devRef .tc main_v75) = step (step (step (step (pa V)))) := (Encode.R.step4 (at' V 22)).trans (step_of (v67 V) (v3 V 21 (by decide)))
theorem v83 : at' V 26 (Proc.devRef .tc main_v83) = moved (pa V) := (Encode.R.step5 (at' V 24)).trans (step_of (v75 V) (v3 V 23 (by decide)))

/-- What the stretches before the loop leave: the unit vectors, then the rest. -/
theorem pre_eq : afterL (preI (F := Ideal)) V = tail (after unitOps (at' V 26)) := rfl

/-- The reference's similarities by its arguments. -/
theorem sim_eq : simR (after unitOps (at' V 26)) = fun r c => Sim.simF (unitRe (moved (pa V))) (unitIm (moved (pa V))) (unitRe (pb V)) (unitIm (pb V)) r c := by
  unfold simR
  rw [Encode.R.units_ra (at' V 26), Encode.R.units_ia (at' V 26), Encode.R.units_rb (at' V 26), Encode.R.units_ib (at' V 26), v83, v33]

end R

end Cert.Proof.Agree

end
-- ==== Proof.Algebraic.lean ====
/-
  The idealized kernel computes what the idealized reference computes: the matches and the similarities.
-/
module

public import proofs.«01_k».proof.Proof.Agree

@[expose] public section

noncomputable section

namespace Cert.Proof.Algebraic

open Idealize.ShloMosaic Idealize.ShloMosaic.StableHlo
open Idealize.ShloMosaic.TcCoe
open Cert.Proof.Main Cert.Proof.Value Cert.Proof.Encode Cert.Proof.Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The similarities by the two phases. -/
def simOf (p q : FVec Ideal Cert.KernelIdeal.S5000x28 .f32) (r c : Fin 5000) : EReal :=
  Sim.simF (unitRe (moved p)) (unitIm (moved p)) (unitRe q) (unitIm q) r c

theorem sim_kernel (c : Dev Cert.KernelIdeal.nD) : Value.sim m c = simOf (Agree.K.pa (V0 m c)) (Agree.K.pb (V0 m c)) := by
  unfold Value.sim Sim.ra Sim.ia Sim.rb Sim.ib V1
  rw [Agree.K.ra, Agree.K.ia, Agree.K.rb, Agree.K.ib]
  rfl

/-- The reference's contents where its similarities are made. -/
abbrev U (c : Dev Cert.ReferenceIdeal.nD) : Valuation Cert.ReferenceIdeal.τ Cert.ReferenceIdeal.sig (Elt Ideal) :=
  after RefEntry.unitOps (Agree.R.at' (launchContents m' c) 26)

theorem sim_reference (c : Dev Cert.ReferenceIdeal.nD) :
    RefEntry.simR (U m' c) = simOf (Agree.R.pa (launchContents m' c)) (Agree.R.pb (launchContents m' c)) := Agree.R.sim_eq _

theorem reference_matches (c : Dev Cert.ReferenceIdeal.nD) :
    (Cert.ReferenceIdeal.Value.STEP^[5000] (RefRun.E m' c)) (Proc.devRef .tc Cert.ReferenceIdeal.main_v123_4)
      = (fun i : Cert.KernelIdeal.S5000.Idx => Order.match' (RefEntry.simR (U m' c)) (i 0)) :=
  RefLoop.matches_eq (RefHead.rk_ord _) (RefEntry.tail_inv (U m' c))

theorem reference_sims (c : Dev Cert.ReferenceIdeal.nD) :
    RefRun.E m' c (Proc.devRef .tc Cert.ReferenceIdeal.main_v116) = (fun i : Cert.KernelIdeal.S5000x5000.Idx => RefEntry.simR (U m' c) (i 0) (i 1)) :=
  RefEntry.tail_v116 (U m' c)

theorem kernel_sims (c : Dev Cert.KernelIdeal.nD) :
    V7 m c (Proc.devRef .tc Cert.KernelIdeal.main_v92_0) = (fun i : Cert.KernelIdeal.S5000x5000.Idx => Value.sim m c (i 0) (i 1)) :=
  (V7_keeps m c (by decide) (by decide) (by decide) (by decide) (by decide)).trans (V2_sims m c)

theorem algebraic : Cert.algebraic_KernelIdeal_ReferenceIdeal (hKernelIdeal := Cert.KernelIdeal.Gen.facts)
    (hReferenceIdeal := Cert.ReferenceIdeal.Gen.facts) := by
  intro m g m' g' _ hargs
  have hsim : ∀ c, RefEntry.simR (U m' c) = Value.sim m c := fun c => by
    obtain ⟨h0, h1, h2, h3, h4, h5, -⟩ := hargs c
    exact (sim_reference m' c).trans ((congrArg₂ simOf (phases_of h0 h2 h3 h4 h5) (phases_of h1 h2 h3 h4 h5)).trans (sim_kernel m c).symm)
  refine ⟨fun c => V7 m c (Proc.devRef .tc Cert.KernelIdeal.main_v107), fun c => V7 m c (Proc.devRef .tc Cert.KernelIdeal.main_v92_0), ?_, ?_⟩
  · refine θ_run_mono (Frames.run m g) ?_
    intro r h c
    obtain ⟨hm, hs, ha⟩ := h.1 c
    exact ⟨hm, hs, ha _ (by decide), ha _ (by decide), ha _ (by decide), ha _ (by decide), ha _ (by decide), ha _ (by decide), ha _ (by decide),
      ha _ (by decide), ha _ (by decide), ha _ (by decide)⟩
  · refine θ_run_mono (RefRun.run m' g') ?_
    intro r h c
    obtain ⟨hm, hs, ha⟩ := h.1 c
    refine ⟨hm.trans ((reference_matches m' c).trans ?_), hs.trans ((reference_sims m' c).trans ?_), ha _ (by decide), ha _ (by decide), ha _ (by decide),
      ha _ (by decide), ha _ (by decide), ha _ (by decide), ha _ (by decide), ha _ (by decide), ha _ (by decide), ha _ (by decide)⟩
    · rw [hsim c]
      exact (Value.matches_eq m c).symm
    · rw [hsim c]
      exact (kernel_sims m c).symm

end Cert.Proof.Algebraic

end
-- ==== Proof.lean ====
/-
  The claims: the two idealized programs leave their arguments and their semaphores, and compute the same results.
-/
module

public import proofs.«01_k».proof.Defs
public import proofs.«01_k».proof.Proof.Algebraic

@[expose] public section

noncomputable section

namespace Cert.Proof

theorem claim : Cert.Claim := ⟨Cert.KernelIdeal.Gen.facts, Cert.ReferenceIdeal.Gen.facts, Frames.quiescent_KernelIdeal, Frames.quiescent_ReferenceIdeal,
  Algebraic.algebraic⟩

end Cert.Proof

end
